-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v22)) (v4 : (c : Dev Cert.KernelIdeal.nD) → Buf (Elt Ideal) ((c.tc : Thread Cert.KernelIdeal.nD Cert.KernelIdeal.τ).loc Cert.KernelIdeal.main_v23)) (v5 : (c : Dev Cert.KernelIdeal.nD) → Buf (Elt Ideal) ((c.tc : Thread Cert.KernelIdeal.nD Cert.KernelIdeal.τ).loc Cert.KernelIdeal.main_v25)) (v6 : (c : Dev Cert.KernelIdeal.nD) → Buf (Elt Ideal) ((c.tc : Thread Cert.KernelIdeal.nD Cert.KernelIdeal.τ).loc Cert.KernelIdeal.main_v27)) (v7 : (c : Dev Cert.KernelIdeal.nD) → Buf (Elt Ideal) ((c.tc : Thread Cert.KernelIdeal.nD Cert.KernelIdeal.τ).loc Cert.KernelIdeal.main_v7)) (v8 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_v23) = v4 c
          ∧ r.2.mem ((c.tc : Thread Cert.KernelIdeal.nD Cert.KernelIdeal.τ).loc Cert.KernelIdeal.main_v25) = v5 c
          ∧ r.2.mem ((c.tc : Thread Cert.KernelIdeal.nD Cert.KernelIdeal.τ).loc Cert.KernelIdeal.main_v27) = v6 c
          ∧ r.2.mem ((c.tc : Thread Cert.KernelIdeal.nD Cert.KernelIdeal.τ).loc Cert.KernelIdeal.main_v7) = v7 c
          ∧ r.2.mem ((c.tc : Thread Cert.KernelIdeal.nD Cert.KernelIdeal.τ).loc Cert.KernelIdeal.main_v8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_v19) = v5 c
          ∧ r.2.mem ((c.tc : Thread Cert.ReferenceIdeal.nD Cert.ReferenceIdeal.τ).loc Cert.ReferenceIdeal.main_v21) = v6 c
          ∧ r.2.mem ((c.tc : Thread Cert.ReferenceIdeal.nD Cert.ReferenceIdeal.τ).loc Cert.ReferenceIdeal.main_v22) = v7 c
          ∧ r.2.mem ((c.tc : Thread Cert.ReferenceIdeal.nD Cert.ReferenceIdeal.τ).loc Cert.ReferenceIdeal.main_v23) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x6 : Shape := ⟨2, ![100000, 6]⟩
abbrev S100000x21x6 : Shape := ⟨3, ![100000, 21, 6]⟩
abbrev S100000x15x6 : Shape := ⟨3, ![100000, 15, 6]⟩
abbrev S100000x50 : Shape := ⟨2, ![100000, 50]⟩
abbrev S100000x3 : Shape := ⟨2, ![100000, 3]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x6 : Shape := ⟨2, ![4096, 6]⟩
abbrev S4096x21x6 : Shape := ⟨3, ![4096, 21, 6]⟩
abbrev S4096x15x6 : Shape := ⟨3, ![4096, 15, 6]⟩
abbrev S4096x50 : Shape := ⟨2, ![4096, 50]⟩
abbrev S4096x3 : Shape := ⟨2, ![4096, 3]⟩
abbrev S86016x6 : Shape := ⟨2, ![86016, 6]⟩
abbrev S61440x6 : Shape := ⟨2, ![61440, 6]⟩
abbrev S225280x6 : Shape := ⟨2, ![225280, 6]⟩
abbrev S6x225280 : Shape := ⟨2, ![6, 225280]⟩
abbrev S6x440x512 : Shape := ⟨3, ![6, 440, 512]⟩
abbrev S3x440x512 : Shape := ⟨3, ![3, 440, 512]⟩
abbrev S6x40x512 : Shape := ⟨3, ![6, 40, 512]⟩
abbrev S3x40x512 : Shape := ⟨3, ![3, 40, 512]⟩
abbrev S1x40x512 : Shape := ⟨3, ![1, 40, 512]⟩
abbrev S40x512 : Shape := ⟨2, ![40, 512]⟩
abbrev S3x225280 : Shape := ⟨2, ![3, 225280]⟩
abbrev S225280x3 : Shape := ⟨2, ![225280, 3]⟩
abbrev S86016x3 : Shape := ⟨2, ![86016, 3]⟩
abbrev S4096x21x3 : Shape := ⟨3, ![4096, 21, 3]⟩
abbrev S61440x3 : Shape := ⟨2, ![61440, 3]⟩
abbrev S4096x15x3 : Shape := ⟨3, ![4096, 15, 3]⟩

abbrev nBuf : Space → Nat
  | .hbm => 237
  | .vmem => 4
  | .smem => 0
  | _ => 0

abbrev hbmTy0_0 (i : Nat) : BufTy := match i % 128 with
  | 0 => ⟨S100000x6, .f32⟩
  | 1 => ⟨S100000x21x6, .f32⟩
  | 2 => ⟨S100000x6, .f32⟩
  | 3 => ⟨S100000x6, .f32⟩
  | 4 => ⟨S100000x6, .f32⟩
  | 5 => ⟨S100000x15x6, .f32⟩
  | 6 => ⟨S100000x15x6, .f32⟩
  | 7 => ⟨S100000x50, .f32⟩
  | 8 => ⟨S100000x3, .f32⟩
  | 9 => ⟨S4096, .i32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S1, .i32⟩
  | 20 => ⟨S_, .i32⟩
  | 21 => ⟨S4096x1, .i32⟩
  | 22 => ⟨S4096x1, .i1⟩
  | 23 => ⟨S1x1, .i32⟩
  | 24 => ⟨S4096x1, .i32⟩
  | 25 => ⟨S4096x1, .i1⟩
  | 26 => ⟨S4096x1, .i1⟩
  | 27 => ⟨S_, .i1⟩
  | 28 => ⟨S4096, .i1⟩
  | 29 => ⟨S4096x6, .f32⟩
  | 30 => ⟨S4096x6, .i1⟩
  | 31 => ⟨S_, .f32⟩
  | 32 => ⟨S4096x6, .f32⟩
  | 33 => ⟨S4096x6, .f32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S4096x1, .i32⟩
  | 42 => ⟨S1, .i32⟩
  | 43 => ⟨S_, .i32⟩
  | 44 => ⟨S4096x1, .i32⟩
  | 45 => ⟨S4096x1, .i1⟩
  | 46 => ⟨S1x1, .i32⟩
  | 47 => ⟨S4096x1, .i32⟩
  | 48 => ⟨S4096x1, .i1⟩
  | 49 => ⟨S4096x1, .i1⟩
  | 50 => ⟨S_, .i1⟩
  | 51 => ⟨S4096, .i1⟩
  | 52 => ⟨S4096x21x6, .f32⟩
  | 53 => ⟨S4096x21x6, .i1⟩
  | 54 => ⟨S_, .f32⟩
  | 55 => ⟨S4096x21x6, .f32⟩
  | 56 => ⟨S4096x21x6, .f32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S4096x1, .i32⟩
  | 65 => ⟨S1, .i32⟩
  | 66 => ⟨S_, .i32⟩
  | 67 => ⟨S4096x1, .i32⟩
  | 68 => ⟨S4096x1, .i1⟩
  | 69 => ⟨S1x1, .i32⟩
  | 70 => ⟨S4096x1, .i32⟩
  | 71 => ⟨S4096x1, .i1⟩
  | 72 => ⟨S4096x1, .i1⟩
  | 73 => ⟨S_, .i1⟩
  | 74 => ⟨S4096, .i1⟩
  | 75 => ⟨S4096x6, .f32⟩
  | 76 => ⟨S4096x6, .i1⟩
  | 77 => ⟨S_, .f32⟩
  | 78 => ⟨S4096x6, .f32⟩
  | 79 => ⟨S4096x6, .f32⟩
  | 80 => ⟨S_, .i32⟩
  | 81 => ⟨S4096, .i32⟩
  | 82 => ⟨S4096, .i1⟩
  | 83 => ⟨S_, .i32⟩
  | 84 => ⟨S4096, .i32⟩
  | 85 => ⟨S4096, .i32⟩
  | 86 => ⟨S4096, .i32⟩
  | 87 => ⟨S4096x1, .i32⟩
  | 88 => ⟨S1, .i32⟩
  | 89 => ⟨S_, .i32⟩
  | 90 => ⟨S4096x1, .i32⟩
  | 91 => ⟨S4096x1, .i1⟩
  | 92 => ⟨S1x1, .i32⟩
  | 93 => ⟨S4096x1, .i32⟩
  | 94 => ⟨S4096x1, .i1⟩
  | 95 => ⟨S4096x1, .i1⟩
  | 96 => ⟨S_, .i1⟩
  | 97 => ⟨S4096, .i1⟩
  | 98 => ⟨S4096x6, .f32⟩
  | 99 => ⟨S4096x6, .i1⟩
  | 100 => ⟨S_, .f32⟩
  | 101 => ⟨S4096x6, .f32⟩
  | 102 => ⟨S4096x6, .f32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S4096x1, .i32⟩
  | 111 => ⟨S1, .i32⟩
  | 112 => ⟨S_, .i32⟩
  | 113 => ⟨S4096x1, .i32⟩
  | 114 => ⟨S4096x1, .i1⟩
  | 115 => ⟨S1x1, .i32⟩
  | 116 => ⟨S4096x1, .i32⟩
  | 117 => ⟨S4096x1, .i1⟩
  | 118 => ⟨S4096x1, .i1⟩
  | 119 => ⟨S_, .i1⟩
  | 120 => ⟨S4096, .i1⟩
  | 121 => ⟨S4096x6, .f32⟩
  | 122 => ⟨S4096x6, .i1⟩
  | 123 => ⟨S_, .f32⟩
  | 124 => ⟨S4096x6, .f32⟩
  | 125 => ⟨S4096x6, .f32⟩
  | 126 => ⟨S_, .i32⟩
  | 127 => ⟨S4096, .i32⟩
  | _ => ⟨S100000x6, .f32⟩

abbrev hbmTy0_1 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S1, .i32⟩
  | 7 => ⟨S_, .i32⟩
  | 8 => ⟨S4096x1, .i32⟩
  | 9 => ⟨S4096x1, .i1⟩
  | 10 => ⟨S1x1, .i32⟩
  | 11 => ⟨S4096x1, .i32⟩
  | 12 => ⟨S4096x1, .i1⟩
  | 13 => ⟨S4096x1, .i1⟩
  | 14 => ⟨S_, .i1⟩
  | 15 => ⟨S4096, .i1⟩
  | 16 => ⟨S4096x15x6, .f32⟩
  | 17 => ⟨S4096x15x6, .i1⟩
  | 18 => ⟨S_, .f32⟩
  | 19 => ⟨S4096x15x6, .f32⟩
  | 20 => ⟨S4096x15x6, .f32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S1, .i32⟩
  | 30 => ⟨S_, .i32⟩
  | 31 => ⟨S4096x1, .i32⟩
  | 32 => ⟨S4096x1, .i1⟩
  | 33 => ⟨S1x1, .i32⟩
  | 34 => ⟨S4096x1, .i32⟩
  | 35 => ⟨S4096x1, .i1⟩
  | 36 => ⟨S4096x1, .i1⟩
  | 37 => ⟨S_, .i1⟩
  | 38 => ⟨S4096, .i1⟩
  | 39 => ⟨S4096x15x6, .f32⟩
  | 40 => ⟨S4096x15x6, .i1⟩
  | 41 => ⟨S_, .f32⟩
  | 42 => ⟨S4096x15x6, .f32⟩
  | 43 => ⟨S4096x15x6, .f32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S4096x1, .i32⟩
  | 52 => ⟨S1, .i32⟩
  | 53 => ⟨S_, .i32⟩
  | 54 => ⟨S4096x1, .i32⟩
  | 55 => ⟨S4096x1, .i1⟩
  | 56 => ⟨S1x1, .i32⟩
  | 57 => ⟨S4096x1, .i32⟩
  | 58 => ⟨S4096x1, .i1⟩
  | 59 => ⟨S4096x1, .i1⟩
  | 60 => ⟨S_, .i1⟩
  | 61 => ⟨S4096, .i1⟩
  | 62 => ⟨S4096x50, .f32⟩
  | 63 => ⟨S4096x50, .i1⟩
  | 64 => ⟨S_, .f32⟩
  | 65 => ⟨S4096x50, .f32⟩
  | 66 => ⟨S4096x50, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S1, .i32⟩
  | 76 => ⟨S_, .i32⟩
  | 77 => ⟨S4096x1, .i32⟩
  | 78 => ⟨S4096x1, .i1⟩
  | 79 => ⟨S1x1, .i32⟩
  | 80 => ⟨S4096x1, .i32⟩
  | 81 => ⟨S4096x1, .i1⟩
  | 82 => ⟨S4096x1, .i1⟩
  | 83 => ⟨S_, .i1⟩
  | 84 => ⟨S4096, .i1⟩
  | 85 => ⟨S4096x3, .f32⟩
  | 86 => ⟨S4096x3, .i1⟩
  | 87 => ⟨S_, .f32⟩
  | 88 => ⟨S4096x3, .f32⟩
  | 89 => ⟨S4096x3, .f32⟩
  | 90 => ⟨S86016x6, .f32⟩
  | 91 => ⟨S61440x6, .f32⟩
  | 92 => ⟨S61440x6, .f32⟩
  | 93 => ⟨S225280x6, .f32⟩
  | 94 => ⟨S6x225280, .f32⟩
  | 95 => ⟨S6x440x512, .f32⟩
  | 96 => ⟨S3x440x512, .f32⟩
  | 97 => ⟨S3x225280, .f32⟩
  | 98 => ⟨S225280x3, .f32⟩
  | 99 => ⟨S4096x3, .f32⟩
  | 100 => ⟨S86016x3, .f32⟩
  | 101 => ⟨S4096x21x3, .f32⟩
  | 102 => ⟨S4096x3, .f32⟩
  | 103 => ⟨S4096x3, .f32⟩
  | 104 => ⟨S4096x3, .f32⟩
  | 105 => ⟨S61440x3, .f32⟩
  | 106 => ⟨S4096x15x3, .f32⟩
  | 107 => ⟨S61440x3, .f32⟩
  | 108 => ⟨S4096x15x3, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | .local _ .vmem, ⟨0, _⟩ => ⟨S6x40x512, .f32⟩
  | .local _ .vmem, ⟨1, _⟩ => ⟨S6x40x512, .f32⟩
  | .local _ .vmem, ⟨2, _⟩ => ⟨S3x40x512, .f32⟩
  | .local _ .vmem, ⟨3, _⟩ => ⟨S3x40x512, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v2 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v3 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_v14 : Ref sig .tc := ⟨.hbm, 122, rfl⟩
abbrev main_call4_cst : Ref sig .tc := ⟨.hbm, 123, rfl⟩
abbrev main_call4_v15 : Ref sig .tc := ⟨.hbm, 124, rfl⟩
abbrev main_v4 : Ref sig .tc := ⟨.hbm, 125, rfl⟩
abbrev main_call5_c : Ref sig .tc := ⟨.hbm, 126, rfl⟩
abbrev main_call5_v0 : Ref sig .tc := ⟨.hbm, 127, rfl⟩
abbrev main_call5_v1 : Ref sig .tc := ⟨.hbm, 128, rfl⟩
abbrev main_call5_c_0 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_c_1 : Ref sig .tc := ⟨.hbm, 134, rfl⟩
abbrev main_call5_c_2 : Ref sig .tc := ⟨.hbm, 135, rfl⟩
abbrev main_call5_v6 : Ref sig .tc := ⟨.hbm, 136, rfl⟩
abbrev main_call5_v7 : Ref sig .tc := ⟨.hbm, 137, rfl⟩
abbrev main_call5_v8 : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_3 : Ref sig .tc := ⟨.hbm, 142, rfl⟩
abbrev main_call5_v12 : Ref sig .tc := ⟨.hbm, 143, rfl⟩
abbrev main_call5_v13 : Ref sig .tc := ⟨.hbm, 144, rfl⟩
abbrev main_call5_v14 : Ref sig .tc := ⟨.hbm, 145, rfl⟩
abbrev main_call5_cst : Ref sig .tc := ⟨.hbm, 146, rfl⟩
abbrev main_call5_v15 : Ref sig .tc := ⟨.hbm, 147, rfl⟩
abbrev main_v5 : Ref sig .tc := ⟨.hbm, 148, rfl⟩
abbrev main_call6_c : Ref sig .tc := ⟨.hbm, 149, rfl⟩
abbrev main_call6_v0 : Ref sig .tc := ⟨.hbm, 150, rfl⟩
abbrev main_call6_v1 : Ref sig .tc := ⟨.hbm, 151, rfl⟩
abbrev main_call6_c_0 : Ref sig .tc := ⟨.hbm, 152, rfl⟩
abbrev main_call6_v2 : Ref sig .tc := ⟨.hbm, 153, rfl⟩
abbrev main_call6_v3 : Ref sig .tc := ⟨.hbm, 154, rfl⟩
abbrev main_call6_v4 : Ref sig .tc := ⟨.hbm, 155, rfl⟩
abbrev main_call6_v5 : Ref sig .tc := ⟨.hbm, 156, rfl⟩
abbrev main_call6_c_1 : Ref sig .tc := ⟨.hbm, 157, rfl⟩
abbrev main_call6_c_2 : Ref sig .tc := ⟨.hbm, 158, rfl⟩
abbrev main_call6_v6 : Ref sig .tc := ⟨.hbm, 159, rfl⟩
abbrev main_call6_v7 : Ref sig .tc := ⟨.hbm, 160, rfl⟩
abbrev main_call6_v8 : Ref sig .tc := ⟨.hbm, 161, rfl⟩
abbrev main_call6_v9 : Ref sig .tc := ⟨.hbm, 162, rfl⟩
abbrev main_call6_v10 : Ref sig .tc := ⟨.hbm, 163, rfl⟩
abbrev main_call6_v11 : Ref sig .tc := ⟨.hbm, 164, rfl⟩
abbrev main_call6_c_3 : Ref sig .tc := ⟨.hbm, 165, rfl⟩
abbrev main_call6_v12 : Ref sig .tc := ⟨.hbm, 166, rfl⟩
abbrev main_call6_v13 : Ref sig .tc := ⟨.hbm, 167, rfl⟩
abbrev main_call6_v14 : Ref sig .tc := ⟨.hbm, 168, rfl⟩
abbrev main_call6_cst : Ref sig .tc := ⟨.hbm, 169, rfl⟩
abbrev main_call6_v15 : Ref sig .tc := ⟨.hbm, 170, rfl⟩
abbrev main_v6 : Ref sig .tc := ⟨.hbm, 171, rfl⟩
abbrev main_call7_c : Ref sig .tc := ⟨.hbm, 172, rfl⟩
abbrev main_call7_v0 : Ref sig .tc := ⟨.hbm, 173, rfl⟩
abbrev main_call7_v1 : Ref sig .tc := ⟨.hbm, 174, rfl⟩
abbrev main_call7_c_0 : Ref sig .tc := ⟨.hbm, 175, rfl⟩
abbrev main_call7_v2 : Ref sig .tc := ⟨.hbm, 176, rfl⟩
abbrev main_call7_v3 : Ref sig .tc := ⟨.hbm, 177, rfl⟩
abbrev main_call7_v4 : Ref sig .tc := ⟨.hbm, 178, rfl⟩
abbrev main_call7_v5 : Ref sig .tc := ⟨.hbm, 179, rfl⟩
abbrev main_call7_c_1 : Ref sig .tc := ⟨.hbm, 180, rfl⟩
abbrev main_call7_c_2 : Ref sig .tc := ⟨.hbm, 181, rfl⟩
abbrev main_call7_v6 : Ref sig .tc := ⟨.hbm, 182, rfl⟩
abbrev main_call7_v7 : Ref sig .tc := ⟨.hbm, 183, rfl⟩
abbrev main_call7_v8 : Ref sig .tc := ⟨.hbm, 184, rfl⟩
abbrev main_call7_v9 : Ref sig .tc := ⟨.hbm, 185, rfl⟩
abbrev main_call7_v10 : Ref sig .tc := ⟨.hbm, 186, rfl⟩
abbrev main_call7_v11 : Ref sig .tc := ⟨.hbm, 187, rfl⟩
abbrev main_call7_c_3 : Ref sig .tc := ⟨.hbm, 188, rfl⟩
abbrev main_call7_v12 : Ref sig .tc := ⟨.hbm, 189, rfl⟩
abbrev main_call7_v13 : Ref sig .tc := ⟨.hbm, 190, rfl⟩
abbrev main_call7_v14 : Ref sig .tc := ⟨.hbm, 191, rfl⟩
abbrev main_call7_cst : Ref sig .tc := ⟨.hbm, 192, rfl⟩
abbrev main_call7_v15 : Ref sig .tc := ⟨.hbm, 193, rfl⟩
abbrev main_v7 : Ref sig .tc := ⟨.hbm, 194, rfl⟩
abbrev main_call8_c : Ref sig .tc := ⟨.hbm, 195, rfl⟩
abbrev main_call8_v0 : Ref sig .tc := ⟨.hbm, 196, rfl⟩
abbrev main_call8_v1 : Ref sig .tc := ⟨.hbm, 197, rfl⟩
abbrev main_call8_c_0 : Ref sig .tc := ⟨.hbm, 198, rfl⟩
abbrev main_call8_v2 : Ref sig .tc := ⟨.hbm, 199, rfl⟩
abbrev main_call8_v3 : Ref sig .tc := ⟨.hbm, 200, rfl⟩
abbrev main_call8_v4 : Ref sig .tc := ⟨.hbm, 201, rfl⟩
abbrev main_call8_v5 : Ref sig .tc := ⟨.hbm, 202, rfl⟩
abbrev main_call8_c_1 : Ref sig .tc := ⟨.hbm, 203, rfl⟩
abbrev main_call8_c_2 : Ref sig .tc := ⟨.hbm, 204, rfl⟩
abbrev main_call8_v6 : Ref sig .tc := ⟨.hbm, 205, rfl⟩
abbrev main_call8_v7 : Ref sig .tc := ⟨.hbm, 206, rfl⟩
abbrev main_call8_v8 : Ref sig .tc := ⟨.hbm, 207, rfl⟩
abbrev main_call8_v9 : Ref sig .tc := ⟨.hbm, 208, rfl⟩
abbrev main_call8_v10 : Ref sig .tc := ⟨.hbm, 209, rfl⟩
abbrev main_call8_v11 : Ref sig .tc := ⟨.hbm, 210, rfl⟩
abbrev main_call8_c_3 : Ref sig .tc := ⟨.hbm, 211, rfl⟩
abbrev main_call8_v12 : Ref sig .tc := ⟨.hbm, 212, rfl⟩
abbrev main_call8_v13 : Ref sig .tc := ⟨.hbm, 213, rfl⟩
abbrev main_call8_v14 : Ref sig .tc := ⟨.hbm, 214, rfl⟩
abbrev main_call8_cst : Ref sig .tc := ⟨.hbm, 215, rfl⟩
abbrev main_call8_v15 : Ref sig .tc := ⟨.hbm, 216, rfl⟩
abbrev main_v8 : Ref sig .tc := ⟨.hbm, 217, rfl⟩
abbrev main_v9 : Ref sig .tc := ⟨.hbm, 218, rfl⟩
abbrev main_v10 : Ref sig .tc := ⟨.hbm, 219, rfl⟩
abbrev main_v11 : Ref sig .tc := ⟨.hbm, 220, rfl⟩
abbrev main_v12 : Ref sig .tc := ⟨.hbm, 221, rfl⟩
abbrev main_v13 : Ref sig .tc := ⟨.hbm, 222, rfl⟩
abbrev main_v14 : Ref sig .tc := ⟨.hbm, 223, rfl⟩
abbrev main_v15 : Ref sig .tc := ⟨.hbm, 224, rfl⟩
abbrev main_v16 : Ref sig .tc := ⟨.hbm, 225, rfl⟩
abbrev main_v17 : Ref sig .tc := ⟨.hbm, 226, rfl⟩
abbrev main_v18 : Ref sig .tc := ⟨.hbm, 227, rfl⟩
abbrev main_v19 : Ref sig .tc := ⟨.hbm, 228, rfl⟩
abbrev main_v20 : Ref sig .tc := ⟨.hbm, 229, rfl⟩
abbrev main_v21 : Ref sig .tc := ⟨.hbm, 230, rfl⟩
abbrev main_v22 : Ref sig .tc := ⟨.hbm, 231, rfl⟩
abbrev main_v23 : Ref sig .tc := ⟨.hbm, 232, rfl⟩
abbrev main_v24 : Ref sig .tc := ⟨.hbm, 233, rfl⟩
abbrev main_v25 : Ref sig .tc := ⟨.hbm, 234, rfl⟩
abbrev main_v26 : Ref sig .tc := ⟨.hbm, 235, rfl⟩
abbrev main_v27 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S6x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x40x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S100000x6 : Shape := ⟨2, ![100000, 6]⟩
abbrev S100000x21x6 : Shape := ⟨3, ![100000, 21, 6]⟩
abbrev S100000x15x6 : Shape := ⟨3, ![100000, 15, 6]⟩
abbrev S100000x50 : Shape := ⟨2, ![100000, 50]⟩
abbrev S100000x3 : Shape := ⟨2, ![100000, 3]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x6 : Shape := ⟨2, ![4096, 6]⟩
abbrev S4096x1x6 : Shape := ⟨3, ![4096, 1, 6]⟩
abbrev S4096x1x3 : Shape := ⟨3, ![4096, 1, 3]⟩
abbrev S4096x1x1 : Shape := ⟨3, ![4096, 1, 1]⟩
abbrev S4096x1x1x3 : Shape := ⟨4, ![4096, 1, 1, 3]⟩
abbrev S4096x1x3x3 : Shape := ⟨4, ![4096, 1, 3, 3]⟩
abbrev S4096x1x1x1 : Shape := ⟨4, ![4096, 1, 1, 1]⟩
abbrev S4096x1x4 : Shape := ⟨3, ![4096, 1, 4]⟩
abbrev S4096x1x1x4 : Shape := ⟨4, ![4096, 1, 1, 4]⟩
abbrev S4096x1x4x4 : Shape := ⟨4, ![4096, 1, 4, 4]⟩
abbrev S4096x1x4x1 : Shape := ⟨4, ![4096, 1, 4, 1]⟩
abbrev S1x1x1 : Shape := ⟨3, ![1, 1, 1]⟩
abbrev S4096x3 : Shape := ⟨2, ![4096, 3]⟩
abbrev S4096x21x6 : Shape := ⟨3, ![4096, 21, 6]⟩
abbrev S4096x21x3 : Shape := ⟨3, ![4096, 21, 3]⟩
abbrev S4096x21 : Shape := ⟨2, ![4096, 21]⟩
abbrev S4096x21x1 : Shape := ⟨3, ![4096, 21, 1]⟩
abbrev S4096x21x1x3 : Shape := ⟨4, ![4096, 21, 1, 3]⟩
abbrev S4096x21x3x3 : Shape := ⟨4, ![4096, 21, 3, 3]⟩
abbrev S4096x21x1x1 : Shape := ⟨4, ![4096, 21, 1, 1]⟩
abbrev S4096x21x4 : Shape := ⟨3, ![4096, 21, 4]⟩
abbrev S4096x21x1x4 : Shape := ⟨4, ![4096, 21, 1, 4]⟩
abbrev S4096x21x4x4 : Shape := ⟨4, ![4096, 21, 4, 4]⟩
abbrev S4096x21x4x1 : Shape := ⟨4, ![4096, 21, 4, 1]⟩
abbrev S1x1x1x1 : Shape := ⟨4, ![1, 1, 1, 1]⟩
abbrev S4096x15x6 : Shape := ⟨3, ![4096, 15, 6]⟩
abbrev S4096x15x3 : Shape := ⟨3, ![4096, 15, 3]⟩
abbrev S4096x15 : Shape := ⟨2, ![4096, 15]⟩
abbrev S4096x15x1 : Shape := ⟨3, ![4096, 15, 1]⟩
abbrev S4096x15x1x3 : Shape := ⟨4, ![4096, 15, 1, 3]⟩
abbrev S4096x15x3x3 : Shape := ⟨4, ![4096, 15, 3, 3]⟩
abbrev S4096x15x1x1 : Shape := ⟨4, ![4096, 15, 1, 1]⟩
abbrev S4096x15x4 : Shape := ⟨3, ![4096, 15, 4]⟩
abbrev S4096x15x1x4 : Shape := ⟨4, ![4096, 15, 1, 4]⟩
abbrev S4096x15x4x4 : Shape := ⟨4, ![4096, 15, 4, 4]⟩
abbrev S4096x15x4x1 : Shape := ⟨4, ![4096, 15, 4, 1]⟩
abbrev S4096x50 : Shape := ⟨2, ![4096, 50]⟩

abbrev nBuf : Space → Nat
  | .hbm => 1749
  | .vmem => 0
  | .smem => 0
  | _ => 0

abbrev hbmTy0_0 (i : Nat) : BufTy := match i % 128 with
  | 0 => ⟨S100000x6, .f32⟩
  | 1 => ⟨S100000x21x6, .f32⟩
  | 2 => ⟨S100000x6, .f32⟩
  | 3 => ⟨S100000x6, .f32⟩
  | 4 => ⟨S100000x6, .f32⟩
  | 5 => ⟨S100000x15x6, .f32⟩
  | 6 => ⟨S100000x15x6, .f32⟩
  | 7 => ⟨S100000x50, .f32⟩
  | 8 => ⟨S100000x3, .f32⟩
  | 9 => ⟨S4096, .i32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S1, .i32⟩
  | 20 => ⟨S_, .i32⟩
  | 21 => ⟨S4096x1, .i32⟩
  | 22 => ⟨S4096x1, .i1⟩
  | 23 => ⟨S1x1, .i32⟩
  | 24 => ⟨S4096x1, .i32⟩
  | 25 => ⟨S4096x1, .i1⟩
  | 26 => ⟨S4096x1, .i1⟩
  | 27 => ⟨S_, .i1⟩
  | 28 => ⟨S4096, .i1⟩
  | 29 => ⟨S4096x6, .f32⟩
  | 30 => ⟨S4096x6, .i1⟩
  | 31 => ⟨S_, .f32⟩
  | 32 => ⟨S4096x6, .f32⟩
  | 33 => ⟨S4096x6, .f32⟩
  | 34 => ⟨S4096x1x6, .f32⟩
  | 35 => ⟨S4096x1x3, .f32⟩
  | 36 => ⟨S4096x1x3, .f32⟩
  | 37 => ⟨S4096x1x3, .f32⟩
  | 38 => ⟨S_, .f32⟩
  | 39 => ⟨S4096x1, .f32⟩
  | 40 => ⟨S4096x1x1, .f32⟩
  | 41 => ⟨S4096x1x1, .f32⟩
  | 42 => ⟨S4096x1x3, .f32⟩
  | 43 => ⟨S4096x1x3, .f32⟩
  | 44 => ⟨S4096x1x3, .f32⟩
  | 45 => ⟨S_, .f32⟩
  | 46 => ⟨S4096x1, .f32⟩
  | 47 => ⟨S4096x1x1, .f32⟩
  | 48 => ⟨S4096x1x3, .f32⟩
  | 49 => ⟨S4096x1x3, .f32⟩
  | 50 => ⟨S4096x1x3, .f32⟩
  | 51 => ⟨S4096x1x3, .f32⟩
  | 52 => ⟨S_, .f32⟩
  | 53 => ⟨S4096x1, .f32⟩
  | 54 => ⟨S4096x1x1, .f32⟩
  | 55 => ⟨S4096x1x1, .f32⟩
  | 56 => ⟨S4096x1x3, .f32⟩
  | 57 => ⟨S4096x1x3, .f32⟩
  | 58 => ⟨S4096x1x1, .f32⟩
  | 59 => ⟨S4096x1, .f32⟩
  | 60 => ⟨S4096x1x1, .f32⟩
  | 61 => ⟨S4096x1, .f32⟩
  | 62 => ⟨S4096x1x1, .f32⟩
  | 63 => ⟨S4096x1, .f32⟩
  | 64 => ⟨S4096x1x1, .f32⟩
  | 65 => ⟨S4096x1, .f32⟩
  | 66 => ⟨S4096x1x1, .f32⟩
  | 67 => ⟨S4096x1, .f32⟩
  | 68 => ⟨S4096x1x1, .f32⟩
  | 69 => ⟨S4096x1, .f32⟩
  | 70 => ⟨S4096x1, .f32⟩
  | 71 => ⟨S4096x1, .f32⟩
  | 72 => ⟨S4096x1, .f32⟩
  | 73 => ⟨S4096x1, .f32⟩
  | 74 => ⟨S4096x1, .f32⟩
  | 75 => ⟨S4096x1, .f32⟩
  | 76 => ⟨S4096x1, .f32⟩
  | 77 => ⟨S4096x1, .f32⟩
  | 78 => ⟨S4096x1, .f32⟩
  | 79 => ⟨S4096x1x1, .f32⟩
  | 80 => ⟨S4096x1x1, .f32⟩
  | 81 => ⟨S4096x1x1, .f32⟩
  | 82 => ⟨S4096x1x3, .f32⟩
  | 83 => ⟨S4096x1x1x3, .f32⟩
  | 84 => ⟨S4096x1x1x3, .f32⟩
  | 85 => ⟨S4096x1x1x3, .f32⟩
  | 86 => ⟨S4096x1x3x3, .f32⟩
  | 87 => ⟨S4096x1x1x1, .f32⟩
  | 88 => ⟨S4096x1, .f32⟩
  | 89 => ⟨S4096x1x1x1, .f32⟩
  | 90 => ⟨S4096x1, .f32⟩
  | 91 => ⟨S4096x1x1x1, .f32⟩
  | 92 => ⟨S4096x1, .f32⟩
  | 93 => ⟨S4096x1x1x1, .f32⟩
  | 94 => ⟨S4096x1, .f32⟩
  | 95 => ⟨S4096x1x1x1, .f32⟩
  | 96 => ⟨S4096x1, .f32⟩
  | 97 => ⟨S4096x1x1x1, .f32⟩
  | 98 => ⟨S4096x1, .f32⟩
  | 99 => ⟨S4096x1x1x1, .f32⟩
  | 100 => ⟨S4096x1, .f32⟩
  | 101 => ⟨S4096x1x1x1, .f32⟩
  | 102 => ⟨S4096x1, .f32⟩
  | 103 => ⟨S4096x1x1x1, .f32⟩
  | 104 => ⟨S4096x1, .f32⟩
  | 105 => ⟨S_, .f32⟩
  | 106 => ⟨S4096x1, .f32⟩
  | 107 => ⟨S4096x1, .f32⟩
  | 108 => ⟨S4096x1, .f32⟩
  | 109 => ⟨S4096x1, .f32⟩
  | 110 => ⟨S_, .f32⟩
  | 111 => ⟨S4096x1, .f32⟩
  | 112 => ⟨S4096x1, .f32⟩
  | 113 => ⟨S4096x1, .f32⟩
  | 114 => ⟨S4096x1, .f32⟩
  | 115 => ⟨S_, .f32⟩
  | 116 => ⟨S4096x1, .f32⟩
  | 117 => ⟨S4096x1, .f32⟩
  | 118 => ⟨S4096x1, .f32⟩
  | 119 => ⟨S4096x1, .f32⟩
  | 120 => ⟨S_, .f32⟩
  | 121 => ⟨S4096x1, .f32⟩
  | 122 => ⟨S4096x1, .f32⟩
  | 123 => ⟨S4096x1, .f32⟩
  | 124 => ⟨S4096x1, .f32⟩
  | 125 => ⟨S4096x1x1, .f32⟩
  | 126 => ⟨S4096x1x1, .f32⟩
  | 127 => ⟨S4096x1x1, .f32⟩
  | _ => ⟨S100000x6, .f32⟩

abbrev hbmTy0_1 (i : Nat) : BufTy := match i % 128 with
  | 0 => ⟨S4096x1x1, .f32⟩
  | 1 => ⟨S4096x1x4, .f32⟩
  | 2 => ⟨S_, .f32⟩
  | 3 => ⟨S4096x1x4, .f32⟩
  | 4 => ⟨S4096x1x4, .f32⟩
  | 5 => ⟨S4096x1x4, .f32⟩
  | 6 => ⟨S4096x1x1, .f32⟩
  | 7 => ⟨S4096x1, .f32⟩
  | 8 => ⟨S4096x1, .f32⟩
  | 9 => ⟨S4096x1, .f32⟩
  | 10 => ⟨S4096x1, .f32⟩
  | 11 => ⟨S4096x1, .f32⟩
  | 12 => ⟨S4096x1x1, .f32⟩
  | 13 => ⟨S4096x1x1, .f32⟩
  | 14 => ⟨S4096x1x1, .f32⟩
  | 15 => ⟨S4096x1x1, .f32⟩
  | 16 => ⟨S4096x1x4, .f32⟩
  | 17 => ⟨S4096x1, .f32⟩
  | 18 => ⟨S4096x1x1, .f32⟩
  | 19 => ⟨S4096x1, .f32⟩
  | 20 => ⟨S4096x1, .f32⟩
  | 21 => ⟨S4096x1, .f32⟩
  | 22 => ⟨S4096x1, .f32⟩
  | 23 => ⟨S4096x1x1, .f32⟩
  | 24 => ⟨S4096x1x1, .f32⟩
  | 25 => ⟨S4096x1x1, .f32⟩
  | 26 => ⟨S4096x1x1, .f32⟩
  | 27 => ⟨S4096x1x4, .f32⟩
  | 28 => ⟨S4096x1, .f32⟩
  | 29 => ⟨S4096x1, .f32⟩
  | 30 => ⟨S4096x1x1, .f32⟩
  | 31 => ⟨S4096x1, .f32⟩
  | 32 => ⟨S4096x1, .f32⟩
  | 33 => ⟨S4096x1, .f32⟩
  | 34 => ⟨S4096x1x1, .f32⟩
  | 35 => ⟨S4096x1x1, .f32⟩
  | 36 => ⟨S4096x1x1, .f32⟩
  | 37 => ⟨S4096x1x1, .f32⟩
  | 38 => ⟨S4096x1x4, .f32⟩
  | 39 => ⟨S4096x1, .f32⟩
  | 40 => ⟨S4096x1, .f32⟩
  | 41 => ⟨S4096x1, .f32⟩
  | 42 => ⟨S4096x1x1, .f32⟩
  | 43 => ⟨S4096x1, .f32⟩
  | 44 => ⟨S4096x1, .f32⟩
  | 45 => ⟨S4096x1x1, .f32⟩
  | 46 => ⟨S4096x1x1, .f32⟩
  | 47 => ⟨S4096x1x1, .f32⟩
  | 48 => ⟨S4096x1x1, .f32⟩
  | 49 => ⟨S4096x1x4, .f32⟩
  | 50 => ⟨S4096x1x1x4, .f32⟩
  | 51 => ⟨S4096x1x1x4, .f32⟩
  | 52 => ⟨S4096x1x1x4, .f32⟩
  | 53 => ⟨S4096x1x1x4, .f32⟩
  | 54 => ⟨S4096x1x4x4, .f32⟩
  | 55 => ⟨S4096x1x4x1, .f32⟩
  | 56 => ⟨S_, .f32⟩
  | 57 => ⟨S4096x1x4x1, .f32⟩
  | 58 => ⟨S4096x1x4x1, .f32⟩
  | 59 => ⟨S_, .f32⟩
  | 60 => ⟨S4096x1x4x1, .f32⟩
  | 61 => ⟨S4096x1x4x1, .f32⟩
  | 62 => ⟨S4096x1x4x4, .f32⟩
  | 63 => ⟨S4096x1x4x4, .f32⟩
  | 64 => ⟨S4096x1x4, .i32⟩
  | 65 => ⟨S_, .f32⟩
  | 66 => ⟨S_, .i32⟩
  | 67 => ⟨S4096x1, .f32⟩
  | 68 => ⟨S4096x1, .i32⟩
  | 69 => ⟨S4096x1x1x1, .i32⟩
  | 70 => ⟨S_, .i32⟩
  | 71 => ⟨S4096x1x1x1, .i32⟩
  | 72 => ⟨S4096x1x1x1, .i1⟩
  | 73 => ⟨S_, .i32⟩
  | 74 => ⟨S4096x1x1x1, .i32⟩
  | 75 => ⟨S4096x1x1x1, .i32⟩
  | 76 => ⟨S4096x1x1x1, .i32⟩
  | 77 => ⟨S4096x1x1, .i32⟩
  | 78 => ⟨S1, .i32⟩
  | 79 => ⟨S_, .i32⟩
  | 80 => ⟨S4096x1x1, .i32⟩
  | 81 => ⟨S4096x1x1, .i1⟩
  | 82 => ⟨S1x1x1, .i32⟩
  | 83 => ⟨S4096x1x1, .i32⟩
  | 84 => ⟨S4096x1x1, .i1⟩
  | 85 => ⟨S4096x1x1, .i1⟩
  | 86 => ⟨S_, .i1⟩
  | 87 => ⟨S4096x1, .i1⟩
  | 88 => ⟨S4096x1x1x4, .f32⟩
  | 89 => ⟨S4096x1x1x4, .i1⟩
  | 90 => ⟨S_, .f32⟩
  | 91 => ⟨S4096x1x1x4, .f32⟩
  | 92 => ⟨S4096x1x1x4, .f32⟩
  | 93 => ⟨S4096x1x4, .f32⟩
  | 94 => ⟨S4096x1x3, .f32⟩
  | 95 => ⟨S4096x1x3, .f32⟩
  | 96 => ⟨S_, .f32⟩
  | 97 => ⟨S4096x1, .f32⟩
  | 98 => ⟨S4096x1x1, .f32⟩
  | 99 => ⟨S4096x1x1, .f32⟩
  | 100 => ⟨S4096x1x1, .f32⟩
  | 101 => ⟨S4096x1x1, .f32⟩
  | 102 => ⟨S_, .f32⟩
  | 103 => ⟨S4096x1x1, .f32⟩
  | 104 => ⟨S4096x1x1, .f32⟩
  | 105 => ⟨S4096x1x1, .f32⟩
  | 106 => ⟨S_, .f32⟩
  | 107 => ⟨S4096x1x1, .f32⟩
  | 108 => ⟨S4096x1x1, .i1⟩
  | 109 => ⟨S_, .f32⟩
  | 110 => ⟨S4096x1x1, .f32⟩
  | 111 => ⟨S4096x1x1, .f32⟩
  | 112 => ⟨S4096x1x1, .f32⟩
  | 113 => ⟨S_, .f32⟩
  | 114 => ⟨S4096x1x1, .f32⟩
  | 115 => ⟨S4096x1x1, .f32⟩
  | 116 => ⟨S_, .f32⟩
  | 117 => ⟨S4096x1x1, .f32⟩
  | 118 => ⟨S4096x1x1, .f32⟩
  | 119 => ⟨S4096x1x1, .f32⟩
  | 120 => ⟨S4096x1x1, .f32⟩
  | 121 => ⟨S4096x1x1, .f32⟩
  | 122 => ⟨S4096x1x3, .f32⟩
  | 123 => ⟨S4096x1x3, .f32⟩
  | 124 => ⟨S4096x1x3, .f32⟩
  | 125 => ⟨S4096x3, .f32⟩
  | 126 => ⟨S_, .i32⟩
  | 127 => ⟨S4096, .i32⟩
  | _ => ⟨S100000x6, .f32⟩

abbrev hbmTy0_2 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S1, .i32⟩
  | 7 => ⟨S_, .i32⟩
  | 8 => ⟨S4096x1, .i32⟩
  | 9 => ⟨S4096x1, .i1⟩
  | 10 => ⟨S1x1, .i32⟩
  | 11 => ⟨S4096x1, .i32⟩
  | 12 => ⟨S4096x1, .i1⟩
  | 13 => ⟨S4096x1, .i1⟩
  | 14 => ⟨S_, .i1⟩
  | 15 => ⟨S4096, .i1⟩
  | 16 => ⟨S4096x21x6, .f32⟩
  | 17 => ⟨S4096x21x6, .i1⟩
  | 18 => ⟨S_, .f32⟩
  | 19 => ⟨S4096x21x6, .f32⟩
  | 20 => ⟨S4096x21x6, .f32⟩
  | 21 => ⟨S4096x21x3, .f32⟩
  | 22 => ⟨S4096x21x3, .f32⟩
  | 23 => ⟨S4096x21x3, .f32⟩
  | 24 => ⟨S_, .f32⟩
  | 25 => ⟨S4096x21, .f32⟩
  | 26 => ⟨S4096x21x1, .f32⟩
  | 27 => ⟨S4096x21x1, .f32⟩
  | 28 => ⟨S4096x21x3, .f32⟩
  | 29 => ⟨S4096x21x3, .f32⟩
  | 30 => ⟨S4096x21x3, .f32⟩
  | 31 => ⟨S_, .f32⟩
  | 32 => ⟨S4096x21, .f32⟩
  | 33 => ⟨S4096x21x1, .f32⟩
  | 34 => ⟨S4096x21x3, .f32⟩
  | 35 => ⟨S4096x21x3, .f32⟩
  | 36 => ⟨S4096x21x3, .f32⟩
  | 37 => ⟨S4096x21x3, .f32⟩
  | 38 => ⟨S_, .f32⟩
  | 39 => ⟨S4096x21, .f32⟩
  | 40 => ⟨S4096x21x1, .f32⟩
  | 41 => ⟨S4096x21x1, .f32⟩
  | 42 => ⟨S4096x21x3, .f32⟩
  | 43 => ⟨S4096x21x3, .f32⟩
  | 44 => ⟨S4096x21x1, .f32⟩
  | 45 => ⟨S4096x21, .f32⟩
  | 46 => ⟨S4096x21x1, .f32⟩
  | 47 => ⟨S4096x21, .f32⟩
  | 48 => ⟨S4096x21x1, .f32⟩
  | 49 => ⟨S4096x21, .f32⟩
  | 50 => ⟨S4096x21x1, .f32⟩
  | 51 => ⟨S4096x21, .f32⟩
  | 52 => ⟨S4096x21x1, .f32⟩
  | 53 => ⟨S4096x21, .f32⟩
  | 54 => ⟨S4096x21x1, .f32⟩
  | 55 => ⟨S4096x21, .f32⟩
  | 56 => ⟨S4096x21, .f32⟩
  | 57 => ⟨S4096x21, .f32⟩
  | 58 => ⟨S4096x21, .f32⟩
  | 59 => ⟨S4096x21, .f32⟩
  | 60 => ⟨S4096x21, .f32⟩
  | 61 => ⟨S4096x21, .f32⟩
  | 62 => ⟨S4096x21, .f32⟩
  | 63 => ⟨S4096x21, .f32⟩
  | 64 => ⟨S4096x21, .f32⟩
  | 65 => ⟨S4096x21x1, .f32⟩
  | 66 => ⟨S4096x21x1, .f32⟩
  | 67 => ⟨S4096x21x1, .f32⟩
  | 68 => ⟨S4096x21x3, .f32⟩
  | 69 => ⟨S4096x21x1x3, .f32⟩
  | 70 => ⟨S4096x21x1x3, .f32⟩
  | 71 => ⟨S4096x21x1x3, .f32⟩
  | 72 => ⟨S4096x21x3x3, .f32⟩
  | 73 => ⟨S4096x21x1x1, .f32⟩
  | 74 => ⟨S4096x21, .f32⟩
  | 75 => ⟨S4096x21x1x1, .f32⟩
  | 76 => ⟨S4096x21, .f32⟩
  | 77 => ⟨S4096x21x1x1, .f32⟩
  | 78 => ⟨S4096x21, .f32⟩
  | 79 => ⟨S4096x21x1x1, .f32⟩
  | 80 => ⟨S4096x21, .f32⟩
  | 81 => ⟨S4096x21x1x1, .f32⟩
  | 82 => ⟨S4096x21, .f32⟩
  | 83 => ⟨S4096x21x1x1, .f32⟩
  | 84 => ⟨S4096x21, .f32⟩
  | 85 => ⟨S4096x21x1x1, .f32⟩
  | 86 => ⟨S4096x21, .f32⟩
  | 87 => ⟨S4096x21x1x1, .f32⟩
  | 88 => ⟨S4096x21, .f32⟩
  | 89 => ⟨S4096x21x1x1, .f32⟩
  | 90 => ⟨S4096x21, .f32⟩
  | 91 => ⟨S_, .f32⟩
  | 92 => ⟨S4096x21, .f32⟩
  | 93 => ⟨S4096x21, .f32⟩
  | 94 => ⟨S4096x21, .f32⟩
  | 95 => ⟨S4096x21, .f32⟩
  | 96 => ⟨S_, .f32⟩
  | 97 => ⟨S4096x21, .f32⟩
  | 98 => ⟨S4096x21, .f32⟩
  | 99 => ⟨S4096x21, .f32⟩
  | 100 => ⟨S4096x21, .f32⟩
  | 101 => ⟨S_, .f32⟩
  | 102 => ⟨S4096x21, .f32⟩
  | 103 => ⟨S4096x21, .f32⟩
  | 104 => ⟨S4096x21, .f32⟩
  | 105 => ⟨S4096x21, .f32⟩
  | 106 => ⟨S_, .f32⟩
  | 107 => ⟨S4096x21, .f32⟩
  | 108 => ⟨S4096x21, .f32⟩
  | 109 => ⟨S4096x21, .f32⟩
  | 110 => ⟨S4096x21, .f32⟩
  | 111 => ⟨S4096x21x1, .f32⟩
  | 112 => ⟨S4096x21x1, .f32⟩
  | 113 => ⟨S4096x21x1, .f32⟩
  | 114 => ⟨S4096x21x1, .f32⟩
  | 115 => ⟨S4096x21x4, .f32⟩
  | 116 => ⟨S_, .f32⟩
  | 117 => ⟨S4096x21x4, .f32⟩
  | 118 => ⟨S4096x21x4, .f32⟩
  | 119 => ⟨S4096x21x4, .f32⟩
  | 120 => ⟨S4096x21x1, .f32⟩
  | 121 => ⟨S4096x21, .f32⟩
  | 122 => ⟨S4096x21, .f32⟩
  | 123 => ⟨S4096x21, .f32⟩
  | 124 => ⟨S4096x21, .f32⟩
  | 125 => ⟨S4096x21, .f32⟩
  | 126 => ⟨S4096x21x1, .f32⟩
  | 127 => ⟨S4096x21x1, .f32⟩
  | _ => ⟨S100000x6, .f32⟩

abbrev hbmTy0_3 (i : Nat) : BufTy := match i % 128 with
  | 0 => ⟨S4096x21x1, .f32⟩
  | 1 => ⟨S4096x21x1, .f32⟩
  | 2 => ⟨S4096x21x4, .f32⟩
  | 3 => ⟨S4096x21, .f32⟩
  | 4 => ⟨S4096x21x1, .f32⟩
  | 5 => ⟨S4096x21, .f32⟩
  | 6 => ⟨S4096x21, .f32⟩
  | 7 => ⟨S4096x21, .f32⟩
  | 8 => ⟨S4096x21, .f32⟩
  | 9 => ⟨S4096x21x1, .f32⟩
  | 10 => ⟨S4096x21x1, .f32⟩
  | 11 => ⟨S4096x21x1, .f32⟩
  | 12 => ⟨S4096x21x1, .f32⟩
  | 13 => ⟨S4096x21x4, .f32⟩
  | 14 => ⟨S4096x21, .f32⟩
  | 15 => ⟨S4096x21, .f32⟩
  | 16 => ⟨S4096x21x1, .f32⟩
  | 17 => ⟨S4096x21, .f32⟩
  | 18 => ⟨S4096x21, .f32⟩
  | 19 => ⟨S4096x21, .f32⟩
  | 20 => ⟨S4096x21x1, .f32⟩
  | 21 => ⟨S4096x21x1, .f32⟩
  | 22 => ⟨S4096x21x1, .f32⟩
  | 23 => ⟨S4096x21x1, .f32⟩
  | 24 => ⟨S4096x21x4, .f32⟩
  | 25 => ⟨S4096x21, .f32⟩
  | 26 => ⟨S4096x21, .f32⟩
  | 27 => ⟨S4096x21, .f32⟩
  | 28 => ⟨S4096x21x1, .f32⟩
  | 29 => ⟨S4096x21, .f32⟩
  | 30 => ⟨S4096x21, .f32⟩
  | 31 => ⟨S4096x21x1, .f32⟩
  | 32 => ⟨S4096x21x1, .f32⟩
  | 33 => ⟨S4096x21x1, .f32⟩
  | 34 => ⟨S4096x21x1, .f32⟩
  | 35 => ⟨S4096x21x4, .f32⟩
  | 36 => ⟨S4096x21x1x4, .f32⟩
  | 37 => ⟨S4096x21x1x4, .f32⟩
  | 38 => ⟨S4096x21x1x4, .f32⟩
  | 39 => ⟨S4096x21x1x4, .f32⟩
  | 40 => ⟨S4096x21x4x4, .f32⟩
  | 41 => ⟨S4096x21x4x1, .f32⟩
  | 42 => ⟨S_, .f32⟩
  | 43 => ⟨S4096x21x4x1, .f32⟩
  | 44 => ⟨S4096x21x4x1, .f32⟩
  | 45 => ⟨S_, .f32⟩
  | 46 => ⟨S4096x21x4x1, .f32⟩
  | 47 => ⟨S4096x21x4x1, .f32⟩
  | 48 => ⟨S4096x21x4x4, .f32⟩
  | 49 => ⟨S4096x21x4x4, .f32⟩
  | 50 => ⟨S4096x21x4, .i32⟩
  | 51 => ⟨S_, .f32⟩
  | 52 => ⟨S_, .i32⟩
  | 53 => ⟨S4096x21, .f32⟩
  | 54 => ⟨S4096x21, .i32⟩
  | 55 => ⟨S4096x21x1x1, .i32⟩
  | 56 => ⟨S_, .i32⟩
  | 57 => ⟨S4096x21x1x1, .i32⟩
  | 58 => ⟨S4096x21x1x1, .i1⟩
  | 59 => ⟨S_, .i32⟩
  | 60 => ⟨S4096x21x1x1, .i32⟩
  | 61 => ⟨S4096x21x1x1, .i32⟩
  | 62 => ⟨S4096x21x1x1, .i32⟩
  | 63 => ⟨S1, .i32⟩
  | 64 => ⟨S_, .i32⟩
  | 65 => ⟨S4096x21x1x1, .i32⟩
  | 66 => ⟨S4096x21x1x1, .i1⟩
  | 67 => ⟨S1x1x1x1, .i32⟩
  | 68 => ⟨S4096x21x1x1, .i32⟩
  | 69 => ⟨S4096x21x1x1, .i1⟩
  | 70 => ⟨S4096x21x1x1, .i1⟩
  | 71 => ⟨S_, .i1⟩
  | 72 => ⟨S4096x21x1, .i1⟩
  | 73 => ⟨S4096x21x1x4, .f32⟩
  | 74 => ⟨S4096x21x1x4, .i1⟩
  | 75 => ⟨S_, .f32⟩
  | 76 => ⟨S4096x21x1x4, .f32⟩
  | 77 => ⟨S4096x21x1x4, .f32⟩
  | 78 => ⟨S4096x21x4, .f32⟩
  | 79 => ⟨S4096x21x3, .f32⟩
  | 80 => ⟨S4096x21x3, .f32⟩
  | 81 => ⟨S_, .f32⟩
  | 82 => ⟨S4096x21, .f32⟩
  | 83 => ⟨S4096x21x1, .f32⟩
  | 84 => ⟨S4096x21x1, .f32⟩
  | 85 => ⟨S4096x21x1, .f32⟩
  | 86 => ⟨S4096x21x1, .f32⟩
  | 87 => ⟨S_, .f32⟩
  | 88 => ⟨S4096x21x1, .f32⟩
  | 89 => ⟨S4096x21x1, .f32⟩
  | 90 => ⟨S4096x21x1, .f32⟩
  | 91 => ⟨S_, .f32⟩
  | 92 => ⟨S4096x21x1, .f32⟩
  | 93 => ⟨S4096x21x1, .i1⟩
  | 94 => ⟨S_, .f32⟩
  | 95 => ⟨S4096x21x1, .f32⟩
  | 96 => ⟨S4096x21x1, .f32⟩
  | 97 => ⟨S4096x21x1, .f32⟩
  | 98 => ⟨S_, .f32⟩
  | 99 => ⟨S4096x21x1, .f32⟩
  | 100 => ⟨S4096x21x1, .f32⟩
  | 101 => ⟨S_, .f32⟩
  | 102 => ⟨S4096x21x1, .f32⟩
  | 103 => ⟨S4096x21x1, .f32⟩
  | 104 => ⟨S4096x21x1, .f32⟩
  | 105 => ⟨S4096x21x1, .f32⟩
  | 106 => ⟨S4096x21x1, .f32⟩
  | 107 => ⟨S4096x21x3, .f32⟩
  | 108 => ⟨S4096x21x3, .f32⟩
  | 109 => ⟨S4096x21x3, .f32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S1, .i32⟩
  | 119 => ⟨S_, .i32⟩
  | 120 => ⟨S4096x1, .i32⟩
  | 121 => ⟨S4096x1, .i1⟩
  | 122 => ⟨S1x1, .i32⟩
  | 123 => ⟨S4096x1, .i32⟩
  | 124 => ⟨S4096x1, .i1⟩
  | 125 => ⟨S4096x1, .i1⟩
  | 126 => ⟨S_, .i1⟩
  | 127 => ⟨S4096, .i1⟩
  | _ => ⟨S100000x6, .f32⟩

abbrev hbmTy0_4 (i : Nat) : BufTy := match i % 128 with
  | 0 => ⟨S4096x6, .f32⟩
  | 1 => ⟨S4096x6, .i1⟩
  | 2 => ⟨S_, .f32⟩
  | 3 => ⟨S4096x6, .f32⟩
  | 4 => ⟨S4096x6, .f32⟩
  | 5 => ⟨S4096x1x6, .f32⟩
  | 6 => ⟨S4096x1x3, .f32⟩
  | 7 => ⟨S4096x1x3, .f32⟩
  | 8 => ⟨S4096x1x3, .f32⟩
  | 9 => ⟨S_, .f32⟩
  | 10 => ⟨S4096x1, .f32⟩
  | 11 => ⟨S4096x1x1, .f32⟩
  | 12 => ⟨S4096x1x1, .f32⟩
  | 13 => ⟨S4096x1x3, .f32⟩
  | 14 => ⟨S4096x1x3, .f32⟩
  | 15 => ⟨S4096x1x3, .f32⟩
  | 16 => ⟨S_, .f32⟩
  | 17 => ⟨S4096x1, .f32⟩
  | 18 => ⟨S4096x1x1, .f32⟩
  | 19 => ⟨S4096x1x3, .f32⟩
  | 20 => ⟨S4096x1x3, .f32⟩
  | 21 => ⟨S4096x1x3, .f32⟩
  | 22 => ⟨S4096x1x3, .f32⟩
  | 23 => ⟨S_, .f32⟩
  | 24 => ⟨S4096x1, .f32⟩
  | 25 => ⟨S4096x1x1, .f32⟩
  | 26 => ⟨S4096x1x1, .f32⟩
  | 27 => ⟨S4096x1x3, .f32⟩
  | 28 => ⟨S4096x1x3, .f32⟩
  | 29 => ⟨S4096x1x1, .f32⟩
  | 30 => ⟨S4096x1, .f32⟩
  | 31 => ⟨S4096x1x1, .f32⟩
  | 32 => ⟨S4096x1, .f32⟩
  | 33 => ⟨S4096x1x1, .f32⟩
  | 34 => ⟨S4096x1, .f32⟩
  | 35 => ⟨S4096x1x1, .f32⟩
  | 36 => ⟨S4096x1, .f32⟩
  | 37 => ⟨S4096x1x1, .f32⟩
  | 38 => ⟨S4096x1, .f32⟩
  | 39 => ⟨S4096x1x1, .f32⟩
  | 40 => ⟨S4096x1, .f32⟩
  | 41 => ⟨S4096x1, .f32⟩
  | 42 => ⟨S4096x1, .f32⟩
  | 43 => ⟨S4096x1, .f32⟩
  | 44 => ⟨S4096x1, .f32⟩
  | 45 => ⟨S4096x1, .f32⟩
  | 46 => ⟨S4096x1, .f32⟩
  | 47 => ⟨S4096x1, .f32⟩
  | 48 => ⟨S4096x1, .f32⟩
  | 49 => ⟨S4096x1, .f32⟩
  | 50 => ⟨S4096x1x1, .f32⟩
  | 51 => ⟨S4096x1x1, .f32⟩
  | 52 => ⟨S4096x1x1, .f32⟩
  | 53 => ⟨S4096x1x3, .f32⟩
  | 54 => ⟨S4096x1x1x3, .f32⟩
  | 55 => ⟨S4096x1x1x3, .f32⟩
  | 56 => ⟨S4096x1x1x3, .f32⟩
  | 57 => ⟨S4096x1x3x3, .f32⟩
  | 58 => ⟨S4096x1x1x1, .f32⟩
  | 59 => ⟨S4096x1, .f32⟩
  | 60 => ⟨S4096x1x1x1, .f32⟩
  | 61 => ⟨S4096x1, .f32⟩
  | 62 => ⟨S4096x1x1x1, .f32⟩
  | 63 => ⟨S4096x1, .f32⟩
  | 64 => ⟨S4096x1x1x1, .f32⟩
  | 65 => ⟨S4096x1, .f32⟩
  | 66 => ⟨S4096x1x1x1, .f32⟩
  | 67 => ⟨S4096x1, .f32⟩
  | 68 => ⟨S4096x1x1x1, .f32⟩
  | 69 => ⟨S4096x1, .f32⟩
  | 70 => ⟨S4096x1x1x1, .f32⟩
  | 71 => ⟨S4096x1, .f32⟩
  | 72 => ⟨S4096x1x1x1, .f32⟩
  | 73 => ⟨S4096x1, .f32⟩
  | 74 => ⟨S4096x1x1x1, .f32⟩
  | 75 => ⟨S4096x1, .f32⟩
  | 76 => ⟨S_, .f32⟩
  | 77 => ⟨S4096x1, .f32⟩
  | 78 => ⟨S4096x1, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x1, .f32⟩
  | 95 => ⟨S4096x1, .f32⟩
  | 96 => ⟨S4096x1x1, .f32⟩
  | 97 => ⟨S4096x1x1, .f32⟩
  | 98 => ⟨S4096x1x1, .f32⟩
  | 99 => ⟨S4096x1x1, .f32⟩
  | 100 => ⟨S4096x1x4, .f32⟩
  | 101 => ⟨S_, .f32⟩
  | 102 => ⟨S4096x1x4, .f32⟩
  | 103 => ⟨S4096x1x4, .f32⟩
  | 104 => ⟨S4096x1x4, .f32⟩
  | 105 => ⟨S4096x1x1, .f32⟩
  | 106 => ⟨S4096x1, .f32⟩
  | 107 => ⟨S4096x1, .f32⟩
  | 108 => ⟨S4096x1, .f32⟩
  | 109 => ⟨S4096x1, .f32⟩
  | 110 => ⟨S4096x1, .f32⟩
  | 111 => ⟨S4096x1x1, .f32⟩
  | 112 => ⟨S4096x1x1, .f32⟩
  | 113 => ⟨S4096x1x1, .f32⟩
  | 114 => ⟨S4096x1x1, .f32⟩
  | 115 => ⟨S4096x1x4, .f32⟩
  | 116 => ⟨S4096x1, .f32⟩
  | 117 => ⟨S4096x1x1, .f32⟩
  | 118 => ⟨S4096x1, .f32⟩
  | 119 => ⟨S4096x1, .f32⟩
  | 120 => ⟨S4096x1, .f32⟩
  | 121 => ⟨S4096x1, .f32⟩
  | 122 => ⟨S4096x1x1, .f32⟩
  | 123 => ⟨S4096x1x1, .f32⟩
  | 124 => ⟨S4096x1x1, .f32⟩
  | 125 => ⟨S4096x1x1, .f32⟩
  | 126 => ⟨S4096x1x4, .f32⟩
  | 127 => ⟨S4096x1, .f32⟩
  | _ => ⟨S100000x6, .f32⟩

abbrev hbmTy0_5 (i : Nat) : BufTy := match i % 128 with
  | 0 => ⟨S4096x1, .f32⟩
  | 1 => ⟨S4096x1x1, .f32⟩
  | 2 => ⟨S4096x1, .f32⟩
  | 3 => ⟨S4096x1, .f32⟩
  | 4 => ⟨S4096x1, .f32⟩
  | 5 => ⟨S4096x1x1, .f32⟩
  | 6 => ⟨S4096x1x1, .f32⟩
  | 7 => ⟨S4096x1x1, .f32⟩
  | 8 => ⟨S4096x1x1, .f32⟩
  | 9 => ⟨S4096x1x4, .f32⟩
  | 10 => ⟨S4096x1, .f32⟩
  | 11 => ⟨S4096x1, .f32⟩
  | 12 => ⟨S4096x1, .f32⟩
  | 13 => ⟨S4096x1x1, .f32⟩
  | 14 => ⟨S4096x1, .f32⟩
  | 15 => ⟨S4096x1, .f32⟩
  | 16 => ⟨S4096x1x1, .f32⟩
  | 17 => ⟨S4096x1x1, .f32⟩
  | 18 => ⟨S4096x1x1, .f32⟩
  | 19 => ⟨S4096x1x1, .f32⟩
  | 20 => ⟨S4096x1x4, .f32⟩
  | 21 => ⟨S4096x1x1x4, .f32⟩
  | 22 => ⟨S4096x1x1x4, .f32⟩
  | 23 => ⟨S4096x1x1x4, .f32⟩
  | 24 => ⟨S4096x1x1x4, .f32⟩
  | 25 => ⟨S4096x1x4x4, .f32⟩
  | 26 => ⟨S4096x1x4x1, .f32⟩
  | 27 => ⟨S_, .f32⟩
  | 28 => ⟨S4096x1x4x1, .f32⟩
  | 29 => ⟨S4096x1x4x1, .f32⟩
  | 30 => ⟨S_, .f32⟩
  | 31 => ⟨S4096x1x4x1, .f32⟩
  | 32 => ⟨S4096x1x4x1, .f32⟩
  | 33 => ⟨S4096x1x4x4, .f32⟩
  | 34 => ⟨S4096x1x4x4, .f32⟩
  | 35 => ⟨S4096x1x4, .i32⟩
  | 36 => ⟨S_, .f32⟩
  | 37 => ⟨S_, .i32⟩
  | 38 => ⟨S4096x1, .f32⟩
  | 39 => ⟨S4096x1, .i32⟩
  | 40 => ⟨S4096x1x1x1, .i32⟩
  | 41 => ⟨S_, .i32⟩
  | 42 => ⟨S4096x1x1x1, .i32⟩
  | 43 => ⟨S4096x1x1x1, .i1⟩
  | 44 => ⟨S_, .i32⟩
  | 45 => ⟨S4096x1x1x1, .i32⟩
  | 46 => ⟨S4096x1x1x1, .i32⟩
  | 47 => ⟨S4096x1x1x1, .i32⟩
  | 48 => ⟨S4096x1x1, .i32⟩
  | 49 => ⟨S1, .i32⟩
  | 50 => ⟨S_, .i32⟩
  | 51 => ⟨S4096x1x1, .i32⟩
  | 52 => ⟨S4096x1x1, .i1⟩
  | 53 => ⟨S1x1x1, .i32⟩
  | 54 => ⟨S4096x1x1, .i32⟩
  | 55 => ⟨S4096x1x1, .i1⟩
  | 56 => ⟨S4096x1x1, .i1⟩
  | 57 => ⟨S_, .i1⟩
  | 58 => ⟨S4096x1, .i1⟩
  | 59 => ⟨S4096x1x1x4, .f32⟩
  | 60 => ⟨S4096x1x1x4, .i1⟩
  | 61 => ⟨S_, .f32⟩
  | 62 => ⟨S4096x1x1x4, .f32⟩
  | 63 => ⟨S4096x1x1x4, .f32⟩
  | 64 => ⟨S4096x1x4, .f32⟩
  | 65 => ⟨S4096x1x3, .f32⟩
  | 66 => ⟨S4096x1x3, .f32⟩
  | 67 => ⟨S_, .f32⟩
  | 68 => ⟨S4096x1, .f32⟩
  | 69 => ⟨S4096x1x1, .f32⟩
  | 70 => ⟨S4096x1x1, .f32⟩
  | 71 => ⟨S4096x1x1, .f32⟩
  | 72 => ⟨S4096x1x1, .f32⟩
  | 73 => ⟨S_, .f32⟩
  | 74 => ⟨S4096x1x1, .f32⟩
  | 75 => ⟨S4096x1x1, .f32⟩
  | 76 => ⟨S4096x1x1, .f32⟩
  | 77 => ⟨S_, .f32⟩
  | 78 => ⟨S4096x1x1, .f32⟩
  | 79 => ⟨S4096x1x1, .i1⟩
  | 80 => ⟨S_, .f32⟩
  | 81 => ⟨S4096x1x1, .f32⟩
  | 82 => ⟨S4096x1x1, .f32⟩
  | 83 => ⟨S4096x1x1, .f32⟩
  | 84 => ⟨S_, .f32⟩
  | 85 => ⟨S4096x1x1, .f32⟩
  | 86 => ⟨S4096x1x1, .f32⟩
  | 87 => ⟨S_, .f32⟩
  | 88 => ⟨S4096x1x1, .f32⟩
  | 89 => ⟨S4096x1x1, .f32⟩
  | 90 => ⟨S4096x1x1, .f32⟩
  | 91 => ⟨S4096x1x1, .f32⟩
  | 92 => ⟨S4096x1x1, .f32⟩
  | 93 => ⟨S4096x1x3, .f32⟩
  | 94 => ⟨S4096x1x3, .f32⟩
  | 95 => ⟨S4096x1x3, .f32⟩
  | 96 => ⟨S4096x3, .f32⟩
  | 97 => ⟨S_, .i32⟩
  | 98 => ⟨S4096, .i32⟩
  | 99 => ⟨S4096, .i1⟩
  | 100 => ⟨S_, .i32⟩
  | 101 => ⟨S4096, .i32⟩
  | 102 => ⟨S4096, .i32⟩
  | 103 => ⟨S4096, .i32⟩
  | 104 => ⟨S4096x1, .i32⟩
  | 105 => ⟨S1, .i32⟩
  | 106 => ⟨S_, .i32⟩
  | 107 => ⟨S4096x1, .i32⟩
  | 108 => ⟨S4096x1, .i1⟩
  | 109 => ⟨S1x1, .i32⟩
  | 110 => ⟨S4096x1, .i32⟩
  | 111 => ⟨S4096x1, .i1⟩
  | 112 => ⟨S4096x1, .i1⟩
  | 113 => ⟨S_, .i1⟩
  | 114 => ⟨S4096, .i1⟩
  | 115 => ⟨S4096x6, .f32⟩
  | 116 => ⟨S4096x6, .i1⟩
  | 117 => ⟨S_, .f32⟩
  | 118 => ⟨S4096x6, .f32⟩
  | 119 => ⟨S4096x6, .f32⟩
  | 120 => ⟨S4096x1x6, .f32⟩
  | 121 => ⟨S4096x1x3, .f32⟩
  | 122 => ⟨S4096x1x3, .f32⟩
  | 123 => ⟨S4096x1x3, .f32⟩
  | 124 => ⟨S_, .f32⟩
  | 125 => ⟨S4096x1, .f32⟩
  | 126 => ⟨S4096x1x1, .f32⟩
  | 127 => ⟨S4096x1x1, .f32⟩
  | _ => ⟨S100000x6, .f32⟩

abbrev hbmTy0_6 (i : Nat) : BufTy := match i % 128 with
  | 0 => ⟨S4096x1x3, .f32⟩
  | 1 => ⟨S4096x1x3, .f32⟩
  | 2 => ⟨S4096x1x3, .f32⟩
  | 3 => ⟨S_, .f32⟩
  | 4 => ⟨S4096x1, .f32⟩
  | 5 => ⟨S4096x1x1, .f32⟩
  | 6 => ⟨S4096x1x3, .f32⟩
  | 7 => ⟨S4096x1x3, .f32⟩
  | 8 => ⟨S4096x1x3, .f32⟩
  | 9 => ⟨S4096x1x3, .f32⟩
  | 10 => ⟨S_, .f32⟩
  | 11 => ⟨S4096x1, .f32⟩
  | 12 => ⟨S4096x1x1, .f32⟩
  | 13 => ⟨S4096x1x1, .f32⟩
  | 14 => ⟨S4096x1x3, .f32⟩
  | 15 => ⟨S4096x1x3, .f32⟩
  | 16 => ⟨S4096x1x1, .f32⟩
  | 17 => ⟨S4096x1, .f32⟩
  | 18 => ⟨S4096x1x1, .f32⟩
  | 19 => ⟨S4096x1, .f32⟩
  | 20 => ⟨S4096x1x1, .f32⟩
  | 21 => ⟨S4096x1, .f32⟩
  | 22 => ⟨S4096x1x1, .f32⟩
  | 23 => ⟨S4096x1, .f32⟩
  | 24 => ⟨S4096x1x1, .f32⟩
  | 25 => ⟨S4096x1, .f32⟩
  | 26 => ⟨S4096x1x1, .f32⟩
  | 27 => ⟨S4096x1, .f32⟩
  | 28 => ⟨S4096x1, .f32⟩
  | 29 => ⟨S4096x1, .f32⟩
  | 30 => ⟨S4096x1, .f32⟩
  | 31 => ⟨S4096x1, .f32⟩
  | 32 => ⟨S4096x1, .f32⟩
  | 33 => ⟨S4096x1, .f32⟩
  | 34 => ⟨S4096x1, .f32⟩
  | 35 => ⟨S4096x1, .f32⟩
  | 36 => ⟨S4096x1, .f32⟩
  | 37 => ⟨S4096x1x1, .f32⟩
  | 38 => ⟨S4096x1x1, .f32⟩
  | 39 => ⟨S4096x1x1, .f32⟩
  | 40 => ⟨S4096x1x3, .f32⟩
  | 41 => ⟨S4096x1x1x3, .f32⟩
  | 42 => ⟨S4096x1x1x3, .f32⟩
  | 43 => ⟨S4096x1x1x3, .f32⟩
  | 44 => ⟨S4096x1x3x3, .f32⟩
  | 45 => ⟨S4096x1x1x1, .f32⟩
  | 46 => ⟨S4096x1, .f32⟩
  | 47 => ⟨S4096x1x1x1, .f32⟩
  | 48 => ⟨S4096x1, .f32⟩
  | 49 => ⟨S4096x1x1x1, .f32⟩
  | 50 => ⟨S4096x1, .f32⟩
  | 51 => ⟨S4096x1x1x1, .f32⟩
  | 52 => ⟨S4096x1, .f32⟩
  | 53 => ⟨S4096x1x1x1, .f32⟩
  | 54 => ⟨S4096x1, .f32⟩
  | 55 => ⟨S4096x1x1x1, .f32⟩
  | 56 => ⟨S4096x1, .f32⟩
  | 57 => ⟨S4096x1x1x1, .f32⟩
  | 58 => ⟨S4096x1, .f32⟩
  | 59 => ⟨S4096x1x1x1, .f32⟩
  | 60 => ⟨S4096x1, .f32⟩
  | 61 => ⟨S4096x1x1x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x1, .f32⟩
  | 77 => ⟨S4096x1, .f32⟩
  | 78 => ⟨S_, .f32⟩
  | 79 => ⟨S4096x1, .f32⟩
  | 80 => ⟨S4096x1, .f32⟩
  | 81 => ⟨S4096x1, .f32⟩
  | 82 => ⟨S4096x1, .f32⟩
  | 83 => ⟨S4096x1x1, .f32⟩
  | 84 => ⟨S4096x1x1, .f32⟩
  | 85 => ⟨S4096x1x1, .f32⟩
  | 86 => ⟨S4096x1x1, .f32⟩
  | 87 => ⟨S4096x1x4, .f32⟩
  | 88 => ⟨S_, .f32⟩
  | 89 => ⟨S4096x1x4, .f32⟩
  | 90 => ⟨S4096x1x4, .f32⟩
  | 91 => ⟨S4096x1x4, .f32⟩
  | 92 => ⟨S4096x1x1, .f32⟩
  | 93 => ⟨S4096x1, .f32⟩
  | 94 => ⟨S4096x1, .f32⟩
  | 95 => ⟨S4096x1, .f32⟩
  | 96 => ⟨S4096x1, .f32⟩
  | 97 => ⟨S4096x1, .f32⟩
  | 98 => ⟨S4096x1x1, .f32⟩
  | 99 => ⟨S4096x1x1, .f32⟩
  | 100 => ⟨S4096x1x1, .f32⟩
  | 101 => ⟨S4096x1x1, .f32⟩
  | 102 => ⟨S4096x1x4, .f32⟩
  | 103 => ⟨S4096x1, .f32⟩
  | 104 => ⟨S4096x1x1, .f32⟩
  | 105 => ⟨S4096x1, .f32⟩
  | 106 => ⟨S4096x1, .f32⟩
  | 107 => ⟨S4096x1, .f32⟩
  | 108 => ⟨S4096x1, .f32⟩
  | 109 => ⟨S4096x1x1, .f32⟩
  | 110 => ⟨S4096x1x1, .f32⟩
  | 111 => ⟨S4096x1x1, .f32⟩
  | 112 => ⟨S4096x1x1, .f32⟩
  | 113 => ⟨S4096x1x4, .f32⟩
  | 114 => ⟨S4096x1, .f32⟩
  | 115 => ⟨S4096x1, .f32⟩
  | 116 => ⟨S4096x1x1, .f32⟩
  | 117 => ⟨S4096x1, .f32⟩
  | 118 => ⟨S4096x1, .f32⟩
  | 119 => ⟨S4096x1, .f32⟩
  | 120 => ⟨S4096x1x1, .f32⟩
  | 121 => ⟨S4096x1x1, .f32⟩
  | 122 => ⟨S4096x1x1, .f32⟩
  | 123 => ⟨S4096x1x1, .f32⟩
  | 124 => ⟨S4096x1x4, .f32⟩
  | 125 => ⟨S4096x1, .f32⟩
  | 126 => ⟨S4096x1, .f32⟩
  | 127 => ⟨S4096x1, .f32⟩
  | _ => ⟨S100000x6, .f32⟩

abbrev hbmTy0_7 (i : Nat) : BufTy := match i % 128 with
  | 0 => ⟨S4096x1x1, .f32⟩
  | 1 => ⟨S4096x1, .f32⟩
  | 2 => ⟨S4096x1, .f32⟩
  | 3 => ⟨S4096x1x1, .f32⟩
  | 4 => ⟨S4096x1x1, .f32⟩
  | 5 => ⟨S4096x1x1, .f32⟩
  | 6 => ⟨S4096x1x1, .f32⟩
  | 7 => ⟨S4096x1x4, .f32⟩
  | 8 => ⟨S4096x1x1x4, .f32⟩
  | 9 => ⟨S4096x1x1x4, .f32⟩
  | 10 => ⟨S4096x1x1x4, .f32⟩
  | 11 => ⟨S4096x1x1x4, .f32⟩
  | 12 => ⟨S4096x1x4x4, .f32⟩
  | 13 => ⟨S4096x1x4x1, .f32⟩
  | 14 => ⟨S_, .f32⟩
  | 15 => ⟨S4096x1x4x1, .f32⟩
  | 16 => ⟨S4096x1x4x1, .f32⟩
  | 17 => ⟨S_, .f32⟩
  | 18 => ⟨S4096x1x4x1, .f32⟩
  | 19 => ⟨S4096x1x4x1, .f32⟩
  | 20 => ⟨S4096x1x4x4, .f32⟩
  | 21 => ⟨S4096x1x4x4, .f32⟩
  | 22 => ⟨S4096x1x4, .i32⟩
  | 23 => ⟨S_, .f32⟩
  | 24 => ⟨S_, .i32⟩
  | 25 => ⟨S4096x1, .f32⟩
  | 26 => ⟨S4096x1, .i32⟩
  | 27 => ⟨S4096x1x1x1, .i32⟩
  | 28 => ⟨S_, .i32⟩
  | 29 => ⟨S4096x1x1x1, .i32⟩
  | 30 => ⟨S4096x1x1x1, .i1⟩
  | 31 => ⟨S_, .i32⟩
  | 32 => ⟨S4096x1x1x1, .i32⟩
  | 33 => ⟨S4096x1x1x1, .i32⟩
  | 34 => ⟨S4096x1x1x1, .i32⟩
  | 35 => ⟨S4096x1x1, .i32⟩
  | 36 => ⟨S1, .i32⟩
  | 37 => ⟨S_, .i32⟩
  | 38 => ⟨S4096x1x1, .i32⟩
  | 39 => ⟨S4096x1x1, .i1⟩
  | 40 => ⟨S1x1x1, .i32⟩
  | 41 => ⟨S4096x1x1, .i32⟩
  | 42 => ⟨S4096x1x1, .i1⟩
  | 43 => ⟨S4096x1x1, .i1⟩
  | 44 => ⟨S_, .i1⟩
  | 45 => ⟨S4096x1, .i1⟩
  | 46 => ⟨S4096x1x1x4, .f32⟩
  | 47 => ⟨S4096x1x1x4, .i1⟩
  | 48 => ⟨S_, .f32⟩
  | 49 => ⟨S4096x1x1x4, .f32⟩
  | 50 => ⟨S4096x1x1x4, .f32⟩
  | 51 => ⟨S4096x1x4, .f32⟩
  | 52 => ⟨S4096x1x3, .f32⟩
  | 53 => ⟨S4096x1x3, .f32⟩
  | 54 => ⟨S_, .f32⟩
  | 55 => ⟨S4096x1, .f32⟩
  | 56 => ⟨S4096x1x1, .f32⟩
  | 57 => ⟨S4096x1x1, .f32⟩
  | 58 => ⟨S4096x1x1, .f32⟩
  | 59 => ⟨S4096x1x1, .f32⟩
  | 60 => ⟨S_, .f32⟩
  | 61 => ⟨S4096x1x1, .f32⟩
  | 62 => ⟨S4096x1x1, .f32⟩
  | 63 => ⟨S4096x1x1, .f32⟩
  | 64 => ⟨S_, .f32⟩
  | 65 => ⟨S4096x1x1, .f32⟩
  | 66 => ⟨S4096x1x1, .i1⟩
  | 67 => ⟨S_, .f32⟩
  | 68 => ⟨S4096x1x1, .f32⟩
  | 69 => ⟨S4096x1x1, .f32⟩
  | 70 => ⟨S4096x1x1, .f32⟩
  | 71 => ⟨S_, .f32⟩
  | 72 => ⟨S4096x1x1, .f32⟩
  | 73 => ⟨S4096x1x1, .f32⟩
  | 74 => ⟨S_, .f32⟩
  | 75 => ⟨S4096x1x1, .f32⟩
  | 76 => ⟨S4096x1x1, .f32⟩
  | 77 => ⟨S4096x1x1, .f32⟩
  | 78 => ⟨S4096x1x1, .f32⟩
  | 79 => ⟨S4096x1x1, .f32⟩
  | 80 => ⟨S4096x1x3, .f32⟩
  | 81 => ⟨S4096x1x3, .f32⟩
  | 82 => ⟨S4096x1x3, .f32⟩
  | 83 => ⟨S4096x3, .f32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S4096x1, .i32⟩
  | 92 => ⟨S1, .i32⟩
  | 93 => ⟨S_, .i32⟩
  | 94 => ⟨S4096x1, .i32⟩
  | 95 => ⟨S4096x1, .i1⟩
  | 96 => ⟨S1x1, .i32⟩
  | 97 => ⟨S4096x1, .i32⟩
  | 98 => ⟨S4096x1, .i1⟩
  | 99 => ⟨S4096x1, .i1⟩
  | 100 => ⟨S_, .i1⟩
  | 101 => ⟨S4096, .i1⟩
  | 102 => ⟨S4096x6, .f32⟩
  | 103 => ⟨S4096x6, .i1⟩
  | 104 => ⟨S_, .f32⟩
  | 105 => ⟨S4096x6, .f32⟩
  | 106 => ⟨S4096x6, .f32⟩
  | 107 => ⟨S4096x1x6, .f32⟩
  | 108 => ⟨S4096x1x3, .f32⟩
  | 109 => ⟨S4096x1x3, .f32⟩
  | 110 => ⟨S4096x1x3, .f32⟩
  | 111 => ⟨S_, .f32⟩
  | 112 => ⟨S4096x1, .f32⟩
  | 113 => ⟨S4096x1x1, .f32⟩
  | 114 => ⟨S4096x1x1, .f32⟩
  | 115 => ⟨S4096x1x3, .f32⟩
  | 116 => ⟨S4096x1x3, .f32⟩
  | 117 => ⟨S4096x1x3, .f32⟩
  | 118 => ⟨S_, .f32⟩
  | 119 => ⟨S4096x1, .f32⟩
  | 120 => ⟨S4096x1x1, .f32⟩
  | 121 => ⟨S4096x1x3, .f32⟩
  | 122 => ⟨S4096x1x3, .f32⟩
  | 123 => ⟨S4096x1x3, .f32⟩
  | 124 => ⟨S4096x1x3, .f32⟩
  | 125 => ⟨S_, .f32⟩
  | 126 => ⟨S4096x1, .f32⟩
  | 127 => ⟨S4096x1x1, .f32⟩
  | _ => ⟨S100000x6, .f32⟩

abbrev hbmTy0_8 (i : Nat) : BufTy := match i % 128 with
  | 0 => ⟨S4096x1x1, .f32⟩
  | 1 => ⟨S4096x1x3, .f32⟩
  | 2 => ⟨S4096x1x3, .f32⟩
  | 3 => ⟨S4096x1x1, .f32⟩
  | 4 => ⟨S4096x1, .f32⟩
  | 5 => ⟨S4096x1x1, .f32⟩
  | 6 => ⟨S4096x1, .f32⟩
  | 7 => ⟨S4096x1x1, .f32⟩
  | 8 => ⟨S4096x1, .f32⟩
  | 9 => ⟨S4096x1x1, .f32⟩
  | 10 => ⟨S4096x1, .f32⟩
  | 11 => ⟨S4096x1x1, .f32⟩
  | 12 => ⟨S4096x1, .f32⟩
  | 13 => ⟨S4096x1x1, .f32⟩
  | 14 => ⟨S4096x1, .f32⟩
  | 15 => ⟨S4096x1, .f32⟩
  | 16 => ⟨S4096x1, .f32⟩
  | 17 => ⟨S4096x1, .f32⟩
  | 18 => ⟨S4096x1, .f32⟩
  | 19 => ⟨S4096x1, .f32⟩
  | 20 => ⟨S4096x1, .f32⟩
  | 21 => ⟨S4096x1, .f32⟩
  | 22 => ⟨S4096x1, .f32⟩
  | 23 => ⟨S4096x1, .f32⟩
  | 24 => ⟨S4096x1x1, .f32⟩
  | 25 => ⟨S4096x1x1, .f32⟩
  | 26 => ⟨S4096x1x1, .f32⟩
  | 27 => ⟨S4096x1x3, .f32⟩
  | 28 => ⟨S4096x1x1x3, .f32⟩
  | 29 => ⟨S4096x1x1x3, .f32⟩
  | 30 => ⟨S4096x1x1x3, .f32⟩
  | 31 => ⟨S4096x1x3x3, .f32⟩
  | 32 => ⟨S4096x1x1x1, .f32⟩
  | 33 => ⟨S4096x1, .f32⟩
  | 34 => ⟨S4096x1x1x1, .f32⟩
  | 35 => ⟨S4096x1, .f32⟩
  | 36 => ⟨S4096x1x1x1, .f32⟩
  | 37 => ⟨S4096x1, .f32⟩
  | 38 => ⟨S4096x1x1x1, .f32⟩
  | 39 => ⟨S4096x1, .f32⟩
  | 40 => ⟨S4096x1x1x1, .f32⟩
  | 41 => ⟨S4096x1, .f32⟩
  | 42 => ⟨S4096x1x1x1, .f32⟩
  | 43 => ⟨S4096x1, .f32⟩
  | 44 => ⟨S4096x1x1x1, .f32⟩
  | 45 => ⟨S4096x1, .f32⟩
  | 46 => ⟨S4096x1x1x1, .f32⟩
  | 47 => ⟨S4096x1, .f32⟩
  | 48 => ⟨S4096x1x1x1, .f32⟩
  | 49 => ⟨S4096x1, .f32⟩
  | 50 => ⟨S_, .f32⟩
  | 51 => ⟨S4096x1, .f32⟩
  | 52 => ⟨S4096x1, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1, .f32⟩
  | 69 => ⟨S4096x1, .f32⟩
  | 70 => ⟨S4096x1x1, .f32⟩
  | 71 => ⟨S4096x1x1, .f32⟩
  | 72 => ⟨S4096x1x1, .f32⟩
  | 73 => ⟨S4096x1x1, .f32⟩
  | 74 => ⟨S4096x1x4, .f32⟩
  | 75 => ⟨S_, .f32⟩
  | 76 => ⟨S4096x1x4, .f32⟩
  | 77 => ⟨S4096x1x4, .f32⟩
  | 78 => ⟨S4096x1x4, .f32⟩
  | 79 => ⟨S4096x1x1, .f32⟩
  | 80 => ⟨S4096x1, .f32⟩
  | 81 => ⟨S4096x1, .f32⟩
  | 82 => ⟨S4096x1, .f32⟩
  | 83 => ⟨S4096x1, .f32⟩
  | 84 => ⟨S4096x1, .f32⟩
  | 85 => ⟨S4096x1x1, .f32⟩
  | 86 => ⟨S4096x1x1, .f32⟩
  | 87 => ⟨S4096x1x1, .f32⟩
  | 88 => ⟨S4096x1x1, .f32⟩
  | 89 => ⟨S4096x1x4, .f32⟩
  | 90 => ⟨S4096x1, .f32⟩
  | 91 => ⟨S4096x1x1, .f32⟩
  | 92 => ⟨S4096x1, .f32⟩
  | 93 => ⟨S4096x1, .f32⟩
  | 94 => ⟨S4096x1, .f32⟩
  | 95 => ⟨S4096x1, .f32⟩
  | 96 => ⟨S4096x1x1, .f32⟩
  | 97 => ⟨S4096x1x1, .f32⟩
  | 98 => ⟨S4096x1x1, .f32⟩
  | 99 => ⟨S4096x1x1, .f32⟩
  | 100 => ⟨S4096x1x4, .f32⟩
  | 101 => ⟨S4096x1, .f32⟩
  | 102 => ⟨S4096x1, .f32⟩
  | 103 => ⟨S4096x1x1, .f32⟩
  | 104 => ⟨S4096x1, .f32⟩
  | 105 => ⟨S4096x1, .f32⟩
  | 106 => ⟨S4096x1, .f32⟩
  | 107 => ⟨S4096x1x1, .f32⟩
  | 108 => ⟨S4096x1x1, .f32⟩
  | 109 => ⟨S4096x1x1, .f32⟩
  | 110 => ⟨S4096x1x1, .f32⟩
  | 111 => ⟨S4096x1x4, .f32⟩
  | 112 => ⟨S4096x1, .f32⟩
  | 113 => ⟨S4096x1, .f32⟩
  | 114 => ⟨S4096x1, .f32⟩
  | 115 => ⟨S4096x1x1, .f32⟩
  | 116 => ⟨S4096x1, .f32⟩
  | 117 => ⟨S4096x1, .f32⟩
  | 118 => ⟨S4096x1x1, .f32⟩
  | 119 => ⟨S4096x1x1, .f32⟩
  | 120 => ⟨S4096x1x1, .f32⟩
  | 121 => ⟨S4096x1x1, .f32⟩
  | 122 => ⟨S4096x1x4, .f32⟩
  | 123 => ⟨S4096x1x1x4, .f32⟩
  | 124 => ⟨S4096x1x1x4, .f32⟩
  | 125 => ⟨S4096x1x1x4, .f32⟩
  | 126 => ⟨S4096x1x1x4, .f32⟩
  | 127 => ⟨S4096x1x4x4, .f32⟩
  | _ => ⟨S100000x6, .f32⟩

abbrev hbmTy0_9 (i : Nat) : BufTy := match i % 128 with
  | 0 => ⟨S4096x1x4x1, .f32⟩
  | 1 => ⟨S_, .f32⟩
  | 2 => ⟨S4096x1x4x1, .f32⟩
  | 3 => ⟨S4096x1x4x1, .f32⟩
  | 4 => ⟨S_, .f32⟩
  | 5 => ⟨S4096x1x4x1, .f32⟩
  | 6 => ⟨S4096x1x4x1, .f32⟩
  | 7 => ⟨S4096x1x4x4, .f32⟩
  | 8 => ⟨S4096x1x4x4, .f32⟩
  | 9 => ⟨S4096x1x4, .i32⟩
  | 10 => ⟨S_, .f32⟩
  | 11 => ⟨S_, .i32⟩
  | 12 => ⟨S4096x1, .f32⟩
  | 13 => ⟨S4096x1, .i32⟩
  | 14 => ⟨S4096x1x1x1, .i32⟩
  | 15 => ⟨S_, .i32⟩
  | 16 => ⟨S4096x1x1x1, .i32⟩
  | 17 => ⟨S4096x1x1x1, .i1⟩
  | 18 => ⟨S_, .i32⟩
  | 19 => ⟨S4096x1x1x1, .i32⟩
  | 20 => ⟨S4096x1x1x1, .i32⟩
  | 21 => ⟨S4096x1x1x1, .i32⟩
  | 22 => ⟨S4096x1x1, .i32⟩
  | 23 => ⟨S1, .i32⟩
  | 24 => ⟨S_, .i32⟩
  | 25 => ⟨S4096x1x1, .i32⟩
  | 26 => ⟨S4096x1x1, .i1⟩
  | 27 => ⟨S1x1x1, .i32⟩
  | 28 => ⟨S4096x1x1, .i32⟩
  | 29 => ⟨S4096x1x1, .i1⟩
  | 30 => ⟨S4096x1x1, .i1⟩
  | 31 => ⟨S_, .i1⟩
  | 32 => ⟨S4096x1, .i1⟩
  | 33 => ⟨S4096x1x1x4, .f32⟩
  | 34 => ⟨S4096x1x1x4, .i1⟩
  | 35 => ⟨S_, .f32⟩
  | 36 => ⟨S4096x1x1x4, .f32⟩
  | 37 => ⟨S4096x1x1x4, .f32⟩
  | 38 => ⟨S4096x1x4, .f32⟩
  | 39 => ⟨S4096x1x3, .f32⟩
  | 40 => ⟨S4096x1x3, .f32⟩
  | 41 => ⟨S_, .f32⟩
  | 42 => ⟨S4096x1, .f32⟩
  | 43 => ⟨S4096x1x1, .f32⟩
  | 44 => ⟨S4096x1x1, .f32⟩
  | 45 => ⟨S4096x1x1, .f32⟩
  | 46 => ⟨S4096x1x1, .f32⟩
  | 47 => ⟨S_, .f32⟩
  | 48 => ⟨S4096x1x1, .f32⟩
  | 49 => ⟨S4096x1x1, .f32⟩
  | 50 => ⟨S4096x1x1, .f32⟩
  | 51 => ⟨S_, .f32⟩
  | 52 => ⟨S4096x1x1, .f32⟩
  | 53 => ⟨S4096x1x1, .i1⟩
  | 54 => ⟨S_, .f32⟩
  | 55 => ⟨S4096x1x1, .f32⟩
  | 56 => ⟨S4096x1x1, .f32⟩
  | 57 => ⟨S4096x1x1, .f32⟩
  | 58 => ⟨S_, .f32⟩
  | 59 => ⟨S4096x1x1, .f32⟩
  | 60 => ⟨S4096x1x1, .f32⟩
  | 61 => ⟨S_, .f32⟩
  | 62 => ⟨S4096x1x1, .f32⟩
  | 63 => ⟨S4096x1x1, .f32⟩
  | 64 => ⟨S4096x1x1, .f32⟩
  | 65 => ⟨S4096x1x1, .f32⟩
  | 66 => ⟨S4096x1x1, .f32⟩
  | 67 => ⟨S4096x1x3, .f32⟩
  | 68 => ⟨S4096x1x3, .f32⟩
  | 69 => ⟨S4096x1x3, .f32⟩
  | 70 => ⟨S4096x3, .f32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S1, .i32⟩
  | 80 => ⟨S_, .i32⟩
  | 81 => ⟨S4096x1, .i32⟩
  | 82 => ⟨S4096x1, .i1⟩
  | 83 => ⟨S1x1, .i32⟩
  | 84 => ⟨S4096x1, .i32⟩
  | 85 => ⟨S4096x1, .i1⟩
  | 86 => ⟨S4096x1, .i1⟩
  | 87 => ⟨S_, .i1⟩
  | 88 => ⟨S4096, .i1⟩
  | 89 => ⟨S4096x15x6, .f32⟩
  | 90 => ⟨S4096x15x6, .i1⟩
  | 91 => ⟨S_, .f32⟩
  | 92 => ⟨S4096x15x6, .f32⟩
  | 93 => ⟨S4096x15x6, .f32⟩
  | 94 => ⟨S4096x15x3, .f32⟩
  | 95 => ⟨S4096x15x3, .f32⟩
  | 96 => ⟨S4096x15x3, .f32⟩
  | 97 => ⟨S_, .f32⟩
  | 98 => ⟨S4096x15, .f32⟩
  | 99 => ⟨S4096x15x1, .f32⟩
  | 100 => ⟨S4096x15x1, .f32⟩
  | 101 => ⟨S4096x15x3, .f32⟩
  | 102 => ⟨S4096x15x3, .f32⟩
  | 103 => ⟨S4096x15x3, .f32⟩
  | 104 => ⟨S_, .f32⟩
  | 105 => ⟨S4096x15, .f32⟩
  | 106 => ⟨S4096x15x1, .f32⟩
  | 107 => ⟨S4096x15x3, .f32⟩
  | 108 => ⟨S4096x15x3, .f32⟩
  | 109 => ⟨S4096x15x3, .f32⟩
  | 110 => ⟨S4096x15x3, .f32⟩
  | 111 => ⟨S_, .f32⟩
  | 112 => ⟨S4096x15, .f32⟩
  | 113 => ⟨S4096x15x1, .f32⟩
  | 114 => ⟨S4096x15x1, .f32⟩
  | 115 => ⟨S4096x15x3, .f32⟩
  | 116 => ⟨S4096x15x3, .f32⟩
  | 117 => ⟨S4096x15x1, .f32⟩
  | 118 => ⟨S4096x15, .f32⟩
  | 119 => ⟨S4096x15x1, .f32⟩
  | 120 => ⟨S4096x15, .f32⟩
  | 121 => ⟨S4096x15x1, .f32⟩
  | 122 => ⟨S4096x15, .f32⟩
  | 123 => ⟨S4096x15x1, .f32⟩
  | 124 => ⟨S4096x15, .f32⟩
  | 125 => ⟨S4096x15x1, .f32⟩
  | 126 => ⟨S4096x15, .f32⟩
  | 127 => ⟨S4096x15x1, .f32⟩
  | _ => ⟨S100000x6, .f32⟩

abbrev hbmTy0_10 (i : Nat) : BufTy := match i % 128 with
  | 0 => ⟨S4096x15, .f32⟩
  | 1 => ⟨S4096x15, .f32⟩
  | 2 => ⟨S4096x15, .f32⟩
  | 3 => ⟨S4096x15, .f32⟩
  | 4 => ⟨S4096x15, .f32⟩
  | 5 => ⟨S4096x15, .f32⟩
  | 6 => ⟨S4096x15, .f32⟩
  | 7 => ⟨S4096x15, .f32⟩
  | 8 => ⟨S4096x15, .f32⟩
  | 9 => ⟨S4096x15, .f32⟩
  | 10 => ⟨S4096x15x1, .f32⟩
  | 11 => ⟨S4096x15x1, .f32⟩
  | 12 => ⟨S4096x15x1, .f32⟩
  | 13 => ⟨S4096x15x3, .f32⟩
  | 14 => ⟨S4096x15x1x3, .f32⟩
  | 15 => ⟨S4096x15x1x3, .f32⟩
  | 16 => ⟨S4096x15x1x3, .f32⟩
  | 17 => ⟨S4096x15x3x3, .f32⟩
  | 18 => ⟨S4096x15x1x1, .f32⟩
  | 19 => ⟨S4096x15, .f32⟩
  | 20 => ⟨S4096x15x1x1, .f32⟩
  | 21 => ⟨S4096x15, .f32⟩
  | 22 => ⟨S4096x15x1x1, .f32⟩
  | 23 => ⟨S4096x15, .f32⟩
  | 24 => ⟨S4096x15x1x1, .f32⟩
  | 25 => ⟨S4096x15, .f32⟩
  | 26 => ⟨S4096x15x1x1, .f32⟩
  | 27 => ⟨S4096x15, .f32⟩
  | 28 => ⟨S4096x15x1x1, .f32⟩
  | 29 => ⟨S4096x15, .f32⟩
  | 30 => ⟨S4096x15x1x1, .f32⟩
  | 31 => ⟨S4096x15, .f32⟩
  | 32 => ⟨S4096x15x1x1, .f32⟩
  | 33 => ⟨S4096x15, .f32⟩
  | 34 => ⟨S4096x15x1x1, .f32⟩
  | 35 => ⟨S4096x15, .f32⟩
  | 36 => ⟨S_, .f32⟩
  | 37 => ⟨S4096x15, .f32⟩
  | 38 => ⟨S4096x15, .f32⟩
  | 39 => ⟨S4096x15, .f32⟩
  | 40 => ⟨S4096x15, .f32⟩
  | 41 => ⟨S_, .f32⟩
  | 42 => ⟨S4096x15, .f32⟩
  | 43 => ⟨S4096x15, .f32⟩
  | 44 => ⟨S4096x15, .f32⟩
  | 45 => ⟨S4096x15, .f32⟩
  | 46 => ⟨S_, .f32⟩
  | 47 => ⟨S4096x15, .f32⟩
  | 48 => ⟨S4096x15, .f32⟩
  | 49 => ⟨S4096x15, .f32⟩
  | 50 => ⟨S4096x15, .f32⟩
  | 51 => ⟨S_, .f32⟩
  | 52 => ⟨S4096x15, .f32⟩
  | 53 => ⟨S4096x15, .f32⟩
  | 54 => ⟨S4096x15, .f32⟩
  | 55 => ⟨S4096x15, .f32⟩
  | 56 => ⟨S4096x15x1, .f32⟩
  | 57 => ⟨S4096x15x1, .f32⟩
  | 58 => ⟨S4096x15x1, .f32⟩
  | 59 => ⟨S4096x15x1, .f32⟩
  | 60 => ⟨S4096x15x4, .f32⟩
  | 61 => ⟨S_, .f32⟩
  | 62 => ⟨S4096x15x4, .f32⟩
  | 63 => ⟨S4096x15x4, .f32⟩
  | 64 => ⟨S4096x15x4, .f32⟩
  | 65 => ⟨S4096x15x1, .f32⟩
  | 66 => ⟨S4096x15, .f32⟩
  | 67 => ⟨S4096x15, .f32⟩
  | 68 => ⟨S4096x15, .f32⟩
  | 69 => ⟨S4096x15, .f32⟩
  | 70 => ⟨S4096x15, .f32⟩
  | 71 => ⟨S4096x15x1, .f32⟩
  | 72 => ⟨S4096x15x1, .f32⟩
  | 73 => ⟨S4096x15x1, .f32⟩
  | 74 => ⟨S4096x15x1, .f32⟩
  | 75 => ⟨S4096x15x4, .f32⟩
  | 76 => ⟨S4096x15, .f32⟩
  | 77 => ⟨S4096x15x1, .f32⟩
  | 78 => ⟨S4096x15, .f32⟩
  | 79 => ⟨S4096x15, .f32⟩
  | 80 => ⟨S4096x15, .f32⟩
  | 81 => ⟨S4096x15, .f32⟩
  | 82 => ⟨S4096x15x1, .f32⟩
  | 83 => ⟨S4096x15x1, .f32⟩
  | 84 => ⟨S4096x15x1, .f32⟩
  | 85 => ⟨S4096x15x1, .f32⟩
  | 86 => ⟨S4096x15x4, .f32⟩
  | 87 => ⟨S4096x15, .f32⟩
  | 88 => ⟨S4096x15, .f32⟩
  | 89 => ⟨S4096x15x1, .f32⟩
  | 90 => ⟨S4096x15, .f32⟩
  | 91 => ⟨S4096x15, .f32⟩
  | 92 => ⟨S4096x15, .f32⟩
  | 93 => ⟨S4096x15x1, .f32⟩
  | 94 => ⟨S4096x15x1, .f32⟩
  | 95 => ⟨S4096x15x1, .f32⟩
  | 96 => ⟨S4096x15x1, .f32⟩
  | 97 => ⟨S4096x15x4, .f32⟩
  | 98 => ⟨S4096x15, .f32⟩
  | 99 => ⟨S4096x15, .f32⟩
  | 100 => ⟨S4096x15, .f32⟩
  | 101 => ⟨S4096x15x1, .f32⟩
  | 102 => ⟨S4096x15, .f32⟩
  | 103 => ⟨S4096x15, .f32⟩
  | 104 => ⟨S4096x15x1, .f32⟩
  | 105 => ⟨S4096x15x1, .f32⟩
  | 106 => ⟨S4096x15x1, .f32⟩
  | 107 => ⟨S4096x15x1, .f32⟩
  | 108 => ⟨S4096x15x4, .f32⟩
  | 109 => ⟨S4096x15x1x4, .f32⟩
  | 110 => ⟨S4096x15x1x4, .f32⟩
  | 111 => ⟨S4096x15x1x4, .f32⟩
  | 112 => ⟨S4096x15x1x4, .f32⟩
  | 113 => ⟨S4096x15x4x4, .f32⟩
  | 114 => ⟨S4096x15x4x1, .f32⟩
  | 115 => ⟨S_, .f32⟩
  | 116 => ⟨S4096x15x4x1, .f32⟩
  | 117 => ⟨S4096x15x4x1, .f32⟩
  | 118 => ⟨S_, .f32⟩
  | 119 => ⟨S4096x15x4x1, .f32⟩
  | 120 => ⟨S4096x15x4x1, .f32⟩
  | 121 => ⟨S4096x15x4x4, .f32⟩
  | 122 => ⟨S4096x15x4x4, .f32⟩
  | 123 => ⟨S4096x15x4, .i32⟩
  | 124 => ⟨S_, .f32⟩
  | 125 => ⟨S_, .i32⟩
  | 126 => ⟨S4096x15, .f32⟩
  | 127 => ⟨S4096x15, .i32⟩
  | _ => ⟨S100000x6, .f32⟩

abbrev hbmTy0_11 (i : Nat) : BufTy := match i % 128 with
  | 0 => ⟨S4096x15x1x1, .i32⟩
  | 1 => ⟨S_, .i32⟩
  | 2 => ⟨S4096x15x1x1, .i32⟩
  | 3 => ⟨S4096x15x1x1, .i1⟩
  | 4 => ⟨S_, .i32⟩
  | 5 => ⟨S4096x15x1x1, .i32⟩
  | 6 => ⟨S4096x15x1x1, .i32⟩
  | 7 => ⟨S4096x15x1x1, .i32⟩
  | 8 => ⟨S1, .i32⟩
  | 9 => ⟨S_, .i32⟩
  | 10 => ⟨S4096x15x1x1, .i32⟩
  | 11 => ⟨S4096x15x1x1, .i1⟩
  | 12 => ⟨S1x1x1x1, .i32⟩
  | 13 => ⟨S4096x15x1x1, .i32⟩
  | 14 => ⟨S4096x15x1x1, .i1⟩
  | 15 => ⟨S4096x15x1x1, .i1⟩
  | 16 => ⟨S_, .i1⟩
  | 17 => ⟨S4096x15x1, .i1⟩
  | 18 => ⟨S4096x15x1x4, .f32⟩
  | 19 => ⟨S4096x15x1x4, .i1⟩
  | 20 => ⟨S_, .f32⟩
  | 21 => ⟨S4096x15x1x4, .f32⟩
  | 22 => ⟨S4096x15x1x4, .f32⟩
  | 23 => ⟨S4096x15x4, .f32⟩
  | 24 => ⟨S4096x15x3, .f32⟩
  | 25 => ⟨S4096x15x3, .f32⟩
  | 26 => ⟨S_, .f32⟩
  | 27 => ⟨S4096x15, .f32⟩
  | 28 => ⟨S4096x15x1, .f32⟩
  | 29 => ⟨S4096x15x1, .f32⟩
  | 30 => ⟨S4096x15x1, .f32⟩
  | 31 => ⟨S4096x15x1, .f32⟩
  | 32 => ⟨S_, .f32⟩
  | 33 => ⟨S4096x15x1, .f32⟩
  | 34 => ⟨S4096x15x1, .f32⟩
  | 35 => ⟨S4096x15x1, .f32⟩
  | 36 => ⟨S_, .f32⟩
  | 37 => ⟨S4096x15x1, .f32⟩
  | 38 => ⟨S4096x15x1, .i1⟩
  | 39 => ⟨S_, .f32⟩
  | 40 => ⟨S4096x15x1, .f32⟩
  | 41 => ⟨S4096x15x1, .f32⟩
  | 42 => ⟨S4096x15x1, .f32⟩
  | 43 => ⟨S_, .f32⟩
  | 44 => ⟨S4096x15x1, .f32⟩
  | 45 => ⟨S4096x15x1, .f32⟩
  | 46 => ⟨S_, .f32⟩
  | 47 => ⟨S4096x15x1, .f32⟩
  | 48 => ⟨S4096x15x1, .f32⟩
  | 49 => ⟨S4096x15x1, .f32⟩
  | 50 => ⟨S4096x15x1, .f32⟩
  | 51 => ⟨S4096x15x1, .f32⟩
  | 52 => ⟨S4096x15x3, .f32⟩
  | 53 => ⟨S4096x15x3, .f32⟩
  | 54 => ⟨S4096x15x3, .f32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S4096x1, .i32⟩
  | 63 => ⟨S1, .i32⟩
  | 64 => ⟨S_, .i32⟩
  | 65 => ⟨S4096x1, .i32⟩
  | 66 => ⟨S4096x1, .i1⟩
  | 67 => ⟨S1x1, .i32⟩
  | 68 => ⟨S4096x1, .i32⟩
  | 69 => ⟨S4096x1, .i1⟩
  | 70 => ⟨S4096x1, .i1⟩
  | 71 => ⟨S_, .i1⟩
  | 72 => ⟨S4096, .i1⟩
  | 73 => ⟨S4096x15x6, .f32⟩
  | 74 => ⟨S4096x15x6, .i1⟩
  | 75 => ⟨S_, .f32⟩
  | 76 => ⟨S4096x15x6, .f32⟩
  | 77 => ⟨S4096x15x6, .f32⟩
  | 78 => ⟨S4096x15x3, .f32⟩
  | 79 => ⟨S4096x15x3, .f32⟩
  | 80 => ⟨S4096x15x3, .f32⟩
  | 81 => ⟨S_, .f32⟩
  | 82 => ⟨S4096x15, .f32⟩
  | 83 => ⟨S4096x15x1, .f32⟩
  | 84 => ⟨S4096x15x1, .f32⟩
  | 85 => ⟨S4096x15x3, .f32⟩
  | 86 => ⟨S4096x15x3, .f32⟩
  | 87 => ⟨S4096x15x3, .f32⟩
  | 88 => ⟨S_, .f32⟩
  | 89 => ⟨S4096x15, .f32⟩
  | 90 => ⟨S4096x15x1, .f32⟩
  | 91 => ⟨S4096x15x3, .f32⟩
  | 92 => ⟨S4096x15x3, .f32⟩
  | 93 => ⟨S4096x15x3, .f32⟩
  | 94 => ⟨S4096x15x3, .f32⟩
  | 95 => ⟨S_, .f32⟩
  | 96 => ⟨S4096x15, .f32⟩
  | 97 => ⟨S4096x15x1, .f32⟩
  | 98 => ⟨S4096x15x1, .f32⟩
  | 99 => ⟨S4096x15x3, .f32⟩
  | 100 => ⟨S4096x15x3, .f32⟩
  | 101 => ⟨S4096x15x1, .f32⟩
  | 102 => ⟨S4096x15, .f32⟩
  | 103 => ⟨S4096x15x1, .f32⟩
  | 104 => ⟨S4096x15, .f32⟩
  | 105 => ⟨S4096x15x1, .f32⟩
  | 106 => ⟨S4096x15, .f32⟩
  | 107 => ⟨S4096x15x1, .f32⟩
  | 108 => ⟨S4096x15, .f32⟩
  | 109 => ⟨S4096x15x1, .f32⟩
  | 110 => ⟨S4096x15, .f32⟩
  | 111 => ⟨S4096x15x1, .f32⟩
  | 112 => ⟨S4096x15, .f32⟩
  | 113 => ⟨S4096x15, .f32⟩
  | 114 => ⟨S4096x15, .f32⟩
  | 115 => ⟨S4096x15, .f32⟩
  | 116 => ⟨S4096x15, .f32⟩
  | 117 => ⟨S4096x15, .f32⟩
  | 118 => ⟨S4096x15, .f32⟩
  | 119 => ⟨S4096x15, .f32⟩
  | 120 => ⟨S4096x15, .f32⟩
  | 121 => ⟨S4096x15, .f32⟩
  | 122 => ⟨S4096x15x1, .f32⟩
  | 123 => ⟨S4096x15x1, .f32⟩
  | 124 => ⟨S4096x15x1, .f32⟩
  | 125 => ⟨S4096x15x3, .f32⟩
  | 126 => ⟨S4096x15x1x3, .f32⟩
  | 127 => ⟨S4096x15x1x3, .f32⟩
  | _ => ⟨S100000x6, .f32⟩

abbrev hbmTy0_12 (i : Nat) : BufTy := match i % 128 with
  | 0 => ⟨S4096x15x1x3, .f32⟩
  | 1 => ⟨S4096x15x3x3, .f32⟩
  | 2 => ⟨S4096x15x1x1, .f32⟩
  | 3 => ⟨S4096x15, .f32⟩
  | 4 => ⟨S4096x15x1x1, .f32⟩
  | 5 => ⟨S4096x15, .f32⟩
  | 6 => ⟨S4096x15x1x1, .f32⟩
  | 7 => ⟨S4096x15, .f32⟩
  | 8 => ⟨S4096x15x1x1, .f32⟩
  | 9 => ⟨S4096x15, .f32⟩
  | 10 => ⟨S4096x15x1x1, .f32⟩
  | 11 => ⟨S4096x15, .f32⟩
  | 12 => ⟨S4096x15x1x1, .f32⟩
  | 13 => ⟨S4096x15, .f32⟩
  | 14 => ⟨S4096x15x1x1, .f32⟩
  | 15 => ⟨S4096x15, .f32⟩
  | 16 => ⟨S4096x15x1x1, .f32⟩
  | 17 => ⟨S4096x15, .f32⟩
  | 18 => ⟨S4096x15x1x1, .f32⟩
  | 19 => ⟨S4096x15, .f32⟩
  | 20 => ⟨S_, .f32⟩
  | 21 => ⟨S4096x15, .f32⟩
  | 22 => ⟨S4096x15, .f32⟩
  | 23 => ⟨S4096x15, .f32⟩
  | 24 => ⟨S4096x15, .f32⟩
  | 25 => ⟨S_, .f32⟩
  | 26 => ⟨S4096x15, .f32⟩
  | 27 => ⟨S4096x15, .f32⟩
  | 28 => ⟨S4096x15, .f32⟩
  | 29 => ⟨S4096x15, .f32⟩
  | 30 => ⟨S_, .f32⟩
  | 31 => ⟨S4096x15, .f32⟩
  | 32 => ⟨S4096x15, .f32⟩
  | 33 => ⟨S4096x15, .f32⟩
  | 34 => ⟨S4096x15, .f32⟩
  | 35 => ⟨S_, .f32⟩
  | 36 => ⟨S4096x15, .f32⟩
  | 37 => ⟨S4096x15, .f32⟩
  | 38 => ⟨S4096x15, .f32⟩
  | 39 => ⟨S4096x15, .f32⟩
  | 40 => ⟨S4096x15x1, .f32⟩
  | 41 => ⟨S4096x15x1, .f32⟩
  | 42 => ⟨S4096x15x1, .f32⟩
  | 43 => ⟨S4096x15x1, .f32⟩
  | 44 => ⟨S4096x15x4, .f32⟩
  | 45 => ⟨S_, .f32⟩
  | 46 => ⟨S4096x15x4, .f32⟩
  | 47 => ⟨S4096x15x4, .f32⟩
  | 48 => ⟨S4096x15x4, .f32⟩
  | 49 => ⟨S4096x15x1, .f32⟩
  | 50 => ⟨S4096x15, .f32⟩
  | 51 => ⟨S4096x15, .f32⟩
  | 52 => ⟨S4096x15, .f32⟩
  | 53 => ⟨S4096x15, .f32⟩
  | 54 => ⟨S4096x15, .f32⟩
  | 55 => ⟨S4096x15x1, .f32⟩
  | 56 => ⟨S4096x15x1, .f32⟩
  | 57 => ⟨S4096x15x1, .f32⟩
  | 58 => ⟨S4096x15x1, .f32⟩
  | 59 => ⟨S4096x15x4, .f32⟩
  | 60 => ⟨S4096x15, .f32⟩
  | 61 => ⟨S4096x15x1, .f32⟩
  | 62 => ⟨S4096x15, .f32⟩
  | 63 => ⟨S4096x15, .f32⟩
  | 64 => ⟨S4096x15, .f32⟩
  | 65 => ⟨S4096x15, .f32⟩
  | 66 => ⟨S4096x15x1, .f32⟩
  | 67 => ⟨S4096x15x1, .f32⟩
  | 68 => ⟨S4096x15x1, .f32⟩
  | 69 => ⟨S4096x15x1, .f32⟩
  | 70 => ⟨S4096x15x4, .f32⟩
  | 71 => ⟨S4096x15, .f32⟩
  | 72 => ⟨S4096x15, .f32⟩
  | 73 => ⟨S4096x15x1, .f32⟩
  | 74 => ⟨S4096x15, .f32⟩
  | 75 => ⟨S4096x15, .f32⟩
  | 76 => ⟨S4096x15, .f32⟩
  | 77 => ⟨S4096x15x1, .f32⟩
  | 78 => ⟨S4096x15x1, .f32⟩
  | 79 => ⟨S4096x15x1, .f32⟩
  | 80 => ⟨S4096x15x1, .f32⟩
  | 81 => ⟨S4096x15x4, .f32⟩
  | 82 => ⟨S4096x15, .f32⟩
  | 83 => ⟨S4096x15, .f32⟩
  | 84 => ⟨S4096x15, .f32⟩
  | 85 => ⟨S4096x15x1, .f32⟩
  | 86 => ⟨S4096x15, .f32⟩
  | 87 => ⟨S4096x15, .f32⟩
  | 88 => ⟨S4096x15x1, .f32⟩
  | 89 => ⟨S4096x15x1, .f32⟩
  | 90 => ⟨S4096x15x1, .f32⟩
  | 91 => ⟨S4096x15x1, .f32⟩
  | 92 => ⟨S4096x15x4, .f32⟩
  | 93 => ⟨S4096x15x1x4, .f32⟩
  | 94 => ⟨S4096x15x1x4, .f32⟩
  | 95 => ⟨S4096x15x1x4, .f32⟩
  | 96 => ⟨S4096x15x1x4, .f32⟩
  | 97 => ⟨S4096x15x4x4, .f32⟩
  | 98 => ⟨S4096x15x4x1, .f32⟩
  | 99 => ⟨S_, .f32⟩
  | 100 => ⟨S4096x15x4x1, .f32⟩
  | 101 => ⟨S4096x15x4x1, .f32⟩
  | 102 => ⟨S_, .f32⟩
  | 103 => ⟨S4096x15x4x1, .f32⟩
  | 104 => ⟨S4096x15x4x1, .f32⟩
  | 105 => ⟨S4096x15x4x4, .f32⟩
  | 106 => ⟨S4096x15x4x4, .f32⟩
  | 107 => ⟨S4096x15x4, .i32⟩
  | 108 => ⟨S_, .f32⟩
  | 109 => ⟨S_, .i32⟩
  | 110 => ⟨S4096x15, .f32⟩
  | 111 => ⟨S4096x15, .i32⟩
  | 112 => ⟨S4096x15x1x1, .i32⟩
  | 113 => ⟨S_, .i32⟩
  | 114 => ⟨S4096x15x1x1, .i32⟩
  | 115 => ⟨S4096x15x1x1, .i1⟩
  | 116 => ⟨S_, .i32⟩
  | 117 => ⟨S4096x15x1x1, .i32⟩
  | 118 => ⟨S4096x15x1x1, .i32⟩
  | 119 => ⟨S4096x15x1x1, .i32⟩
  | 120 => ⟨S1, .i32⟩
  | 121 => ⟨S_, .i32⟩
  | 122 => ⟨S4096x15x1x1, .i32⟩
  | 123 => ⟨S4096x15x1x1, .i1⟩
  | 124 => ⟨S1x1x1x1, .i32⟩
  | 125 => ⟨S4096x15x1x1, .i32⟩
  | 126 => ⟨S4096x15x1x1, .i1⟩
  | 127 => ⟨S4096x15x1x1, .i1⟩
  | _ => ⟨S100000x6, .f32⟩

abbrev hbmTy0_13 (i : Nat) : BufTy := match i % 128 with
  | 0 => ⟨S_, .i1⟩
  | 1 => ⟨S4096x15x1, .i1⟩
  | 2 => ⟨S4096x15x1x4, .f32⟩
  | 3 => ⟨S4096x15x1x4, .i1⟩
  | 4 => ⟨S_, .f32⟩
  | 5 => ⟨S4096x15x1x4, .f32⟩
  | 6 => ⟨S4096x15x1x4, .f32⟩
  | 7 => ⟨S4096x15x4, .f32⟩
  | 8 => ⟨S4096x15x3, .f32⟩
  | 9 => ⟨S4096x15x3, .f32⟩
  | 10 => ⟨S_, .f32⟩
  | 11 => ⟨S4096x15, .f32⟩
  | 12 => ⟨S4096x15x1, .f32⟩
  | 13 => ⟨S4096x15x1, .f32⟩
  | 14 => ⟨S4096x15x1, .f32⟩
  | 15 => ⟨S4096x15x1, .f32⟩
  | 16 => ⟨S_, .f32⟩
  | 17 => ⟨S4096x15x1, .f32⟩
  | 18 => ⟨S4096x15x1, .f32⟩
  | 19 => ⟨S4096x15x1, .f32⟩
  | 20 => ⟨S_, .f32⟩
  | 21 => ⟨S4096x15x1, .f32⟩
  | 22 => ⟨S4096x15x1, .i1⟩
  | 23 => ⟨S_, .f32⟩
  | 24 => ⟨S4096x15x1, .f32⟩
  | 25 => ⟨S4096x15x1, .f32⟩
  | 26 => ⟨S4096x15x1, .f32⟩
  | 27 => ⟨S_, .f32⟩
  | 28 => ⟨S4096x15x1, .f32⟩
  | 29 => ⟨S4096x15x1, .f32⟩
  | 30 => ⟨S_, .f32⟩
  | 31 => ⟨S4096x15x1, .f32⟩
  | 32 => ⟨S4096x15x1, .f32⟩
  | 33 => ⟨S4096x15x1, .f32⟩
  | 34 => ⟨S4096x15x1, .f32⟩
  | 35 => ⟨S4096x15x1, .f32⟩
  | 36 => ⟨S4096x15x3, .f32⟩
  | 37 => ⟨S4096x15x3, .f32⟩
  | 38 => ⟨S4096x15x3, .f32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S4096x1, .i32⟩
  | 47 => ⟨S1, .i32⟩
  | 48 => ⟨S_, .i32⟩
  | 49 => ⟨S4096x1, .i32⟩
  | 50 => ⟨S4096x1, .i1⟩
  | 51 => ⟨S1x1, .i32⟩
  | 52 => ⟨S4096x1, .i32⟩
  | 53 => ⟨S4096x1, .i1⟩
  | 54 => ⟨S4096x1, .i1⟩
  | 55 => ⟨S_, .i1⟩
  | 56 => ⟨S4096, .i1⟩
  | 57 => ⟨S4096x50, .f32⟩
  | 58 => ⟨S4096x50, .i1⟩
  | 59 => ⟨S_, .f32⟩
  | 60 => ⟨S4096x50, .f32⟩
  | 61 => ⟨S4096x50, .f32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S1, .i32⟩
  | 71 => ⟨S_, .i32⟩
  | 72 => ⟨S4096x1, .i32⟩
  | 73 => ⟨S4096x1, .i1⟩
  | 74 => ⟨S1x1, .i32⟩
  | 75 => ⟨S4096x1, .i32⟩
  | 76 => ⟨S4096x1, .i1⟩
  | 77 => ⟨S4096x1, .i1⟩
  | 78 => ⟨S_, .i1⟩
  | 79 => ⟨S4096, .i1⟩
  | 80 => ⟨S4096x3, .f32⟩
  | 81 => ⟨S4096x3, .i1⟩
  | 82 => ⟨S_, .f32⟩
  | 83 => ⟨S4096x3, .f32⟩
  | 84 => ⟨S4096x3, .f32⟩
  | _ => ⟨S100000x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_call1_v0 : Ref sig .tc := ⟨.hbm, 35, rfl⟩
abbrev main_call1_v1 : Ref sig .tc := ⟨.hbm, 36, rfl⟩
abbrev main_call1_call0_v0 : Ref sig .tc := ⟨.hbm, 37, rfl⟩
abbrev main_call1_call0_cst : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_cst : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_call1_v0 : Ref sig .tc := ⟨.hbm, 51, rfl⟩
abbrev main_call1_call1_cst : Ref sig .tc := ⟨.hbm, 52, rfl⟩
abbrev main_call1_call1_v1 : Ref sig .tc := ⟨.hbm, 53, rfl⟩
abbrev main_call1_call1_v2 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_v15 : Ref sig .tc := ⟨.hbm, 59, rfl⟩
abbrev main_call1_v16 : Ref sig .tc := ⟨.hbm, 60, rfl⟩
abbrev main_call1_v17 : Ref sig .tc := ⟨.hbm, 61, rfl⟩
abbrev main_call1_v18 : Ref sig .tc := ⟨.hbm, 62, rfl⟩
abbrev main_call1_v19 : Ref sig .tc := ⟨.hbm, 63, rfl⟩
abbrev main_call1_v20 : Ref sig .tc := ⟨.hbm, 64, rfl⟩
abbrev main_call1_v21 : Ref sig .tc := ⟨.hbm, 65, rfl⟩
abbrev main_call1_v22 : Ref sig .tc := ⟨.hbm, 66, rfl⟩
abbrev main_call1_v23 : Ref sig .tc := ⟨.hbm, 67, rfl⟩
abbrev main_call1_v24 : Ref sig .tc := ⟨.hbm, 68, rfl⟩
abbrev main_call1_v25 : Ref sig .tc := ⟨.hbm, 69, rfl⟩
abbrev main_call1_v26 : Ref sig .tc := ⟨.hbm, 70, rfl⟩
abbrev main_call1_v27 : Ref sig .tc := ⟨.hbm, 71, rfl⟩
abbrev main_call1_v28 : Ref sig .tc := ⟨.hbm, 72, rfl⟩
abbrev main_call1_v29 : Ref sig .tc := ⟨.hbm, 73, rfl⟩
abbrev main_call1_v30 : Ref sig .tc := ⟨.hbm, 74, rfl⟩
abbrev main_call1_v31 : Ref sig .tc := ⟨.hbm, 75, rfl⟩
abbrev main_call1_v32 : Ref sig .tc := ⟨.hbm, 76, rfl⟩
abbrev main_call1_v33 : Ref sig .tc := ⟨.hbm, 77, rfl⟩
abbrev main_call1_v34 : Ref sig .tc := ⟨.hbm, 78, rfl⟩
abbrev main_call1_v35 : Ref sig .tc := ⟨.hbm, 79, rfl⟩
abbrev main_call1_v36 : Ref sig .tc := ⟨.hbm, 80, rfl⟩
abbrev main_call1_v37 : Ref sig .tc := ⟨.hbm, 81, rfl⟩
abbrev main_call1_v38 : Ref sig .tc := ⟨.hbm, 82, rfl⟩
abbrev main_call1_v39 : Ref sig .tc := ⟨.hbm, 83, rfl⟩
abbrev main_call1_v40 : Ref sig .tc := ⟨.hbm, 84, rfl⟩
abbrev main_call1_v41 : Ref sig .tc := ⟨.hbm, 85, rfl⟩
abbrev main_call1_v42 : Ref sig .tc := ⟨.hbm, 86, rfl⟩
abbrev main_call1_v43 : Ref sig .tc := ⟨.hbm, 87, rfl⟩
abbrev main_call1_v44 : Ref sig .tc := ⟨.hbm, 88, rfl⟩
abbrev main_call1_v45 : Ref sig .tc := ⟨.hbm, 89, rfl⟩
abbrev main_call1_v46 : Ref sig .tc := ⟨.hbm, 90, rfl⟩
abbrev main_call1_v47 : Ref sig .tc := ⟨.hbm, 91, rfl⟩
abbrev main_call1_v48 : Ref sig .tc := ⟨.hbm, 92, rfl⟩
abbrev main_call1_v49 : Ref sig .tc := ⟨.hbm, 93, rfl⟩
abbrev main_call1_v50 : Ref sig .tc := ⟨.hbm, 94, rfl⟩
abbrev main_call1_v51 : Ref sig .tc := ⟨.hbm, 95, rfl⟩
abbrev main_call1_v52 : Ref sig .tc := ⟨.hbm, 96, rfl⟩
abbrev main_call1_v53 : Ref sig .tc := ⟨.hbm, 97, rfl⟩
abbrev main_call1_v54 : Ref sig .tc := ⟨.hbm, 98, rfl⟩
abbrev main_call1_v55 : Ref sig .tc := ⟨.hbm, 99, rfl⟩
abbrev main_call1_v56 : Ref sig .tc := ⟨.hbm, 100, rfl⟩
abbrev main_call1_v57 : Ref sig .tc := ⟨.hbm, 101, rfl⟩
abbrev main_call1_v58 : Ref sig .tc := ⟨.hbm, 102, rfl⟩
abbrev main_call1_v59 : Ref sig .tc := ⟨.hbm, 103, rfl⟩
abbrev main_call1_v60 : Ref sig .tc := ⟨.hbm, 104, rfl⟩
abbrev main_call1_cst_0 : Ref sig .tc := ⟨.hbm, 105, rfl⟩
abbrev main_call1_v61 : Ref sig .tc := ⟨.hbm, 106, rfl⟩
abbrev main_call1_v62 : Ref sig .tc := ⟨.hbm, 107, rfl⟩
abbrev main_call1_v63 : Ref sig .tc := ⟨.hbm, 108, rfl⟩
abbrev main_call1_v64 : Ref sig .tc := ⟨.hbm, 109, rfl⟩
abbrev main_call1_cst_1 : Ref sig .tc := ⟨.hbm, 110, rfl⟩
abbrev main_call1_v65 : Ref sig .tc := ⟨.hbm, 111, rfl⟩
abbrev main_call1_v66 : Ref sig .tc := ⟨.hbm, 112, rfl⟩
abbrev main_call1_v67 : Ref sig .tc := ⟨.hbm, 113, rfl⟩
abbrev main_call1_v68 : Ref sig .tc := ⟨.hbm, 114, rfl⟩
abbrev main_call1_cst_2 : Ref sig .tc := ⟨.hbm, 115, rfl⟩
abbrev main_call1_v69 : Ref sig .tc := ⟨.hbm, 116, rfl⟩
abbrev main_call1_v70 : Ref sig .tc := ⟨.hbm, 117, rfl⟩
abbrev main_call1_v71 : Ref sig .tc := ⟨.hbm, 118, rfl⟩
abbrev main_call1_v72 : Ref sig .tc := ⟨.hbm, 119, rfl⟩
abbrev main_call1_cst_3 : Ref sig .tc := ⟨.hbm, 120, rfl⟩
abbrev main_call1_v73 : Ref sig .tc := ⟨.hbm, 121, rfl⟩
abbrev main_call1_v74 : Ref sig .tc := ⟨.hbm, 122, rfl⟩
abbrev main_call1_v75 : Ref sig .tc := ⟨.hbm, 123, rfl⟩
abbrev main_call1_v76 : Ref sig .tc := ⟨.hbm, 124, rfl⟩
abbrev main_call1_v77 : Ref sig .tc := ⟨.hbm, 125, rfl⟩
abbrev main_call1_v78 : Ref sig .tc := ⟨.hbm, 126, rfl⟩
abbrev main_call1_v79 : Ref sig .tc := ⟨.hbm, 127, rfl⟩
abbrev main_call1_v80 : Ref sig .tc := ⟨.hbm, 128, rfl⟩
abbrev main_call1_v81 : Ref sig .tc := ⟨.hbm, 129, rfl⟩
abbrev main_call1_cst_4 : Ref sig .tc := ⟨.hbm, 130, rfl⟩
abbrev main_call1_v82 : Ref sig .tc := ⟨.hbm, 131, rfl⟩
abbrev main_call1_v83 : Ref sig .tc := ⟨.hbm, 132, rfl⟩
abbrev main_call1_v84 : Ref sig .tc := ⟨.hbm, 133, rfl⟩
abbrev main_call1_v85 : Ref sig .tc := ⟨.hbm, 134, rfl⟩
abbrev main_call1_v86 : Ref sig .tc := ⟨.hbm, 135, rfl⟩
abbrev main_call1_v87 : Ref sig .tc := ⟨.hbm, 136, rfl⟩
abbrev main_call1_v88 : Ref sig .tc := ⟨.hbm, 137, rfl⟩
abbrev main_call1_v89 : Ref sig .tc := ⟨.hbm, 138, rfl⟩
abbrev main_call1_v90 : Ref sig .tc := ⟨.hbm, 139, rfl⟩
abbrev main_call1_v91 : Ref sig .tc := ⟨.hbm, 140, rfl⟩
abbrev main_call1_v92 : Ref sig .tc := ⟨.hbm, 141, rfl⟩
abbrev main_call1_v93 : Ref sig .tc := ⟨.hbm, 142, rfl⟩
abbrev main_call1_v94 : Ref sig .tc := ⟨.hbm, 143, rfl⟩
abbrev main_call1_v95 : Ref sig .tc := ⟨.hbm, 144, rfl⟩
abbrev main_call1_v96 : Ref sig .tc := ⟨.hbm, 145, rfl⟩
abbrev main_call1_v97 : Ref sig .tc := ⟨.hbm, 146, rfl⟩
abbrev main_call1_v98 : Ref sig .tc := ⟨.hbm, 147, rfl⟩
abbrev main_call1_v99 : Ref sig .tc := ⟨.hbm, 148, rfl⟩
abbrev main_call1_v100 : Ref sig .tc := ⟨.hbm, 149, rfl⟩
abbrev main_call1_v101 : Ref sig .tc := ⟨.hbm, 150, rfl⟩
abbrev main_call1_v102 : Ref sig .tc := ⟨.hbm, 151, rfl⟩
abbrev main_call1_v103 : Ref sig .tc := ⟨.hbm, 152, rfl⟩
abbrev main_call1_v104 : Ref sig .tc := ⟨.hbm, 153, rfl⟩
abbrev main_call1_v105 : Ref sig .tc := ⟨.hbm, 154, rfl⟩
abbrev main_call1_v106 : Ref sig .tc := ⟨.hbm, 155, rfl⟩
abbrev main_call1_v107 : Ref sig .tc := ⟨.hbm, 156, rfl⟩
abbrev main_call1_v108 : Ref sig .tc := ⟨.hbm, 157, rfl⟩
abbrev main_call1_v109 : Ref sig .tc := ⟨.hbm, 158, rfl⟩
abbrev main_call1_v110 : Ref sig .tc := ⟨.hbm, 159, rfl⟩
abbrev main_call1_v111 : Ref sig .tc := ⟨.hbm, 160, rfl⟩
abbrev main_call1_v112 : Ref sig .tc := ⟨.hbm, 161, rfl⟩
abbrev main_call1_v113 : Ref sig .tc := ⟨.hbm, 162, rfl⟩
abbrev main_call1_v114 : Ref sig .tc := ⟨.hbm, 163, rfl⟩
abbrev main_call1_v115 : Ref sig .tc := ⟨.hbm, 164, rfl⟩
abbrev main_call1_v116 : Ref sig .tc := ⟨.hbm, 165, rfl⟩
abbrev main_call1_v117 : Ref sig .tc := ⟨.hbm, 166, rfl⟩
abbrev main_call1_v118 : Ref sig .tc := ⟨.hbm, 167, rfl⟩
abbrev main_call1_v119 : Ref sig .tc := ⟨.hbm, 168, rfl⟩
abbrev main_call1_v120 : Ref sig .tc := ⟨.hbm, 169, rfl⟩
abbrev main_call1_v121 : Ref sig .tc := ⟨.hbm, 170, rfl⟩
abbrev main_call1_v122 : Ref sig .tc := ⟨.hbm, 171, rfl⟩
abbrev main_call1_v123 : Ref sig .tc := ⟨.hbm, 172, rfl⟩
abbrev main_call1_v124 : Ref sig .tc := ⟨.hbm, 173, rfl⟩
abbrev main_call1_v125 : Ref sig .tc := ⟨.hbm, 174, rfl⟩
abbrev main_call1_v126 : Ref sig .tc := ⟨.hbm, 175, rfl⟩
abbrev main_call1_v127 : Ref sig .tc := ⟨.hbm, 176, rfl⟩
abbrev main_call1_v128 : Ref sig .tc := ⟨.hbm, 177, rfl⟩
abbrev main_call1_v129 : Ref sig .tc := ⟨.hbm, 178, rfl⟩
abbrev main_call1_v130 : Ref sig .tc := ⟨.hbm, 179, rfl⟩
abbrev main_call1_v131 : Ref sig .tc := ⟨.hbm, 180, rfl⟩
abbrev main_call1_v132 : Ref sig .tc := ⟨.hbm, 181, rfl⟩
abbrev main_call1_v133 : Ref sig .tc := ⟨.hbm, 182, rfl⟩
abbrev main_call1_v134 : Ref sig .tc := ⟨.hbm, 183, rfl⟩
abbrev main_call1_cst_5 : Ref sig .tc := ⟨.hbm, 184, rfl⟩
abbrev main_call1_v135 : Ref sig .tc := ⟨.hbm, 185, rfl⟩
abbrev main_call1_v136 : Ref sig .tc := ⟨.hbm, 186, rfl⟩
abbrev main_call1_cst_6 : Ref sig .tc := ⟨.hbm, 187, rfl⟩
abbrev main_call1_v137 : Ref sig .tc := ⟨.hbm, 188, rfl⟩
abbrev main_call1_v138 : Ref sig .tc := ⟨.hbm, 189, rfl⟩
abbrev main_call1_v139 : Ref sig .tc := ⟨.hbm, 190, rfl⟩
abbrev main_call1_v140 : Ref sig .tc := ⟨.hbm, 191, rfl⟩
abbrev main_call1_call2_v0 : Ref sig .tc := ⟨.hbm, 192, rfl⟩
abbrev main_call1_call2_cst : Ref sig .tc := ⟨.hbm, 193, rfl⟩
abbrev main_call1_call2_c : Ref sig .tc := ⟨.hbm, 194, rfl⟩
abbrev main_call1_call2_v1_0 : Ref sig .tc := ⟨.hbm, 195, rfl⟩
abbrev main_call1_v141 : Ref sig .tc := ⟨.hbm, 196, rfl⟩
abbrev main_call1_v142 : Ref sig .tc := ⟨.hbm, 197, rfl⟩
abbrev main_call1_call3_c : Ref sig .tc := ⟨.hbm, 198, rfl⟩
abbrev main_call1_call3_v0 : Ref sig .tc := ⟨.hbm, 199, rfl⟩
abbrev main_call1_call3_v1 : Ref sig .tc := ⟨.hbm, 200, rfl⟩
abbrev main_call1_call3_c_0 : Ref sig .tc := ⟨.hbm, 201, rfl⟩
abbrev main_call1_call3_v2 : Ref sig .tc := ⟨.hbm, 202, rfl⟩
abbrev main_call1_call3_v3 : Ref sig .tc := ⟨.hbm, 203, rfl⟩
abbrev main_call1_call3_v4 : Ref sig .tc := ⟨.hbm, 204, rfl⟩
abbrev main_call1_call3_v5 : Ref sig .tc := ⟨.hbm, 205, rfl⟩
abbrev main_call1_call3_c_1 : Ref sig .tc := ⟨.hbm, 206, rfl⟩
abbrev main_call1_call3_c_2 : Ref sig .tc := ⟨.hbm, 207, rfl⟩
abbrev main_call1_call3_v6 : Ref sig .tc := ⟨.hbm, 208, rfl⟩
abbrev main_call1_call3_v7 : Ref sig .tc := ⟨.hbm, 209, rfl⟩
abbrev main_call1_call3_v8 : Ref sig .tc := ⟨.hbm, 210, rfl⟩
abbrev main_call1_call3_v9 : Ref sig .tc := ⟨.hbm, 211, rfl⟩
abbrev main_call1_call3_v10 : Ref sig .tc := ⟨.hbm, 212, rfl⟩
abbrev main_call1_call3_v11 : Ref sig .tc := ⟨.hbm, 213, rfl⟩
abbrev main_call1_call3_c_3 : Ref sig .tc := ⟨.hbm, 214, rfl⟩
abbrev main_call1_call3_v12 : Ref sig .tc := ⟨.hbm, 215, rfl⟩
abbrev main_call1_call3_v13 : Ref sig .tc := ⟨.hbm, 216, rfl⟩
abbrev main_call1_call3_v14 : Ref sig .tc := ⟨.hbm, 217, rfl⟩
abbrev main_call1_call3_cst : Ref sig .tc := ⟨.hbm, 218, rfl⟩
abbrev main_call1_call3_v15 : Ref sig .tc := ⟨.hbm, 219, rfl⟩
abbrev main_call1_v143 : Ref sig .tc := ⟨.hbm, 220, rfl⟩
abbrev main_call1_v144 : Ref sig .tc := ⟨.hbm, 221, rfl⟩
abbrev main_call1_v145 : Ref sig .tc := ⟨.hbm, 222, rfl⟩
abbrev main_call1_call4_v0 : Ref sig .tc := ⟨.hbm, 223, rfl⟩
abbrev main_call1_call4_cst : Ref sig .tc := ⟨.hbm, 224, rfl⟩
abbrev main_call1_call4_v1 : Ref sig .tc := ⟨.hbm, 225, rfl⟩
abbrev main_call1_call4_v2 : Ref sig .tc := ⟨.hbm, 226, rfl⟩
abbrev main_call1_v146 : Ref sig .tc := ⟨.hbm, 227, rfl⟩
abbrev main_call1_v147 : Ref sig .tc := ⟨.hbm, 228, rfl⟩
abbrev main_call1_v148 : Ref sig .tc := ⟨.hbm, 229, rfl⟩
abbrev main_call1_cst_7 : Ref sig .tc := ⟨.hbm, 230, rfl⟩
abbrev main_call1_v149 : Ref sig .tc := ⟨.hbm, 231, rfl⟩
abbrev main_call1_v150 : Ref sig .tc := ⟨.hbm, 232, rfl⟩
abbrev main_call1_v151 : Ref sig .tc := ⟨.hbm, 233, rfl⟩
abbrev main_call1_cst_8 : Ref sig .tc := ⟨.hbm, 234, rfl⟩
abbrev main_call1_v152 : Ref sig .tc := ⟨.hbm, 235, rfl⟩
abbrev main_call1_v153 : Ref sig .tc := ⟨.hbm, 236, rfl⟩
abbrev main_call1_cst_9 : Ref sig .tc := ⟨.hbm, 237, rfl⟩
abbrev main_call1_v154 : Ref sig .tc := ⟨.hbm, 238, rfl⟩
abbrev main_call1_v155 : Ref sig .tc := ⟨.hbm, 239, rfl⟩
abbrev main_call1_v156 : Ref sig .tc := ⟨.hbm, 240, rfl⟩
abbrev main_call1_cst_10 : Ref sig .tc := ⟨.hbm, 241, rfl⟩
abbrev main_call1_v157 : Ref sig .tc := ⟨.hbm, 242, rfl⟩
abbrev main_call1_v158 : Ref sig .tc := ⟨.hbm, 243, rfl⟩
abbrev main_call1_cst_11 : Ref sig .tc := ⟨.hbm, 244, rfl⟩
abbrev main_call1_v159 : Ref sig .tc := ⟨.hbm, 245, rfl⟩
abbrev main_call1_v160 : Ref sig .tc := ⟨.hbm, 246, rfl⟩
abbrev main_call1_v161 : Ref sig .tc := ⟨.hbm, 247, rfl⟩
abbrev main_call1_v162 : Ref sig .tc := ⟨.hbm, 248, rfl⟩
abbrev main_call1_v163 : Ref sig .tc := ⟨.hbm, 249, rfl⟩
abbrev main_call1_v164 : Ref sig .tc := ⟨.hbm, 250, rfl⟩
abbrev main_call1_v165 : Ref sig .tc := ⟨.hbm, 251, rfl⟩
abbrev main_v2 : Ref sig .tc := ⟨.hbm, 252, rfl⟩
abbrev main_v3 : Ref sig .tc := ⟨.hbm, 253, rfl⟩
abbrev main_call2_c : Ref sig .tc := ⟨.hbm, 254, rfl⟩
abbrev main_call2_v0 : Ref sig .tc := ⟨.hbm, 255, rfl⟩
abbrev main_call2_v1 : Ref sig .tc := ⟨.hbm, 256, rfl⟩
abbrev main_call2_c_0 : Ref sig .tc := ⟨.hbm, 257, rfl⟩
abbrev main_call2_v2 : Ref sig .tc := ⟨.hbm, 258, rfl⟩
abbrev main_call2_v3 : Ref sig .tc := ⟨.hbm, 259, rfl⟩
abbrev main_call2_v4 : Ref sig .tc := ⟨.hbm, 260, rfl⟩
abbrev main_call2_v5 : Ref sig .tc := ⟨.hbm, 261, rfl⟩
abbrev main_call2_c_1 : Ref sig .tc := ⟨.hbm, 262, rfl⟩
abbrev main_call2_c_2 : Ref sig .tc := ⟨.hbm, 263, rfl⟩
abbrev main_call2_v6 : Ref sig .tc := ⟨.hbm, 264, rfl⟩
abbrev main_call2_v7 : Ref sig .tc := ⟨.hbm, 265, rfl⟩
abbrev main_call2_v8 : Ref sig .tc := ⟨.hbm, 266, rfl⟩
abbrev main_call2_v9 : Ref sig .tc := ⟨.hbm, 267, rfl⟩
abbrev main_call2_v10 : Ref sig .tc := ⟨.hbm, 268, rfl⟩
abbrev main_call2_v11 : Ref sig .tc := ⟨.hbm, 269, rfl⟩
abbrev main_call2_c_3 : Ref sig .tc := ⟨.hbm, 270, rfl⟩
abbrev main_call2_v12 : Ref sig .tc := ⟨.hbm, 271, rfl⟩
abbrev main_call2_v13 : Ref sig .tc := ⟨.hbm, 272, rfl⟩
abbrev main_call2_v14 : Ref sig .tc := ⟨.hbm, 273, rfl⟩
abbrev main_call2_cst : Ref sig .tc := ⟨.hbm, 274, rfl⟩
abbrev main_call2_v15 : Ref sig .tc := ⟨.hbm, 275, rfl⟩
abbrev main_v4 : Ref sig .tc := ⟨.hbm, 276, rfl⟩
abbrev main_call3_v0 : Ref sig .tc := ⟨.hbm, 277, rfl⟩
abbrev main_call3_v1 : Ref sig .tc := ⟨.hbm, 278, rfl⟩
abbrev main_call3_call0_v0 : Ref sig .tc := ⟨.hbm, 279, rfl⟩
abbrev main_call3_call0_cst : Ref sig .tc := ⟨.hbm, 280, rfl⟩
abbrev main_call3_call0_v1 : Ref sig .tc := ⟨.hbm, 281, rfl⟩
abbrev main_call3_call0_v2 : Ref sig .tc := ⟨.hbm, 282, rfl⟩
abbrev main_call3_v2 : Ref sig .tc := ⟨.hbm, 283, rfl⟩
abbrev main_call3_v3 : Ref sig .tc := ⟨.hbm, 284, rfl⟩
abbrev main_call3_v4 : Ref sig .tc := ⟨.hbm, 285, rfl⟩
abbrev main_call3_v5 : Ref sig .tc := ⟨.hbm, 286, rfl⟩
abbrev main_call3_cst : Ref sig .tc := ⟨.hbm, 287, rfl⟩
abbrev main_call3_v6 : Ref sig .tc := ⟨.hbm, 288, rfl⟩
abbrev main_call3_v7 : Ref sig .tc := ⟨.hbm, 289, rfl⟩
abbrev main_call3_v8 : Ref sig .tc := ⟨.hbm, 290, rfl⟩
abbrev main_call3_v9 : Ref sig .tc := ⟨.hbm, 291, rfl⟩
abbrev main_call3_v10 : Ref sig .tc := ⟨.hbm, 292, rfl⟩
abbrev main_call3_call1_v0 : Ref sig .tc := ⟨.hbm, 293, rfl⟩
abbrev main_call3_call1_cst : Ref sig .tc := ⟨.hbm, 294, rfl⟩
abbrev main_call3_call1_v1 : Ref sig .tc := ⟨.hbm, 295, rfl⟩
abbrev main_call3_call1_v2 : Ref sig .tc := ⟨.hbm, 296, rfl⟩
abbrev main_call3_v11 : Ref sig .tc := ⟨.hbm, 297, rfl⟩
abbrev main_call3_v12 : Ref sig .tc := ⟨.hbm, 298, rfl⟩
abbrev main_call3_v13 : Ref sig .tc := ⟨.hbm, 299, rfl⟩
abbrev main_call3_v14 : Ref sig .tc := ⟨.hbm, 300, rfl⟩
abbrev main_call3_v15 : Ref sig .tc := ⟨.hbm, 301, rfl⟩
abbrev main_call3_v16 : Ref sig .tc := ⟨.hbm, 302, rfl⟩
abbrev main_call3_v17 : Ref sig .tc := ⟨.hbm, 303, rfl⟩
abbrev main_call3_v18 : Ref sig .tc := ⟨.hbm, 304, rfl⟩
abbrev main_call3_v19 : Ref sig .tc := ⟨.hbm, 305, rfl⟩
abbrev main_call3_v20 : Ref sig .tc := ⟨.hbm, 306, rfl⟩
abbrev main_call3_v21 : Ref sig .tc := ⟨.hbm, 307, rfl⟩
abbrev main_call3_v22 : Ref sig .tc := ⟨.hbm, 308, rfl⟩
abbrev main_call3_v23 : Ref sig .tc := ⟨.hbm, 309, rfl⟩
abbrev main_call3_v24 : Ref sig .tc := ⟨.hbm, 310, rfl⟩
abbrev main_call3_v25 : Ref sig .tc := ⟨.hbm, 311, rfl⟩
abbrev main_call3_v26 : Ref sig .tc := ⟨.hbm, 312, rfl⟩
abbrev main_call3_v27 : Ref sig .tc := ⟨.hbm, 313, rfl⟩
abbrev main_call3_v28 : Ref sig .tc := ⟨.hbm, 314, rfl⟩
abbrev main_call3_v29 : Ref sig .tc := ⟨.hbm, 315, rfl⟩
abbrev main_call3_v30 : Ref sig .tc := ⟨.hbm, 316, rfl⟩
abbrev main_call3_v31 : Ref sig .tc := ⟨.hbm, 317, rfl⟩
abbrev main_call3_v32 : Ref sig .tc := ⟨.hbm, 318, rfl⟩
abbrev main_call3_v33 : Ref sig .tc := ⟨.hbm, 319, rfl⟩
abbrev main_call3_v34 : Ref sig .tc := ⟨.hbm, 320, rfl⟩
abbrev main_call3_v35 : Ref sig .tc := ⟨.hbm, 321, rfl⟩
abbrev main_call3_v36 : Ref sig .tc := ⟨.hbm, 322, rfl⟩
abbrev main_call3_v37 : Ref sig .tc := ⟨.hbm, 323, rfl⟩
abbrev main_call3_v38 : Ref sig .tc := ⟨.hbm, 324, rfl⟩
abbrev main_call3_v39 : Ref sig .tc := ⟨.hbm, 325, rfl⟩
abbrev main_call3_v40 : Ref sig .tc := ⟨.hbm, 326, rfl⟩
abbrev main_call3_v41 : Ref sig .tc := ⟨.hbm, 327, rfl⟩
abbrev main_call3_v42 : Ref sig .tc := ⟨.hbm, 328, rfl⟩
abbrev main_call3_v43 : Ref sig .tc := ⟨.hbm, 329, rfl⟩
abbrev main_call3_v44 : Ref sig .tc := ⟨.hbm, 330, rfl⟩
abbrev main_call3_v45 : Ref sig .tc := ⟨.hbm, 331, rfl⟩
abbrev main_call3_v46 : Ref sig .tc := ⟨.hbm, 332, rfl⟩
abbrev main_call3_v47 : Ref sig .tc := ⟨.hbm, 333, rfl⟩
abbrev main_call3_v48 : Ref sig .tc := ⟨.hbm, 334, rfl⟩
abbrev main_call3_v49 : Ref sig .tc := ⟨.hbm, 335, rfl⟩
abbrev main_call3_v50 : Ref sig .tc := ⟨.hbm, 336, rfl⟩
abbrev main_call3_v51 : Ref sig .tc := ⟨.hbm, 337, rfl⟩
abbrev main_call3_v52 : Ref sig .tc := ⟨.hbm, 338, rfl⟩
abbrev main_call3_v53 : Ref sig .tc := ⟨.hbm, 339, rfl⟩
abbrev main_call3_v54 : Ref sig .tc := ⟨.hbm, 340, rfl⟩
abbrev main_call3_v55 : Ref sig .tc := ⟨.hbm, 341, rfl⟩
abbrev main_call3_v56 : Ref sig .tc := ⟨.hbm, 342, rfl⟩
abbrev main_call3_v57 : Ref sig .tc := ⟨.hbm, 343, rfl⟩
abbrev main_call3_v58 : Ref sig .tc := ⟨.hbm, 344, rfl⟩
abbrev main_call3_v59 : Ref sig .tc := ⟨.hbm, 345, rfl⟩
abbrev main_call3_v60 : Ref sig .tc := ⟨.hbm, 346, rfl⟩
abbrev main_call3_cst_0 : Ref sig .tc := ⟨.hbm, 347, rfl⟩
abbrev main_call3_v61 : Ref sig .tc := ⟨.hbm, 348, rfl⟩
abbrev main_call3_v62 : Ref sig .tc := ⟨.hbm, 349, rfl⟩
abbrev main_call3_v63 : Ref sig .tc := ⟨.hbm, 350, rfl⟩
abbrev main_call3_v64 : Ref sig .tc := ⟨.hbm, 351, rfl⟩
abbrev main_call3_cst_1 : Ref sig .tc := ⟨.hbm, 352, rfl⟩
abbrev main_call3_v65 : Ref sig .tc := ⟨.hbm, 353, rfl⟩
abbrev main_call3_v66 : Ref sig .tc := ⟨.hbm, 354, rfl⟩
abbrev main_call3_v67 : Ref sig .tc := ⟨.hbm, 355, rfl⟩
abbrev main_call3_v68 : Ref sig .tc := ⟨.hbm, 356, rfl⟩
abbrev main_call3_cst_2 : Ref sig .tc := ⟨.hbm, 357, rfl⟩
abbrev main_call3_v69 : Ref sig .tc := ⟨.hbm, 358, rfl⟩
abbrev main_call3_v70 : Ref sig .tc := ⟨.hbm, 359, rfl⟩
abbrev main_call3_v71 : Ref sig .tc := ⟨.hbm, 360, rfl⟩
abbrev main_call3_v72 : Ref sig .tc := ⟨.hbm, 361, rfl⟩
abbrev main_call3_cst_3 : Ref sig .tc := ⟨.hbm, 362, rfl⟩
abbrev main_call3_v73 : Ref sig .tc := ⟨.hbm, 363, rfl⟩
abbrev main_call3_v74 : Ref sig .tc := ⟨.hbm, 364, rfl⟩
abbrev main_call3_v75 : Ref sig .tc := ⟨.hbm, 365, rfl⟩
abbrev main_call3_v76 : Ref sig .tc := ⟨.hbm, 366, rfl⟩
abbrev main_call3_v77 : Ref sig .tc := ⟨.hbm, 367, rfl⟩
abbrev main_call3_v78 : Ref sig .tc := ⟨.hbm, 368, rfl⟩
abbrev main_call3_v79 : Ref sig .tc := ⟨.hbm, 369, rfl⟩
abbrev main_call3_v80 : Ref sig .tc := ⟨.hbm, 370, rfl⟩
abbrev main_call3_v81 : Ref sig .tc := ⟨.hbm, 371, rfl⟩
abbrev main_call3_cst_4 : Ref sig .tc := ⟨.hbm, 372, rfl⟩
abbrev main_call3_v82 : Ref sig .tc := ⟨.hbm, 373, rfl⟩
abbrev main_call3_v83 : Ref sig .tc := ⟨.hbm, 374, rfl⟩
abbrev main_call3_v84 : Ref sig .tc := ⟨.hbm, 375, rfl⟩
abbrev main_call3_v85 : Ref sig .tc := ⟨.hbm, 376, rfl⟩
abbrev main_call3_v86 : Ref sig .tc := ⟨.hbm, 377, rfl⟩
abbrev main_call3_v87 : Ref sig .tc := ⟨.hbm, 378, rfl⟩
abbrev main_call3_v88 : Ref sig .tc := ⟨.hbm, 379, rfl⟩
abbrev main_call3_v89 : Ref sig .tc := ⟨.hbm, 380, rfl⟩
abbrev main_call3_v90 : Ref sig .tc := ⟨.hbm, 381, rfl⟩
abbrev main_call3_v91 : Ref sig .tc := ⟨.hbm, 382, rfl⟩
abbrev main_call3_v92 : Ref sig .tc := ⟨.hbm, 383, rfl⟩
abbrev main_call3_v93 : Ref sig .tc := ⟨.hbm, 384, rfl⟩
abbrev main_call3_v94 : Ref sig .tc := ⟨.hbm, 385, rfl⟩
abbrev main_call3_v95 : Ref sig .tc := ⟨.hbm, 386, rfl⟩
abbrev main_call3_v96 : Ref sig .tc := ⟨.hbm, 387, rfl⟩
abbrev main_call3_v97 : Ref sig .tc := ⟨.hbm, 388, rfl⟩
abbrev main_call3_v98 : Ref sig .tc := ⟨.hbm, 389, rfl⟩
abbrev main_call3_v99 : Ref sig .tc := ⟨.hbm, 390, rfl⟩
abbrev main_call3_v100 : Ref sig .tc := ⟨.hbm, 391, rfl⟩
abbrev main_call3_v101 : Ref sig .tc := ⟨.hbm, 392, rfl⟩
abbrev main_call3_v102 : Ref sig .tc := ⟨.hbm, 393, rfl⟩
abbrev main_call3_v103 : Ref sig .tc := ⟨.hbm, 394, rfl⟩
abbrev main_call3_v104 : Ref sig .tc := ⟨.hbm, 395, rfl⟩
abbrev main_call3_v105 : Ref sig .tc := ⟨.hbm, 396, rfl⟩
abbrev main_call3_v106 : Ref sig .tc := ⟨.hbm, 397, rfl⟩
abbrev main_call3_v107 : Ref sig .tc := ⟨.hbm, 398, rfl⟩
abbrev main_call3_v108 : Ref sig .tc := ⟨.hbm, 399, rfl⟩
abbrev main_call3_v109 : Ref sig .tc := ⟨.hbm, 400, rfl⟩
abbrev main_call3_v110 : Ref sig .tc := ⟨.hbm, 401, rfl⟩
abbrev main_call3_v111 : Ref sig .tc := ⟨.hbm, 402, rfl⟩
abbrev main_call3_v112 : Ref sig .tc := ⟨.hbm, 403, rfl⟩
abbrev main_call3_v113 : Ref sig .tc := ⟨.hbm, 404, rfl⟩
abbrev main_call3_v114 : Ref sig .tc := ⟨.hbm, 405, rfl⟩
abbrev main_call3_v115 : Ref sig .tc := ⟨.hbm, 406, rfl⟩
abbrev main_call3_v116 : Ref sig .tc := ⟨.hbm, 407, rfl⟩
abbrev main_call3_v117 : Ref sig .tc := ⟨.hbm, 408, rfl⟩
abbrev main_call3_v118 : Ref sig .tc := ⟨.hbm, 409, rfl⟩
abbrev main_call3_v119 : Ref sig .tc := ⟨.hbm, 410, rfl⟩
abbrev main_call3_v120 : Ref sig .tc := ⟨.hbm, 411, rfl⟩
abbrev main_call3_v121 : Ref sig .tc := ⟨.hbm, 412, rfl⟩
abbrev main_call3_v122 : Ref sig .tc := ⟨.hbm, 413, rfl⟩
abbrev main_call3_v123 : Ref sig .tc := ⟨.hbm, 414, rfl⟩
abbrev main_call3_v124 : Ref sig .tc := ⟨.hbm, 415, rfl⟩
abbrev main_call3_v125 : Ref sig .tc := ⟨.hbm, 416, rfl⟩
abbrev main_call3_v126 : Ref sig .tc := ⟨.hbm, 417, rfl⟩
abbrev main_call3_v127 : Ref sig .tc := ⟨.hbm, 418, rfl⟩
abbrev main_call3_v128 : Ref sig .tc := ⟨.hbm, 419, rfl⟩
abbrev main_call3_v129 : Ref sig .tc := ⟨.hbm, 420, rfl⟩
abbrev main_call3_v130 : Ref sig .tc := ⟨.hbm, 421, rfl⟩
abbrev main_call3_v131 : Ref sig .tc := ⟨.hbm, 422, rfl⟩
abbrev main_call3_v132 : Ref sig .tc := ⟨.hbm, 423, rfl⟩
abbrev main_call3_v133 : Ref sig .tc := ⟨.hbm, 424, rfl⟩
abbrev main_call3_v134 : Ref sig .tc := ⟨.hbm, 425, rfl⟩
abbrev main_call3_cst_5 : Ref sig .tc := ⟨.hbm, 426, rfl⟩
abbrev main_call3_v135 : Ref sig .tc := ⟨.hbm, 427, rfl⟩
abbrev main_call3_v136 : Ref sig .tc := ⟨.hbm, 428, rfl⟩
abbrev main_call3_cst_6 : Ref sig .tc := ⟨.hbm, 429, rfl⟩
abbrev main_call3_v137 : Ref sig .tc := ⟨.hbm, 430, rfl⟩
abbrev main_call3_v138 : Ref sig .tc := ⟨.hbm, 431, rfl⟩
abbrev main_call3_v139 : Ref sig .tc := ⟨.hbm, 432, rfl⟩
abbrev main_call3_v140 : Ref sig .tc := ⟨.hbm, 433, rfl⟩
abbrev main_call3_call2_v0 : Ref sig .tc := ⟨.hbm, 434, rfl⟩
abbrev main_call3_call2_cst : Ref sig .tc := ⟨.hbm, 435, rfl⟩
abbrev main_call3_call2_c : Ref sig .tc := ⟨.hbm, 436, rfl⟩
abbrev main_call3_call2_v1_0 : Ref sig .tc := ⟨.hbm, 437, rfl⟩
abbrev main_call3_v141 : Ref sig .tc := ⟨.hbm, 438, rfl⟩
abbrev main_call3_v142 : Ref sig .tc := ⟨.hbm, 439, rfl⟩
abbrev main_call3_call3_c : Ref sig .tc := ⟨.hbm, 440, rfl⟩
abbrev main_call3_call3_v0 : Ref sig .tc := ⟨.hbm, 441, rfl⟩
abbrev main_call3_call3_v1 : Ref sig .tc := ⟨.hbm, 442, rfl⟩
abbrev main_call3_call3_c_0 : Ref sig .tc := ⟨.hbm, 443, rfl⟩
abbrev main_call3_call3_v2 : Ref sig .tc := ⟨.hbm, 444, rfl⟩
abbrev main_call3_call3_v3 : Ref sig .tc := ⟨.hbm, 445, rfl⟩
abbrev main_call3_call3_v4 : Ref sig .tc := ⟨.hbm, 446, rfl⟩
abbrev main_call3_call3_c_1 : Ref sig .tc := ⟨.hbm, 447, rfl⟩
abbrev main_call3_call3_c_2 : Ref sig .tc := ⟨.hbm, 448, rfl⟩
abbrev main_call3_call3_v5 : Ref sig .tc := ⟨.hbm, 449, rfl⟩
abbrev main_call3_call3_v6 : Ref sig .tc := ⟨.hbm, 450, rfl⟩
abbrev main_call3_call3_v7 : Ref sig .tc := ⟨.hbm, 451, rfl⟩
abbrev main_call3_call3_v8 : Ref sig .tc := ⟨.hbm, 452, rfl⟩
abbrev main_call3_call3_v9 : Ref sig .tc := ⟨.hbm, 453, rfl⟩
abbrev main_call3_call3_v10 : Ref sig .tc := ⟨.hbm, 454, rfl⟩
abbrev main_call3_call3_c_3 : Ref sig .tc := ⟨.hbm, 455, rfl⟩
abbrev main_call3_call3_v11 : Ref sig .tc := ⟨.hbm, 456, rfl⟩
abbrev main_call3_call3_v12 : Ref sig .tc := ⟨.hbm, 457, rfl⟩
abbrev main_call3_call3_v13 : Ref sig .tc := ⟨.hbm, 458, rfl⟩
abbrev main_call3_call3_cst : Ref sig .tc := ⟨.hbm, 459, rfl⟩
abbrev main_call3_call3_v14 : Ref sig .tc := ⟨.hbm, 460, rfl⟩
abbrev main_call3_v143 : Ref sig .tc := ⟨.hbm, 461, rfl⟩
abbrev main_call3_v144 : Ref sig .tc := ⟨.hbm, 462, rfl⟩
abbrev main_call3_v145 : Ref sig .tc := ⟨.hbm, 463, rfl⟩
abbrev main_call3_call4_v0 : Ref sig .tc := ⟨.hbm, 464, rfl⟩
abbrev main_call3_call4_cst : Ref sig .tc := ⟨.hbm, 465, rfl⟩
abbrev main_call3_call4_v1 : Ref sig .tc := ⟨.hbm, 466, rfl⟩
abbrev main_call3_call4_v2 : Ref sig .tc := ⟨.hbm, 467, rfl⟩
abbrev main_call3_v146 : Ref sig .tc := ⟨.hbm, 468, rfl⟩
abbrev main_call3_v147 : Ref sig .tc := ⟨.hbm, 469, rfl⟩
abbrev main_call3_v148 : Ref sig .tc := ⟨.hbm, 470, rfl⟩
abbrev main_call3_cst_7 : Ref sig .tc := ⟨.hbm, 471, rfl⟩
abbrev main_call3_v149 : Ref sig .tc := ⟨.hbm, 472, rfl⟩
abbrev main_call3_v150 : Ref sig .tc := ⟨.hbm, 473, rfl⟩
abbrev main_call3_v151 : Ref sig .tc := ⟨.hbm, 474, rfl⟩
abbrev main_call3_cst_8 : Ref sig .tc := ⟨.hbm, 475, rfl⟩
abbrev main_call3_v152 : Ref sig .tc := ⟨.hbm, 476, rfl⟩
abbrev main_call3_v153 : Ref sig .tc := ⟨.hbm, 477, rfl⟩
abbrev main_call3_cst_9 : Ref sig .tc := ⟨.hbm, 478, rfl⟩
abbrev main_call3_v154 : Ref sig .tc := ⟨.hbm, 479, rfl⟩
abbrev main_call3_v155 : Ref sig .tc := ⟨.hbm, 480, rfl⟩
abbrev main_call3_v156 : Ref sig .tc := ⟨.hbm, 481, rfl⟩
abbrev main_call3_cst_10 : Ref sig .tc := ⟨.hbm, 482, rfl⟩
abbrev main_call3_v157 : Ref sig .tc := ⟨.hbm, 483, rfl⟩
abbrev main_call3_v158 : Ref sig .tc := ⟨.hbm, 484, rfl⟩
abbrev main_call3_cst_11 : Ref sig .tc := ⟨.hbm, 485, rfl⟩
abbrev main_call3_v159 : Ref sig .tc := ⟨.hbm, 486, rfl⟩
abbrev main_call3_v160 : Ref sig .tc := ⟨.hbm, 487, rfl⟩
abbrev main_call3_v161 : Ref sig .tc := ⟨.hbm, 488, rfl⟩
abbrev main_call3_v162 : Ref sig .tc := ⟨.hbm, 489, rfl⟩
abbrev main_call3_v163 : Ref sig .tc := ⟨.hbm, 490, rfl⟩
abbrev main_call3_v164 : Ref sig .tc := ⟨.hbm, 491, rfl⟩
abbrev main_call3_v165 : Ref sig .tc := ⟨.hbm, 492, rfl⟩
abbrev main_v5 : Ref sig .tc := ⟨.hbm, 493, rfl⟩
abbrev main_call4_c : Ref sig .tc := ⟨.hbm, 494, rfl⟩
abbrev main_call4_v0 : Ref sig .tc := ⟨.hbm, 495, rfl⟩
abbrev main_call4_v1 : Ref sig .tc := ⟨.hbm, 496, rfl⟩
abbrev main_call4_c_0 : Ref sig .tc := ⟨.hbm, 497, rfl⟩
abbrev main_call4_v2 : Ref sig .tc := ⟨.hbm, 498, rfl⟩
abbrev main_call4_v3 : Ref sig .tc := ⟨.hbm, 499, rfl⟩
abbrev main_call4_v4 : Ref sig .tc := ⟨.hbm, 500, rfl⟩
abbrev main_call4_v5 : Ref sig .tc := ⟨.hbm, 501, rfl⟩
abbrev main_call4_c_1 : Ref sig .tc := ⟨.hbm, 502, rfl⟩
abbrev main_call4_c_2 : Ref sig .tc := ⟨.hbm, 503, rfl⟩
abbrev main_call4_v6 : Ref sig .tc := ⟨.hbm, 504, rfl⟩
abbrev main_call4_v7 : Ref sig .tc := ⟨.hbm, 505, rfl⟩
abbrev main_call4_v8 : Ref sig .tc := ⟨.hbm, 506, rfl⟩
abbrev main_call4_v9 : Ref sig .tc := ⟨.hbm, 507, rfl⟩
abbrev main_call4_v10 : Ref sig .tc := ⟨.hbm, 508, rfl⟩
abbrev main_call4_v11 : Ref sig .tc := ⟨.hbm, 509, rfl⟩
abbrev main_call4_c_3 : Ref sig .tc := ⟨.hbm, 510, rfl⟩
abbrev main_call4_v12 : Ref sig .tc := ⟨.hbm, 511, rfl⟩
abbrev main_call4_v13 : Ref sig .tc := ⟨.hbm, 512, rfl⟩
abbrev main_call4_v14 : Ref sig .tc := ⟨.hbm, 513, rfl⟩
abbrev main_call4_cst : Ref sig .tc := ⟨.hbm, 514, rfl⟩
abbrev main_call4_v15 : Ref sig .tc := ⟨.hbm, 515, rfl⟩
abbrev main_v6 : Ref sig .tc := ⟨.hbm, 516, rfl⟩
abbrev main_v7 : Ref sig .tc := ⟨.hbm, 517, rfl⟩
abbrev main_call5_v0 : Ref sig .tc := ⟨.hbm, 518, rfl⟩
abbrev main_call5_v1 : Ref sig .tc := ⟨.hbm, 519, rfl⟩
abbrev main_call5_call0_v0 : Ref sig .tc := ⟨.hbm, 520, rfl⟩
abbrev main_call5_call0_cst : Ref sig .tc := ⟨.hbm, 521, rfl⟩
abbrev main_call5_call0_v1 : Ref sig .tc := ⟨.hbm, 522, rfl⟩
abbrev main_call5_call0_v2 : Ref sig .tc := ⟨.hbm, 523, rfl⟩
abbrev main_call5_v2 : Ref sig .tc := ⟨.hbm, 524, rfl⟩
abbrev main_call5_v3 : Ref sig .tc := ⟨.hbm, 525, rfl⟩
abbrev main_call5_v4 : Ref sig .tc := ⟨.hbm, 526, rfl⟩
abbrev main_call5_v5 : Ref sig .tc := ⟨.hbm, 527, rfl⟩
abbrev main_call5_cst : Ref sig .tc := ⟨.hbm, 528, rfl⟩
abbrev main_call5_v6 : Ref sig .tc := ⟨.hbm, 529, rfl⟩
abbrev main_call5_v7 : Ref sig .tc := ⟨.hbm, 530, rfl⟩
abbrev main_call5_v8 : Ref sig .tc := ⟨.hbm, 531, rfl⟩
abbrev main_call5_v9 : Ref sig .tc := ⟨.hbm, 532, rfl⟩
abbrev main_call5_v10 : Ref sig .tc := ⟨.hbm, 533, rfl⟩
abbrev main_call5_call1_v0 : Ref sig .tc := ⟨.hbm, 534, rfl⟩
abbrev main_call5_call1_cst : Ref sig .tc := ⟨.hbm, 535, rfl⟩
abbrev main_call5_call1_v1 : Ref sig .tc := ⟨.hbm, 536, rfl⟩
abbrev main_call5_call1_v2 : Ref sig .tc := ⟨.hbm, 537, rfl⟩
abbrev main_call5_v11 : Ref sig .tc := ⟨.hbm, 538, rfl⟩
abbrev main_call5_v12 : Ref sig .tc := ⟨.hbm, 539, rfl⟩
abbrev main_call5_v13 : Ref sig .tc := ⟨.hbm, 540, rfl⟩
abbrev main_call5_v14 : Ref sig .tc := ⟨.hbm, 541, rfl⟩
abbrev main_call5_v15 : Ref sig .tc := ⟨.hbm, 542, rfl⟩
abbrev main_call5_v16 : Ref sig .tc := ⟨.hbm, 543, rfl⟩
abbrev main_call5_v17 : Ref sig .tc := ⟨.hbm, 544, rfl⟩
abbrev main_call5_v18 : Ref sig .tc := ⟨.hbm, 545, rfl⟩
abbrev main_call5_v19 : Ref sig .tc := ⟨.hbm, 546, rfl⟩
abbrev main_call5_v20 : Ref sig .tc := ⟨.hbm, 547, rfl⟩
abbrev main_call5_v21 : Ref sig .tc := ⟨.hbm, 548, rfl⟩
abbrev main_call5_v22 : Ref sig .tc := ⟨.hbm, 549, rfl⟩
abbrev main_call5_v23 : Ref sig .tc := ⟨.hbm, 550, rfl⟩
abbrev main_call5_v24 : Ref sig .tc := ⟨.hbm, 551, rfl⟩
abbrev main_call5_v25 : Ref sig .tc := ⟨.hbm, 552, rfl⟩
abbrev main_call5_v26 : Ref sig .tc := ⟨.hbm, 553, rfl⟩
abbrev main_call5_v27 : Ref sig .tc := ⟨.hbm, 554, rfl⟩
abbrev main_call5_v28 : Ref sig .tc := ⟨.hbm, 555, rfl⟩
abbrev main_call5_v29 : Ref sig .tc := ⟨.hbm, 556, rfl⟩
abbrev main_call5_v30 : Ref sig .tc := ⟨.hbm, 557, rfl⟩
abbrev main_call5_v31 : Ref sig .tc := ⟨.hbm, 558, rfl⟩
abbrev main_call5_v32 : Ref sig .tc := ⟨.hbm, 559, rfl⟩
abbrev main_call5_v33 : Ref sig .tc := ⟨.hbm, 560, rfl⟩
abbrev main_call5_v34 : Ref sig .tc := ⟨.hbm, 561, rfl⟩
abbrev main_call5_v35 : Ref sig .tc := ⟨.hbm, 562, rfl⟩
abbrev main_call5_v36 : Ref sig .tc := ⟨.hbm, 563, rfl⟩
abbrev main_call5_v37 : Ref sig .tc := ⟨.hbm, 564, rfl⟩
abbrev main_call5_v38 : Ref sig .tc := ⟨.hbm, 565, rfl⟩
abbrev main_call5_v39 : Ref sig .tc := ⟨.hbm, 566, rfl⟩
abbrev main_call5_v40 : Ref sig .tc := ⟨.hbm, 567, rfl⟩
abbrev main_call5_v41 : Ref sig .tc := ⟨.hbm, 568, rfl⟩
abbrev main_call5_v42 : Ref sig .tc := ⟨.hbm, 569, rfl⟩
abbrev main_call5_v43 : Ref sig .tc := ⟨.hbm, 570, rfl⟩
abbrev main_call5_v44 : Ref sig .tc := ⟨.hbm, 571, rfl⟩
abbrev main_call5_v45 : Ref sig .tc := ⟨.hbm, 572, rfl⟩
abbrev main_call5_v46 : Ref sig .tc := ⟨.hbm, 573, rfl⟩
abbrev main_call5_v47 : Ref sig .tc := ⟨.hbm, 574, rfl⟩
abbrev main_call5_v48 : Ref sig .tc := ⟨.hbm, 575, rfl⟩
abbrev main_call5_v49 : Ref sig .tc := ⟨.hbm, 576, rfl⟩
abbrev main_call5_v50 : Ref sig .tc := ⟨.hbm, 577, rfl⟩
abbrev main_call5_v51 : Ref sig .tc := ⟨.hbm, 578, rfl⟩
abbrev main_call5_v52 : Ref sig .tc := ⟨.hbm, 579, rfl⟩
abbrev main_call5_v53 : Ref sig .tc := ⟨.hbm, 580, rfl⟩
abbrev main_call5_v54 : Ref sig .tc := ⟨.hbm, 581, rfl⟩
abbrev main_call5_v55 : Ref sig .tc := ⟨.hbm, 582, rfl⟩
abbrev main_call5_v56 : Ref sig .tc := ⟨.hbm, 583, rfl⟩
abbrev main_call5_v57 : Ref sig .tc := ⟨.hbm, 584, rfl⟩
abbrev main_call5_v58 : Ref sig .tc := ⟨.hbm, 585, rfl⟩
abbrev main_call5_v59 : Ref sig .tc := ⟨.hbm, 586, rfl⟩
abbrev main_call5_v60 : Ref sig .tc := ⟨.hbm, 587, rfl⟩
abbrev main_call5_cst_0 : Ref sig .tc := ⟨.hbm, 588, rfl⟩
abbrev main_call5_v61 : Ref sig .tc := ⟨.hbm, 589, rfl⟩
abbrev main_call5_v62 : Ref sig .tc := ⟨.hbm, 590, rfl⟩
abbrev main_call5_v63 : Ref sig .tc := ⟨.hbm, 591, rfl⟩
abbrev main_call5_v64 : Ref sig .tc := ⟨.hbm, 592, rfl⟩
abbrev main_call5_cst_1 : Ref sig .tc := ⟨.hbm, 593, rfl⟩
abbrev main_call5_v65 : Ref sig .tc := ⟨.hbm, 594, rfl⟩
abbrev main_call5_v66 : Ref sig .tc := ⟨.hbm, 595, rfl⟩
abbrev main_call5_v67 : Ref sig .tc := ⟨.hbm, 596, rfl⟩
abbrev main_call5_v68 : Ref sig .tc := ⟨.hbm, 597, rfl⟩
abbrev main_call5_cst_2 : Ref sig .tc := ⟨.hbm, 598, rfl⟩
abbrev main_call5_v69 : Ref sig .tc := ⟨.hbm, 599, rfl⟩
abbrev main_call5_v70 : Ref sig .tc := ⟨.hbm, 600, rfl⟩
abbrev main_call5_v71 : Ref sig .tc := ⟨.hbm, 601, rfl⟩
abbrev main_call5_v72 : Ref sig .tc := ⟨.hbm, 602, rfl⟩
abbrev main_call5_cst_3 : Ref sig .tc := ⟨.hbm, 603, rfl⟩
abbrev main_call5_v73 : Ref sig .tc := ⟨.hbm, 604, rfl⟩
abbrev main_call5_v74 : Ref sig .tc := ⟨.hbm, 605, rfl⟩
abbrev main_call5_v75 : Ref sig .tc := ⟨.hbm, 606, rfl⟩
abbrev main_call5_v76 : Ref sig .tc := ⟨.hbm, 607, rfl⟩
abbrev main_call5_v77 : Ref sig .tc := ⟨.hbm, 608, rfl⟩
abbrev main_call5_v78 : Ref sig .tc := ⟨.hbm, 609, rfl⟩
abbrev main_call5_v79 : Ref sig .tc := ⟨.hbm, 610, rfl⟩
abbrev main_call5_v80 : Ref sig .tc := ⟨.hbm, 611, rfl⟩
abbrev main_call5_v81 : Ref sig .tc := ⟨.hbm, 612, rfl⟩
abbrev main_call5_cst_4 : Ref sig .tc := ⟨.hbm, 613, rfl⟩
abbrev main_call5_v82 : Ref sig .tc := ⟨.hbm, 614, rfl⟩
abbrev main_call5_v83 : Ref sig .tc := ⟨.hbm, 615, rfl⟩
abbrev main_call5_v84 : Ref sig .tc := ⟨.hbm, 616, rfl⟩
abbrev main_call5_v85 : Ref sig .tc := ⟨.hbm, 617, rfl⟩
abbrev main_call5_v86 : Ref sig .tc := ⟨.hbm, 618, rfl⟩
abbrev main_call5_v87 : Ref sig .tc := ⟨.hbm, 619, rfl⟩
abbrev main_call5_v88 : Ref sig .tc := ⟨.hbm, 620, rfl⟩
abbrev main_call5_v89 : Ref sig .tc := ⟨.hbm, 621, rfl⟩
abbrev main_call5_v90 : Ref sig .tc := ⟨.hbm, 622, rfl⟩
abbrev main_call5_v91 : Ref sig .tc := ⟨.hbm, 623, rfl⟩
abbrev main_call5_v92 : Ref sig .tc := ⟨.hbm, 624, rfl⟩
abbrev main_call5_v93 : Ref sig .tc := ⟨.hbm, 625, rfl⟩
abbrev main_call5_v94 : Ref sig .tc := ⟨.hbm, 626, rfl⟩
abbrev main_call5_v95 : Ref sig .tc := ⟨.hbm, 627, rfl⟩
abbrev main_call5_v96 : Ref sig .tc := ⟨.hbm, 628, rfl⟩
abbrev main_call5_v97 : Ref sig .tc := ⟨.hbm, 629, rfl⟩
abbrev main_call5_v98 : Ref sig .tc := ⟨.hbm, 630, rfl⟩
abbrev main_call5_v99 : Ref sig .tc := ⟨.hbm, 631, rfl⟩
abbrev main_call5_v100 : Ref sig .tc := ⟨.hbm, 632, rfl⟩
abbrev main_call5_v101 : Ref sig .tc := ⟨.hbm, 633, rfl⟩
abbrev main_call5_v102 : Ref sig .tc := ⟨.hbm, 634, rfl⟩
abbrev main_call5_v103 : Ref sig .tc := ⟨.hbm, 635, rfl⟩
abbrev main_call5_v104 : Ref sig .tc := ⟨.hbm, 636, rfl⟩
abbrev main_call5_v105 : Ref sig .tc := ⟨.hbm, 637, rfl⟩
abbrev main_call5_v106 : Ref sig .tc := ⟨.hbm, 638, rfl⟩
abbrev main_call5_v107 : Ref sig .tc := ⟨.hbm, 639, rfl⟩
abbrev main_call5_v108 : Ref sig .tc := ⟨.hbm, 640, rfl⟩
abbrev main_call5_v109 : Ref sig .tc := ⟨.hbm, 641, rfl⟩
abbrev main_call5_v110 : Ref sig .tc := ⟨.hbm, 642, rfl⟩
abbrev main_call5_v111 : Ref sig .tc := ⟨.hbm, 643, rfl⟩
abbrev main_call5_v112 : Ref sig .tc := ⟨.hbm, 644, rfl⟩
abbrev main_call5_v113 : Ref sig .tc := ⟨.hbm, 645, rfl⟩
abbrev main_call5_v114 : Ref sig .tc := ⟨.hbm, 646, rfl⟩
abbrev main_call5_v115 : Ref sig .tc := ⟨.hbm, 647, rfl⟩
abbrev main_call5_v116 : Ref sig .tc := ⟨.hbm, 648, rfl⟩
abbrev main_call5_v117 : Ref sig .tc := ⟨.hbm, 649, rfl⟩
abbrev main_call5_v118 : Ref sig .tc := ⟨.hbm, 650, rfl⟩
abbrev main_call5_v119 : Ref sig .tc := ⟨.hbm, 651, rfl⟩
abbrev main_call5_v120 : Ref sig .tc := ⟨.hbm, 652, rfl⟩
abbrev main_call5_v121 : Ref sig .tc := ⟨.hbm, 653, rfl⟩
abbrev main_call5_v122 : Ref sig .tc := ⟨.hbm, 654, rfl⟩
abbrev main_call5_v123 : Ref sig .tc := ⟨.hbm, 655, rfl⟩
abbrev main_call5_v124 : Ref sig .tc := ⟨.hbm, 656, rfl⟩
abbrev main_call5_v125 : Ref sig .tc := ⟨.hbm, 657, rfl⟩
abbrev main_call5_v126 : Ref sig .tc := ⟨.hbm, 658, rfl⟩
abbrev main_call5_v127 : Ref sig .tc := ⟨.hbm, 659, rfl⟩
abbrev main_call5_v128 : Ref sig .tc := ⟨.hbm, 660, rfl⟩
abbrev main_call5_v129 : Ref sig .tc := ⟨.hbm, 661, rfl⟩
abbrev main_call5_v130 : Ref sig .tc := ⟨.hbm, 662, rfl⟩
abbrev main_call5_v131 : Ref sig .tc := ⟨.hbm, 663, rfl⟩
abbrev main_call5_v132 : Ref sig .tc := ⟨.hbm, 664, rfl⟩
abbrev main_call5_v133 : Ref sig .tc := ⟨.hbm, 665, rfl⟩
abbrev main_call5_v134 : Ref sig .tc := ⟨.hbm, 666, rfl⟩
abbrev main_call5_cst_5 : Ref sig .tc := ⟨.hbm, 667, rfl⟩
abbrev main_call5_v135 : Ref sig .tc := ⟨.hbm, 668, rfl⟩
abbrev main_call5_v136 : Ref sig .tc := ⟨.hbm, 669, rfl⟩
abbrev main_call5_cst_6 : Ref sig .tc := ⟨.hbm, 670, rfl⟩
abbrev main_call5_v137 : Ref sig .tc := ⟨.hbm, 671, rfl⟩
abbrev main_call5_v138 : Ref sig .tc := ⟨.hbm, 672, rfl⟩
abbrev main_call5_v139 : Ref sig .tc := ⟨.hbm, 673, rfl⟩
abbrev main_call5_v140 : Ref sig .tc := ⟨.hbm, 674, rfl⟩
abbrev main_call5_call2_v0 : Ref sig .tc := ⟨.hbm, 675, rfl⟩
abbrev main_call5_call2_cst : Ref sig .tc := ⟨.hbm, 676, rfl⟩
abbrev main_call5_call2_c : Ref sig .tc := ⟨.hbm, 677, rfl⟩
abbrev main_call5_call2_v1_0 : Ref sig .tc := ⟨.hbm, 678, rfl⟩
abbrev main_call5_v141 : Ref sig .tc := ⟨.hbm, 679, rfl⟩
abbrev main_call5_v142 : Ref sig .tc := ⟨.hbm, 680, rfl⟩
abbrev main_call5_call3_c : Ref sig .tc := ⟨.hbm, 681, rfl⟩
abbrev main_call5_call3_v0 : Ref sig .tc := ⟨.hbm, 682, rfl⟩
abbrev main_call5_call3_v1 : Ref sig .tc := ⟨.hbm, 683, rfl⟩
abbrev main_call5_call3_c_0 : Ref sig .tc := ⟨.hbm, 684, rfl⟩
abbrev main_call5_call3_v2 : Ref sig .tc := ⟨.hbm, 685, rfl⟩
abbrev main_call5_call3_v3 : Ref sig .tc := ⟨.hbm, 686, rfl⟩
abbrev main_call5_call3_v4 : Ref sig .tc := ⟨.hbm, 687, rfl⟩
abbrev main_call5_call3_v5 : Ref sig .tc := ⟨.hbm, 688, rfl⟩
abbrev main_call5_call3_c_1 : Ref sig .tc := ⟨.hbm, 689, rfl⟩
abbrev main_call5_call3_c_2 : Ref sig .tc := ⟨.hbm, 690, rfl⟩
abbrev main_call5_call3_v6 : Ref sig .tc := ⟨.hbm, 691, rfl⟩
abbrev main_call5_call3_v7 : Ref sig .tc := ⟨.hbm, 692, rfl⟩
abbrev main_call5_call3_v8 : Ref sig .tc := ⟨.hbm, 693, rfl⟩
abbrev main_call5_call3_v9 : Ref sig .tc := ⟨.hbm, 694, rfl⟩
abbrev main_call5_call3_v10 : Ref sig .tc := ⟨.hbm, 695, rfl⟩
abbrev main_call5_call3_v11 : Ref sig .tc := ⟨.hbm, 696, rfl⟩
abbrev main_call5_call3_c_3 : Ref sig .tc := ⟨.hbm, 697, rfl⟩
abbrev main_call5_call3_v12 : Ref sig .tc := ⟨.hbm, 698, rfl⟩
abbrev main_call5_call3_v13 : Ref sig .tc := ⟨.hbm, 699, rfl⟩
abbrev main_call5_call3_v14 : Ref sig .tc := ⟨.hbm, 700, rfl⟩
abbrev main_call5_call3_cst : Ref sig .tc := ⟨.hbm, 701, rfl⟩
abbrev main_call5_call3_v15 : Ref sig .tc := ⟨.hbm, 702, rfl⟩
abbrev main_call5_v143 : Ref sig .tc := ⟨.hbm, 703, rfl⟩
abbrev main_call5_v144 : Ref sig .tc := ⟨.hbm, 704, rfl⟩
abbrev main_call5_v145 : Ref sig .tc := ⟨.hbm, 705, rfl⟩
abbrev main_call5_call4_v0 : Ref sig .tc := ⟨.hbm, 706, rfl⟩
abbrev main_call5_call4_cst : Ref sig .tc := ⟨.hbm, 707, rfl⟩
abbrev main_call5_call4_v1 : Ref sig .tc := ⟨.hbm, 708, rfl⟩
abbrev main_call5_call4_v2 : Ref sig .tc := ⟨.hbm, 709, rfl⟩
abbrev main_call5_v146 : Ref sig .tc := ⟨.hbm, 710, rfl⟩
abbrev main_call5_v147 : Ref sig .tc := ⟨.hbm, 711, rfl⟩
abbrev main_call5_v148 : Ref sig .tc := ⟨.hbm, 712, rfl⟩
abbrev main_call5_cst_7 : Ref sig .tc := ⟨.hbm, 713, rfl⟩
abbrev main_call5_v149 : Ref sig .tc := ⟨.hbm, 714, rfl⟩
abbrev main_call5_v150 : Ref sig .tc := ⟨.hbm, 715, rfl⟩
abbrev main_call5_v151 : Ref sig .tc := ⟨.hbm, 716, rfl⟩
abbrev main_call5_cst_8 : Ref sig .tc := ⟨.hbm, 717, rfl⟩
abbrev main_call5_v152 : Ref sig .tc := ⟨.hbm, 718, rfl⟩
abbrev main_call5_v153 : Ref sig .tc := ⟨.hbm, 719, rfl⟩
abbrev main_call5_cst_9 : Ref sig .tc := ⟨.hbm, 720, rfl⟩
abbrev main_call5_v154 : Ref sig .tc := ⟨.hbm, 721, rfl⟩
abbrev main_call5_v155 : Ref sig .tc := ⟨.hbm, 722, rfl⟩
abbrev main_call5_v156 : Ref sig .tc := ⟨.hbm, 723, rfl⟩
abbrev main_call5_cst_10 : Ref sig .tc := ⟨.hbm, 724, rfl⟩
abbrev main_call5_v157 : Ref sig .tc := ⟨.hbm, 725, rfl⟩
abbrev main_call5_v158 : Ref sig .tc := ⟨.hbm, 726, rfl⟩
abbrev main_call5_cst_11 : Ref sig .tc := ⟨.hbm, 727, rfl⟩
abbrev main_call5_v159 : Ref sig .tc := ⟨.hbm, 728, rfl⟩
abbrev main_call5_v160 : Ref sig .tc := ⟨.hbm, 729, rfl⟩
abbrev main_call5_v161 : Ref sig .tc := ⟨.hbm, 730, rfl⟩
abbrev main_call5_v162 : Ref sig .tc := ⟨.hbm, 731, rfl⟩
abbrev main_call5_v163 : Ref sig .tc := ⟨.hbm, 732, rfl⟩
abbrev main_call5_v164 : Ref sig .tc := ⟨.hbm, 733, rfl⟩
abbrev main_call5_v165 : Ref sig .tc := ⟨.hbm, 734, rfl⟩
abbrev main_v8 : Ref sig .tc := ⟨.hbm, 735, rfl⟩
abbrev main_v9 : Ref sig .tc := ⟨.hbm, 736, rfl⟩
abbrev main_call6_c : Ref sig .tc := ⟨.hbm, 737, rfl⟩
abbrev main_call6_v0 : Ref sig .tc := ⟨.hbm, 738, rfl⟩
abbrev main_call6_v1 : Ref sig .tc := ⟨.hbm, 739, rfl⟩
abbrev main_call6_c_0 : Ref sig .tc := ⟨.hbm, 740, rfl⟩
abbrev main_call6_v2 : Ref sig .tc := ⟨.hbm, 741, rfl⟩
abbrev main_call6_v3 : Ref sig .tc := ⟨.hbm, 742, rfl⟩
abbrev main_call6_v4 : Ref sig .tc := ⟨.hbm, 743, rfl⟩
abbrev main_call6_v5 : Ref sig .tc := ⟨.hbm, 744, rfl⟩
abbrev main_call6_c_1 : Ref sig .tc := ⟨.hbm, 745, rfl⟩
abbrev main_call6_c_2 : Ref sig .tc := ⟨.hbm, 746, rfl⟩
abbrev main_call6_v6 : Ref sig .tc := ⟨.hbm, 747, rfl⟩
abbrev main_call6_v7 : Ref sig .tc := ⟨.hbm, 748, rfl⟩
abbrev main_call6_v8 : Ref sig .tc := ⟨.hbm, 749, rfl⟩
abbrev main_call6_v9 : Ref sig .tc := ⟨.hbm, 750, rfl⟩
abbrev main_call6_v10 : Ref sig .tc := ⟨.hbm, 751, rfl⟩
abbrev main_call6_v11 : Ref sig .tc := ⟨.hbm, 752, rfl⟩
abbrev main_call6_c_3 : Ref sig .tc := ⟨.hbm, 753, rfl⟩
abbrev main_call6_v12 : Ref sig .tc := ⟨.hbm, 754, rfl⟩
abbrev main_call6_v13 : Ref sig .tc := ⟨.hbm, 755, rfl⟩
abbrev main_call6_v14 : Ref sig .tc := ⟨.hbm, 756, rfl⟩
abbrev main_call6_cst : Ref sig .tc := ⟨.hbm, 757, rfl⟩
abbrev main_call6_v15 : Ref sig .tc := ⟨.hbm, 758, rfl⟩
abbrev main_v10 : Ref sig .tc := ⟨.hbm, 759, rfl⟩
abbrev main_v11 : Ref sig .tc := ⟨.hbm, 760, rfl⟩
abbrev main_call7_v0 : Ref sig .tc := ⟨.hbm, 761, rfl⟩
abbrev main_call7_v1 : Ref sig .tc := ⟨.hbm, 762, rfl⟩
abbrev main_call7_call0_v0 : Ref sig .tc := ⟨.hbm, 763, rfl⟩
abbrev main_call7_call0_cst : Ref sig .tc := ⟨.hbm, 764, rfl⟩
abbrev main_call7_call0_v1 : Ref sig .tc := ⟨.hbm, 765, rfl⟩
abbrev main_call7_call0_v2 : Ref sig .tc := ⟨.hbm, 766, rfl⟩
abbrev main_call7_v2 : Ref sig .tc := ⟨.hbm, 767, rfl⟩
abbrev main_call7_v3 : Ref sig .tc := ⟨.hbm, 768, rfl⟩
abbrev main_call7_v4 : Ref sig .tc := ⟨.hbm, 769, rfl⟩
abbrev main_call7_v5 : Ref sig .tc := ⟨.hbm, 770, rfl⟩
abbrev main_call7_cst : Ref sig .tc := ⟨.hbm, 771, rfl⟩
abbrev main_call7_v6 : Ref sig .tc := ⟨.hbm, 772, rfl⟩
abbrev main_call7_v7 : Ref sig .tc := ⟨.hbm, 773, rfl⟩
abbrev main_call7_v8 : Ref sig .tc := ⟨.hbm, 774, rfl⟩
abbrev main_call7_v9 : Ref sig .tc := ⟨.hbm, 775, rfl⟩
abbrev main_call7_v10 : Ref sig .tc := ⟨.hbm, 776, rfl⟩
abbrev main_call7_call1_v0 : Ref sig .tc := ⟨.hbm, 777, rfl⟩
abbrev main_call7_call1_cst : Ref sig .tc := ⟨.hbm, 778, rfl⟩
abbrev main_call7_call1_v1 : Ref sig .tc := ⟨.hbm, 779, rfl⟩
abbrev main_call7_call1_v2 : Ref sig .tc := ⟨.hbm, 780, rfl⟩
abbrev main_call7_v11 : Ref sig .tc := ⟨.hbm, 781, rfl⟩
abbrev main_call7_v12 : Ref sig .tc := ⟨.hbm, 782, rfl⟩
abbrev main_call7_v13 : Ref sig .tc := ⟨.hbm, 783, rfl⟩
abbrev main_call7_v14 : Ref sig .tc := ⟨.hbm, 784, rfl⟩
abbrev main_call7_v15 : Ref sig .tc := ⟨.hbm, 785, rfl⟩
abbrev main_call7_v16 : Ref sig .tc := ⟨.hbm, 786, rfl⟩
abbrev main_call7_v17 : Ref sig .tc := ⟨.hbm, 787, rfl⟩
abbrev main_call7_v18 : Ref sig .tc := ⟨.hbm, 788, rfl⟩
abbrev main_call7_v19 : Ref sig .tc := ⟨.hbm, 789, rfl⟩
abbrev main_call7_v20 : Ref sig .tc := ⟨.hbm, 790, rfl⟩
abbrev main_call7_v21 : Ref sig .tc := ⟨.hbm, 791, rfl⟩
abbrev main_call7_v22 : Ref sig .tc := ⟨.hbm, 792, rfl⟩
abbrev main_call7_v23 : Ref sig .tc := ⟨.hbm, 793, rfl⟩
abbrev main_call7_v24 : Ref sig .tc := ⟨.hbm, 794, rfl⟩
abbrev main_call7_v25 : Ref sig .tc := ⟨.hbm, 795, rfl⟩
abbrev main_call7_v26 : Ref sig .tc := ⟨.hbm, 796, rfl⟩
abbrev main_call7_v27 : Ref sig .tc := ⟨.hbm, 797, rfl⟩
abbrev main_call7_v28 : Ref sig .tc := ⟨.hbm, 798, rfl⟩
abbrev main_call7_v29 : Ref sig .tc := ⟨.hbm, 799, rfl⟩
abbrev main_call7_v30 : Ref sig .tc := ⟨.hbm, 800, rfl⟩
abbrev main_call7_v31 : Ref sig .tc := ⟨.hbm, 801, rfl⟩
abbrev main_call7_v32 : Ref sig .tc := ⟨.hbm, 802, rfl⟩
abbrev main_call7_v33 : Ref sig .tc := ⟨.hbm, 803, rfl⟩
abbrev main_call7_v34 : Ref sig .tc := ⟨.hbm, 804, rfl⟩
abbrev main_call7_v35 : Ref sig .tc := ⟨.hbm, 805, rfl⟩
abbrev main_call7_v36 : Ref sig .tc := ⟨.hbm, 806, rfl⟩
abbrev main_call7_v37 : Ref sig .tc := ⟨.hbm, 807, rfl⟩
abbrev main_call7_v38 : Ref sig .tc := ⟨.hbm, 808, rfl⟩
abbrev main_call7_v39 : Ref sig .tc := ⟨.hbm, 809, rfl⟩
abbrev main_call7_v40 : Ref sig .tc := ⟨.hbm, 810, rfl⟩
abbrev main_call7_v41 : Ref sig .tc := ⟨.hbm, 811, rfl⟩
abbrev main_call7_v42 : Ref sig .tc := ⟨.hbm, 812, rfl⟩
abbrev main_call7_v43 : Ref sig .tc := ⟨.hbm, 813, rfl⟩
abbrev main_call7_v44 : Ref sig .tc := ⟨.hbm, 814, rfl⟩
abbrev main_call7_v45 : Ref sig .tc := ⟨.hbm, 815, rfl⟩
abbrev main_call7_v46 : Ref sig .tc := ⟨.hbm, 816, rfl⟩
abbrev main_call7_v47 : Ref sig .tc := ⟨.hbm, 817, rfl⟩
abbrev main_call7_v48 : Ref sig .tc := ⟨.hbm, 818, rfl⟩
abbrev main_call7_v49 : Ref sig .tc := ⟨.hbm, 819, rfl⟩
abbrev main_call7_v50 : Ref sig .tc := ⟨.hbm, 820, rfl⟩
abbrev main_call7_v51 : Ref sig .tc := ⟨.hbm, 821, rfl⟩
abbrev main_call7_v52 : Ref sig .tc := ⟨.hbm, 822, rfl⟩
abbrev main_call7_v53 : Ref sig .tc := ⟨.hbm, 823, rfl⟩
abbrev main_call7_v54 : Ref sig .tc := ⟨.hbm, 824, rfl⟩
abbrev main_call7_v55 : Ref sig .tc := ⟨.hbm, 825, rfl⟩
abbrev main_call7_v56 : Ref sig .tc := ⟨.hbm, 826, rfl⟩
abbrev main_call7_v57 : Ref sig .tc := ⟨.hbm, 827, rfl⟩
abbrev main_call7_v58 : Ref sig .tc := ⟨.hbm, 828, rfl⟩
abbrev main_call7_v59 : Ref sig .tc := ⟨.hbm, 829, rfl⟩
abbrev main_call7_v60 : Ref sig .tc := ⟨.hbm, 830, rfl⟩
abbrev main_call7_cst_0 : Ref sig .tc := ⟨.hbm, 831, rfl⟩
abbrev main_call7_v61 : Ref sig .tc := ⟨.hbm, 832, rfl⟩
abbrev main_call7_v62 : Ref sig .tc := ⟨.hbm, 833, rfl⟩
abbrev main_call7_v63 : Ref sig .tc := ⟨.hbm, 834, rfl⟩
abbrev main_call7_v64 : Ref sig .tc := ⟨.hbm, 835, rfl⟩
abbrev main_call7_cst_1 : Ref sig .tc := ⟨.hbm, 836, rfl⟩
abbrev main_call7_v65 : Ref sig .tc := ⟨.hbm, 837, rfl⟩
abbrev main_call7_v66 : Ref sig .tc := ⟨.hbm, 838, rfl⟩
abbrev main_call7_v67 : Ref sig .tc := ⟨.hbm, 839, rfl⟩
abbrev main_call7_v68 : Ref sig .tc := ⟨.hbm, 840, rfl⟩
abbrev main_call7_cst_2 : Ref sig .tc := ⟨.hbm, 841, rfl⟩
abbrev main_call7_v69 : Ref sig .tc := ⟨.hbm, 842, rfl⟩
abbrev main_call7_v70 : Ref sig .tc := ⟨.hbm, 843, rfl⟩
abbrev main_call7_v71 : Ref sig .tc := ⟨.hbm, 844, rfl⟩
abbrev main_call7_v72 : Ref sig .tc := ⟨.hbm, 845, rfl⟩
abbrev main_call7_cst_3 : Ref sig .tc := ⟨.hbm, 846, rfl⟩
abbrev main_call7_v73 : Ref sig .tc := ⟨.hbm, 847, rfl⟩
abbrev main_call7_v74 : Ref sig .tc := ⟨.hbm, 848, rfl⟩
abbrev main_call7_v75 : Ref sig .tc := ⟨.hbm, 849, rfl⟩
abbrev main_call7_v76 : Ref sig .tc := ⟨.hbm, 850, rfl⟩
abbrev main_call7_v77 : Ref sig .tc := ⟨.hbm, 851, rfl⟩
abbrev main_call7_v78 : Ref sig .tc := ⟨.hbm, 852, rfl⟩
abbrev main_call7_v79 : Ref sig .tc := ⟨.hbm, 853, rfl⟩
abbrev main_call7_v80 : Ref sig .tc := ⟨.hbm, 854, rfl⟩
abbrev main_call7_v81 : Ref sig .tc := ⟨.hbm, 855, rfl⟩
abbrev main_call7_cst_4 : Ref sig .tc := ⟨.hbm, 856, rfl⟩
abbrev main_call7_v82 : Ref sig .tc := ⟨.hbm, 857, rfl⟩
abbrev main_call7_v83 : Ref sig .tc := ⟨.hbm, 858, rfl⟩
abbrev main_call7_v84 : Ref sig .tc := ⟨.hbm, 859, rfl⟩
abbrev main_call7_v85 : Ref sig .tc := ⟨.hbm, 860, rfl⟩
abbrev main_call7_v86 : Ref sig .tc := ⟨.hbm, 861, rfl⟩
abbrev main_call7_v87 : Ref sig .tc := ⟨.hbm, 862, rfl⟩
abbrev main_call7_v88 : Ref sig .tc := ⟨.hbm, 863, rfl⟩
abbrev main_call7_v89 : Ref sig .tc := ⟨.hbm, 864, rfl⟩
abbrev main_call7_v90 : Ref sig .tc := ⟨.hbm, 865, rfl⟩
abbrev main_call7_v91 : Ref sig .tc := ⟨.hbm, 866, rfl⟩
abbrev main_call7_v92 : Ref sig .tc := ⟨.hbm, 867, rfl⟩
abbrev main_call7_v93 : Ref sig .tc := ⟨.hbm, 868, rfl⟩
abbrev main_call7_v94 : Ref sig .tc := ⟨.hbm, 869, rfl⟩
abbrev main_call7_v95 : Ref sig .tc := ⟨.hbm, 870, rfl⟩
abbrev main_call7_v96 : Ref sig .tc := ⟨.hbm, 871, rfl⟩
abbrev main_call7_v97 : Ref sig .tc := ⟨.hbm, 872, rfl⟩
abbrev main_call7_v98 : Ref sig .tc := ⟨.hbm, 873, rfl⟩
abbrev main_call7_v99 : Ref sig .tc := ⟨.hbm, 874, rfl⟩
abbrev main_call7_v100 : Ref sig .tc := ⟨.hbm, 875, rfl⟩
abbrev main_call7_v101 : Ref sig .tc := ⟨.hbm, 876, rfl⟩
abbrev main_call7_v102 : Ref sig .tc := ⟨.hbm, 877, rfl⟩
abbrev main_call7_v103 : Ref sig .tc := ⟨.hbm, 878, rfl⟩
abbrev main_call7_v104 : Ref sig .tc := ⟨.hbm, 879, rfl⟩
abbrev main_call7_v105 : Ref sig .tc := ⟨.hbm, 880, rfl⟩
abbrev main_call7_v106 : Ref sig .tc := ⟨.hbm, 881, rfl⟩
abbrev main_call7_v107 : Ref sig .tc := ⟨.hbm, 882, rfl⟩
abbrev main_call7_v108 : Ref sig .tc := ⟨.hbm, 883, rfl⟩
abbrev main_call7_v109 : Ref sig .tc := ⟨.hbm, 884, rfl⟩
abbrev main_call7_v110 : Ref sig .tc := ⟨.hbm, 885, rfl⟩
abbrev main_call7_v111 : Ref sig .tc := ⟨.hbm, 886, rfl⟩
abbrev main_call7_v112 : Ref sig .tc := ⟨.hbm, 887, rfl⟩
abbrev main_call7_v113 : Ref sig .tc := ⟨.hbm, 888, rfl⟩
abbrev main_call7_v114 : Ref sig .tc := ⟨.hbm, 889, rfl⟩
abbrev main_call7_v115 : Ref sig .tc := ⟨.hbm, 890, rfl⟩
abbrev main_call7_v116 : Ref sig .tc := ⟨.hbm, 891, rfl⟩
abbrev main_call7_v117 : Ref sig .tc := ⟨.hbm, 892, rfl⟩
abbrev main_call7_v118 : Ref sig .tc := ⟨.hbm, 893, rfl⟩
abbrev main_call7_v119 : Ref sig .tc := ⟨.hbm, 894, rfl⟩
abbrev main_call7_v120 : Ref sig .tc := ⟨.hbm, 895, rfl⟩
abbrev main_call7_v121 : Ref sig .tc := ⟨.hbm, 896, rfl⟩
abbrev main_call7_v122 : Ref sig .tc := ⟨.hbm, 897, rfl⟩
abbrev main_call7_v123 : Ref sig .tc := ⟨.hbm, 898, rfl⟩
abbrev main_call7_v124 : Ref sig .tc := ⟨.hbm, 899, rfl⟩
abbrev main_call7_v125 : Ref sig .tc := ⟨.hbm, 900, rfl⟩
abbrev main_call7_v126 : Ref sig .tc := ⟨.hbm, 901, rfl⟩
abbrev main_call7_v127 : Ref sig .tc := ⟨.hbm, 902, rfl⟩
abbrev main_call7_v128 : Ref sig .tc := ⟨.hbm, 903, rfl⟩
abbrev main_call7_v129 : Ref sig .tc := ⟨.hbm, 904, rfl⟩
abbrev main_call7_v130 : Ref sig .tc := ⟨.hbm, 905, rfl⟩
abbrev main_call7_v131 : Ref sig .tc := ⟨.hbm, 906, rfl⟩
abbrev main_call7_v132 : Ref sig .tc := ⟨.hbm, 907, rfl⟩
abbrev main_call7_v133 : Ref sig .tc := ⟨.hbm, 908, rfl⟩
abbrev main_call7_v134 : Ref sig .tc := ⟨.hbm, 909, rfl⟩
abbrev main_call7_cst_5 : Ref sig .tc := ⟨.hbm, 910, rfl⟩
abbrev main_call7_v135 : Ref sig .tc := ⟨.hbm, 911, rfl⟩
abbrev main_call7_v136 : Ref sig .tc := ⟨.hbm, 912, rfl⟩
abbrev main_call7_cst_6 : Ref sig .tc := ⟨.hbm, 913, rfl⟩
abbrev main_call7_v137 : Ref sig .tc := ⟨.hbm, 914, rfl⟩
abbrev main_call7_v138 : Ref sig .tc := ⟨.hbm, 915, rfl⟩
abbrev main_call7_v139 : Ref sig .tc := ⟨.hbm, 916, rfl⟩
abbrev main_call7_v140 : Ref sig .tc := ⟨.hbm, 917, rfl⟩
abbrev main_call7_call2_v0 : Ref sig .tc := ⟨.hbm, 918, rfl⟩
abbrev main_call7_call2_cst : Ref sig .tc := ⟨.hbm, 919, rfl⟩
abbrev main_call7_call2_c : Ref sig .tc := ⟨.hbm, 920, rfl⟩
abbrev main_call7_call2_v1_0 : Ref sig .tc := ⟨.hbm, 921, rfl⟩
abbrev main_call7_v141 : Ref sig .tc := ⟨.hbm, 922, rfl⟩
abbrev main_call7_v142 : Ref sig .tc := ⟨.hbm, 923, rfl⟩
abbrev main_call7_call3_c : Ref sig .tc := ⟨.hbm, 924, rfl⟩
abbrev main_call7_call3_v0 : Ref sig .tc := ⟨.hbm, 925, rfl⟩
abbrev main_call7_call3_v1 : Ref sig .tc := ⟨.hbm, 926, rfl⟩
abbrev main_call7_call3_c_0 : Ref sig .tc := ⟨.hbm, 927, rfl⟩
abbrev main_call7_call3_v2 : Ref sig .tc := ⟨.hbm, 928, rfl⟩
abbrev main_call7_call3_v3 : Ref sig .tc := ⟨.hbm, 929, rfl⟩
abbrev main_call7_call3_v4 : Ref sig .tc := ⟨.hbm, 930, rfl⟩
abbrev main_call7_call3_v5 : Ref sig .tc := ⟨.hbm, 931, rfl⟩
abbrev main_call7_call3_c_1 : Ref sig .tc := ⟨.hbm, 932, rfl⟩
abbrev main_call7_call3_c_2 : Ref sig .tc := ⟨.hbm, 933, rfl⟩
abbrev main_call7_call3_v6 : Ref sig .tc := ⟨.hbm, 934, rfl⟩
abbrev main_call7_call3_v7 : Ref sig .tc := ⟨.hbm, 935, rfl⟩
abbrev main_call7_call3_v8 : Ref sig .tc := ⟨.hbm, 936, rfl⟩
abbrev main_call7_call3_v9 : Ref sig .tc := ⟨.hbm, 937, rfl⟩
abbrev main_call7_call3_v10 : Ref sig .tc := ⟨.hbm, 938, rfl⟩
abbrev main_call7_call3_v11 : Ref sig .tc := ⟨.hbm, 939, rfl⟩
abbrev main_call7_call3_c_3 : Ref sig .tc := ⟨.hbm, 940, rfl⟩
abbrev main_call7_call3_v12 : Ref sig .tc := ⟨.hbm, 941, rfl⟩
abbrev main_call7_call3_v13 : Ref sig .tc := ⟨.hbm, 942, rfl⟩
abbrev main_call7_call3_v14 : Ref sig .tc := ⟨.hbm, 943, rfl⟩
abbrev main_call7_call3_cst : Ref sig .tc := ⟨.hbm, 944, rfl⟩
abbrev main_call7_call3_v15 : Ref sig .tc := ⟨.hbm, 945, rfl⟩
abbrev main_call7_v143 : Ref sig .tc := ⟨.hbm, 946, rfl⟩
abbrev main_call7_v144 : Ref sig .tc := ⟨.hbm, 947, rfl⟩
abbrev main_call7_v145 : Ref sig .tc := ⟨.hbm, 948, rfl⟩
abbrev main_call7_call4_v0 : Ref sig .tc := ⟨.hbm, 949, rfl⟩
abbrev main_call7_call4_cst : Ref sig .tc := ⟨.hbm, 950, rfl⟩
abbrev main_call7_call4_v1 : Ref sig .tc := ⟨.hbm, 951, rfl⟩
abbrev main_call7_call4_v2 : Ref sig .tc := ⟨.hbm, 952, rfl⟩
abbrev main_call7_v146 : Ref sig .tc := ⟨.hbm, 953, rfl⟩
abbrev main_call7_v147 : Ref sig .tc := ⟨.hbm, 954, rfl⟩
abbrev main_call7_v148 : Ref sig .tc := ⟨.hbm, 955, rfl⟩
abbrev main_call7_cst_7 : Ref sig .tc := ⟨.hbm, 956, rfl⟩
abbrev main_call7_v149 : Ref sig .tc := ⟨.hbm, 957, rfl⟩
abbrev main_call7_v150 : Ref sig .tc := ⟨.hbm, 958, rfl⟩
abbrev main_call7_v151 : Ref sig .tc := ⟨.hbm, 959, rfl⟩
abbrev main_call7_cst_8 : Ref sig .tc := ⟨.hbm, 960, rfl⟩
abbrev main_call7_v152 : Ref sig .tc := ⟨.hbm, 961, rfl⟩
abbrev main_call7_v153 : Ref sig .tc := ⟨.hbm, 962, rfl⟩
abbrev main_call7_cst_9 : Ref sig .tc := ⟨.hbm, 963, rfl⟩
abbrev main_call7_v154 : Ref sig .tc := ⟨.hbm, 964, rfl⟩
abbrev main_call7_v155 : Ref sig .tc := ⟨.hbm, 965, rfl⟩
abbrev main_call7_v156 : Ref sig .tc := ⟨.hbm, 966, rfl⟩
abbrev main_call7_cst_10 : Ref sig .tc := ⟨.hbm, 967, rfl⟩
abbrev main_call7_v157 : Ref sig .tc := ⟨.hbm, 968, rfl⟩
abbrev main_call7_v158 : Ref sig .tc := ⟨.hbm, 969, rfl⟩
abbrev main_call7_cst_11 : Ref sig .tc := ⟨.hbm, 970, rfl⟩
abbrev main_call7_v159 : Ref sig .tc := ⟨.hbm, 971, rfl⟩
abbrev main_call7_v160 : Ref sig .tc := ⟨.hbm, 972, rfl⟩
abbrev main_call7_v161 : Ref sig .tc := ⟨.hbm, 973, rfl⟩
abbrev main_call7_v162 : Ref sig .tc := ⟨.hbm, 974, rfl⟩
abbrev main_call7_v163 : Ref sig .tc := ⟨.hbm, 975, rfl⟩
abbrev main_call7_v164 : Ref sig .tc := ⟨.hbm, 976, rfl⟩
abbrev main_call7_v165 : Ref sig .tc := ⟨.hbm, 977, rfl⟩
abbrev main_v12 : Ref sig .tc := ⟨.hbm, 978, rfl⟩
abbrev main_v13 : Ref sig .tc := ⟨.hbm, 979, rfl⟩
abbrev main_call8_c : Ref sig .tc := ⟨.hbm, 980, rfl⟩
abbrev main_call8_v0 : Ref sig .tc := ⟨.hbm, 981, rfl⟩
abbrev main_call8_v1 : Ref sig .tc := ⟨.hbm, 982, rfl⟩
abbrev main_call8_c_0 : Ref sig .tc := ⟨.hbm, 983, rfl⟩
abbrev main_call8_v2 : Ref sig .tc := ⟨.hbm, 984, rfl⟩
abbrev main_call8_v3 : Ref sig .tc := ⟨.hbm, 985, rfl⟩
abbrev main_call8_v4 : Ref sig .tc := ⟨.hbm, 986, rfl⟩
abbrev main_call8_v5 : Ref sig .tc := ⟨.hbm, 987, rfl⟩
abbrev main_call8_c_1 : Ref sig .tc := ⟨.hbm, 988, rfl⟩
abbrev main_call8_c_2 : Ref sig .tc := ⟨.hbm, 989, rfl⟩
abbrev main_call8_v6 : Ref sig .tc := ⟨.hbm, 990, rfl⟩
abbrev main_call8_v7 : Ref sig .tc := ⟨.hbm, 991, rfl⟩
abbrev main_call8_v8 : Ref sig .tc := ⟨.hbm, 992, rfl⟩
abbrev main_call8_v9 : Ref sig .tc := ⟨.hbm, 993, rfl⟩
abbrev main_call8_v10 : Ref sig .tc := ⟨.hbm, 994, rfl⟩
abbrev main_call8_v11 : Ref sig .tc := ⟨.hbm, 995, rfl⟩
abbrev main_call8_c_3 : Ref sig .tc := ⟨.hbm, 996, rfl⟩
abbrev main_call8_v12 : Ref sig .tc := ⟨.hbm, 997, rfl⟩
abbrev main_call8_v13 : Ref sig .tc := ⟨.hbm, 998, rfl⟩
abbrev main_call8_v14 : Ref sig .tc := ⟨.hbm, 999, rfl⟩
abbrev main_call8_cst : Ref sig .tc := ⟨.hbm, 1000, rfl⟩
abbrev main_call8_v15 : Ref sig .tc := ⟨.hbm, 1001, rfl⟩
abbrev main_v14 : Ref sig .tc := ⟨.hbm, 1002, rfl⟩
abbrev main_v15 : Ref sig .tc := ⟨.hbm, 1003, rfl⟩
abbrev main_call9_v0 : Ref sig .tc := ⟨.hbm, 1004, rfl⟩
abbrev main_call9_v1 : Ref sig .tc := ⟨.hbm, 1005, rfl⟩
abbrev main_call9_call0_v0 : Ref sig .tc := ⟨.hbm, 1006, rfl⟩
abbrev main_call9_call0_cst : Ref sig .tc := ⟨.hbm, 1007, rfl⟩
abbrev main_call9_call0_v1 : Ref sig .tc := ⟨.hbm, 1008, rfl⟩
abbrev main_call9_call0_v2 : Ref sig .tc := ⟨.hbm, 1009, rfl⟩
abbrev main_call9_v2 : Ref sig .tc := ⟨.hbm, 1010, rfl⟩
abbrev main_call9_v3 : Ref sig .tc := ⟨.hbm, 1011, rfl⟩
abbrev main_call9_v4 : Ref sig .tc := ⟨.hbm, 1012, rfl⟩
abbrev main_call9_v5 : Ref sig .tc := ⟨.hbm, 1013, rfl⟩
abbrev main_call9_cst : Ref sig .tc := ⟨.hbm, 1014, rfl⟩
abbrev main_call9_v6 : Ref sig .tc := ⟨.hbm, 1015, rfl⟩
abbrev main_call9_v7 : Ref sig .tc := ⟨.hbm, 1016, rfl⟩
abbrev main_call9_v8 : Ref sig .tc := ⟨.hbm, 1017, rfl⟩
abbrev main_call9_v9 : Ref sig .tc := ⟨.hbm, 1018, rfl⟩
abbrev main_call9_v10 : Ref sig .tc := ⟨.hbm, 1019, rfl⟩
abbrev main_call9_call1_v0 : Ref sig .tc := ⟨.hbm, 1020, rfl⟩
abbrev main_call9_call1_cst : Ref sig .tc := ⟨.hbm, 1021, rfl⟩
abbrev main_call9_call1_v1 : Ref sig .tc := ⟨.hbm, 1022, rfl⟩
abbrev main_call9_call1_v2 : Ref sig .tc := ⟨.hbm, 1023, rfl⟩
abbrev main_call9_v11 : Ref sig .tc := ⟨.hbm, 1024, rfl⟩
abbrev main_call9_v12 : Ref sig .tc := ⟨.hbm, 1025, rfl⟩
abbrev main_call9_v13 : Ref sig .tc := ⟨.hbm, 1026, rfl⟩
abbrev main_call9_v14 : Ref sig .tc := ⟨.hbm, 1027, rfl⟩
abbrev main_call9_v15 : Ref sig .tc := ⟨.hbm, 1028, rfl⟩
abbrev main_call9_v16 : Ref sig .tc := ⟨.hbm, 1029, rfl⟩
abbrev main_call9_v17 : Ref sig .tc := ⟨.hbm, 1030, rfl⟩
abbrev main_call9_v18 : Ref sig .tc := ⟨.hbm, 1031, rfl⟩
abbrev main_call9_v19 : Ref sig .tc := ⟨.hbm, 1032, rfl⟩
abbrev main_call9_v20 : Ref sig .tc := ⟨.hbm, 1033, rfl⟩
abbrev main_call9_v21 : Ref sig .tc := ⟨.hbm, 1034, rfl⟩
abbrev main_call9_v22 : Ref sig .tc := ⟨.hbm, 1035, rfl⟩
abbrev main_call9_v23 : Ref sig .tc := ⟨.hbm, 1036, rfl⟩
abbrev main_call9_v24 : Ref sig .tc := ⟨.hbm, 1037, rfl⟩
abbrev main_call9_v25 : Ref sig .tc := ⟨.hbm, 1038, rfl⟩
abbrev main_call9_v26 : Ref sig .tc := ⟨.hbm, 1039, rfl⟩
abbrev main_call9_v27 : Ref sig .tc := ⟨.hbm, 1040, rfl⟩
abbrev main_call9_v28 : Ref sig .tc := ⟨.hbm, 1041, rfl⟩
abbrev main_call9_v29 : Ref sig .tc := ⟨.hbm, 1042, rfl⟩
abbrev main_call9_v30 : Ref sig .tc := ⟨.hbm, 1043, rfl⟩
abbrev main_call9_v31 : Ref sig .tc := ⟨.hbm, 1044, rfl⟩
abbrev main_call9_v32 : Ref sig .tc := ⟨.hbm, 1045, rfl⟩
abbrev main_call9_v33 : Ref sig .tc := ⟨.hbm, 1046, rfl⟩
abbrev main_call9_v34 : Ref sig .tc := ⟨.hbm, 1047, rfl⟩
abbrev main_call9_v35 : Ref sig .tc := ⟨.hbm, 1048, rfl⟩
abbrev main_call9_v36 : Ref sig .tc := ⟨.hbm, 1049, rfl⟩
abbrev main_call9_v37 : Ref sig .tc := ⟨.hbm, 1050, rfl⟩
abbrev main_call9_v38 : Ref sig .tc := ⟨.hbm, 1051, rfl⟩
abbrev main_call9_v39 : Ref sig .tc := ⟨.hbm, 1052, rfl⟩
abbrev main_call9_v40 : Ref sig .tc := ⟨.hbm, 1053, rfl⟩
abbrev main_call9_v41 : Ref sig .tc := ⟨.hbm, 1054, rfl⟩
abbrev main_call9_v42 : Ref sig .tc := ⟨.hbm, 1055, rfl⟩
abbrev main_call9_v43 : Ref sig .tc := ⟨.hbm, 1056, rfl⟩
abbrev main_call9_v44 : Ref sig .tc := ⟨.hbm, 1057, rfl⟩
abbrev main_call9_v45 : Ref sig .tc := ⟨.hbm, 1058, rfl⟩
abbrev main_call9_v46 : Ref sig .tc := ⟨.hbm, 1059, rfl⟩
abbrev main_call9_v47 : Ref sig .tc := ⟨.hbm, 1060, rfl⟩
abbrev main_call9_v48 : Ref sig .tc := ⟨.hbm, 1061, rfl⟩
abbrev main_call9_v49 : Ref sig .tc := ⟨.hbm, 1062, rfl⟩
abbrev main_call9_v50 : Ref sig .tc := ⟨.hbm, 1063, rfl⟩
abbrev main_call9_v51 : Ref sig .tc := ⟨.hbm, 1064, rfl⟩
abbrev main_call9_v52 : Ref sig .tc := ⟨.hbm, 1065, rfl⟩
abbrev main_call9_v53 : Ref sig .tc := ⟨.hbm, 1066, rfl⟩
abbrev main_call9_v54 : Ref sig .tc := ⟨.hbm, 1067, rfl⟩
abbrev main_call9_v55 : Ref sig .tc := ⟨.hbm, 1068, rfl⟩
abbrev main_call9_v56 : Ref sig .tc := ⟨.hbm, 1069, rfl⟩
abbrev main_call9_v57 : Ref sig .tc := ⟨.hbm, 1070, rfl⟩
abbrev main_call9_v58 : Ref sig .tc := ⟨.hbm, 1071, rfl⟩
abbrev main_call9_v59 : Ref sig .tc := ⟨.hbm, 1072, rfl⟩
abbrev main_call9_v60 : Ref sig .tc := ⟨.hbm, 1073, rfl⟩
abbrev main_call9_cst_0 : Ref sig .tc := ⟨.hbm, 1074, rfl⟩
abbrev main_call9_v61 : Ref sig .tc := ⟨.hbm, 1075, rfl⟩
abbrev main_call9_v62 : Ref sig .tc := ⟨.hbm, 1076, rfl⟩
abbrev main_call9_v63 : Ref sig .tc := ⟨.hbm, 1077, rfl⟩
abbrev main_call9_v64 : Ref sig .tc := ⟨.hbm, 1078, rfl⟩
abbrev main_call9_cst_1 : Ref sig .tc := ⟨.hbm, 1079, rfl⟩
abbrev main_call9_v65 : Ref sig .tc := ⟨.hbm, 1080, rfl⟩
abbrev main_call9_v66 : Ref sig .tc := ⟨.hbm, 1081, rfl⟩
abbrev main_call9_v67 : Ref sig .tc := ⟨.hbm, 1082, rfl⟩
abbrev main_call9_v68 : Ref sig .tc := ⟨.hbm, 1083, rfl⟩
abbrev main_call9_cst_2 : Ref sig .tc := ⟨.hbm, 1084, rfl⟩
abbrev main_call9_v69 : Ref sig .tc := ⟨.hbm, 1085, rfl⟩
abbrev main_call9_v70 : Ref sig .tc := ⟨.hbm, 1086, rfl⟩
abbrev main_call9_v71 : Ref sig .tc := ⟨.hbm, 1087, rfl⟩
abbrev main_call9_v72 : Ref sig .tc := ⟨.hbm, 1088, rfl⟩
abbrev main_call9_cst_3 : Ref sig .tc := ⟨.hbm, 1089, rfl⟩
abbrev main_call9_v73 : Ref sig .tc := ⟨.hbm, 1090, rfl⟩
abbrev main_call9_v74 : Ref sig .tc := ⟨.hbm, 1091, rfl⟩
abbrev main_call9_v75 : Ref sig .tc := ⟨.hbm, 1092, rfl⟩
abbrev main_call9_v76 : Ref sig .tc := ⟨.hbm, 1093, rfl⟩
abbrev main_call9_v77 : Ref sig .tc := ⟨.hbm, 1094, rfl⟩
abbrev main_call9_v78 : Ref sig .tc := ⟨.hbm, 1095, rfl⟩
abbrev main_call9_v79 : Ref sig .tc := ⟨.hbm, 1096, rfl⟩
abbrev main_call9_v80 : Ref sig .tc := ⟨.hbm, 1097, rfl⟩
abbrev main_call9_v81 : Ref sig .tc := ⟨.hbm, 1098, rfl⟩
abbrev main_call9_cst_4 : Ref sig .tc := ⟨.hbm, 1099, rfl⟩
abbrev main_call9_v82 : Ref sig .tc := ⟨.hbm, 1100, rfl⟩
abbrev main_call9_v83 : Ref sig .tc := ⟨.hbm, 1101, rfl⟩
abbrev main_call9_v84 : Ref sig .tc := ⟨.hbm, 1102, rfl⟩
abbrev main_call9_v85 : Ref sig .tc := ⟨.hbm, 1103, rfl⟩
abbrev main_call9_v86 : Ref sig .tc := ⟨.hbm, 1104, rfl⟩
abbrev main_call9_v87 : Ref sig .tc := ⟨.hbm, 1105, rfl⟩
abbrev main_call9_v88 : Ref sig .tc := ⟨.hbm, 1106, rfl⟩
abbrev main_call9_v89 : Ref sig .tc := ⟨.hbm, 1107, rfl⟩
abbrev main_call9_v90 : Ref sig .tc := ⟨.hbm, 1108, rfl⟩
abbrev main_call9_v91 : Ref sig .tc := ⟨.hbm, 1109, rfl⟩
abbrev main_call9_v92 : Ref sig .tc := ⟨.hbm, 1110, rfl⟩
abbrev main_call9_v93 : Ref sig .tc := ⟨.hbm, 1111, rfl⟩
abbrev main_call9_v94 : Ref sig .tc := ⟨.hbm, 1112, rfl⟩
abbrev main_call9_v95 : Ref sig .tc := ⟨.hbm, 1113, rfl⟩
abbrev main_call9_v96 : Ref sig .tc := ⟨.hbm, 1114, rfl⟩
abbrev main_call9_v97 : Ref sig .tc := ⟨.hbm, 1115, rfl⟩
abbrev main_call9_v98 : Ref sig .tc := ⟨.hbm, 1116, rfl⟩
abbrev main_call9_v99 : Ref sig .tc := ⟨.hbm, 1117, rfl⟩
abbrev main_call9_v100 : Ref sig .tc := ⟨.hbm, 1118, rfl⟩
abbrev main_call9_v101 : Ref sig .tc := ⟨.hbm, 1119, rfl⟩
abbrev main_call9_v102 : Ref sig .tc := ⟨.hbm, 1120, rfl⟩
abbrev main_call9_v103 : Ref sig .tc := ⟨.hbm, 1121, rfl⟩
abbrev main_call9_v104 : Ref sig .tc := ⟨.hbm, 1122, rfl⟩
abbrev main_call9_v105 : Ref sig .tc := ⟨.hbm, 1123, rfl⟩
abbrev main_call9_v106 : Ref sig .tc := ⟨.hbm, 1124, rfl⟩
abbrev main_call9_v107 : Ref sig .tc := ⟨.hbm, 1125, rfl⟩
abbrev main_call9_v108 : Ref sig .tc := ⟨.hbm, 1126, rfl⟩
abbrev main_call9_v109 : Ref sig .tc := ⟨.hbm, 1127, rfl⟩
abbrev main_call9_v110 : Ref sig .tc := ⟨.hbm, 1128, rfl⟩
abbrev main_call9_v111 : Ref sig .tc := ⟨.hbm, 1129, rfl⟩
abbrev main_call9_v112 : Ref sig .tc := ⟨.hbm, 1130, rfl⟩
abbrev main_call9_v113 : Ref sig .tc := ⟨.hbm, 1131, rfl⟩
abbrev main_call9_v114 : Ref sig .tc := ⟨.hbm, 1132, rfl⟩
abbrev main_call9_v115 : Ref sig .tc := ⟨.hbm, 1133, rfl⟩
abbrev main_call9_v116 : Ref sig .tc := ⟨.hbm, 1134, rfl⟩
abbrev main_call9_v117 : Ref sig .tc := ⟨.hbm, 1135, rfl⟩
abbrev main_call9_v118 : Ref sig .tc := ⟨.hbm, 1136, rfl⟩
abbrev main_call9_v119 : Ref sig .tc := ⟨.hbm, 1137, rfl⟩
abbrev main_call9_v120 : Ref sig .tc := ⟨.hbm, 1138, rfl⟩
abbrev main_call9_v121 : Ref sig .tc := ⟨.hbm, 1139, rfl⟩
abbrev main_call9_v122 : Ref sig .tc := ⟨.hbm, 1140, rfl⟩
abbrev main_call9_v123 : Ref sig .tc := ⟨.hbm, 1141, rfl⟩
abbrev main_call9_v124 : Ref sig .tc := ⟨.hbm, 1142, rfl⟩
abbrev main_call9_v125 : Ref sig .tc := ⟨.hbm, 1143, rfl⟩
abbrev main_call9_v126 : Ref sig .tc := ⟨.hbm, 1144, rfl⟩
abbrev main_call9_v127 : Ref sig .tc := ⟨.hbm, 1145, rfl⟩
abbrev main_call9_v128 : Ref sig .tc := ⟨.hbm, 1146, rfl⟩
abbrev main_call9_v129 : Ref sig .tc := ⟨.hbm, 1147, rfl⟩
abbrev main_call9_v130 : Ref sig .tc := ⟨.hbm, 1148, rfl⟩
abbrev main_call9_v131 : Ref sig .tc := ⟨.hbm, 1149, rfl⟩
abbrev main_call9_v132 : Ref sig .tc := ⟨.hbm, 1150, rfl⟩
abbrev main_call9_v133 : Ref sig .tc := ⟨.hbm, 1151, rfl⟩
abbrev main_call9_v134 : Ref sig .tc := ⟨.hbm, 1152, rfl⟩
abbrev main_call9_cst_5 : Ref sig .tc := ⟨.hbm, 1153, rfl⟩
abbrev main_call9_v135 : Ref sig .tc := ⟨.hbm, 1154, rfl⟩
abbrev main_call9_v136 : Ref sig .tc := ⟨.hbm, 1155, rfl⟩
abbrev main_call9_cst_6 : Ref sig .tc := ⟨.hbm, 1156, rfl⟩
abbrev main_call9_v137 : Ref sig .tc := ⟨.hbm, 1157, rfl⟩
abbrev main_call9_v138 : Ref sig .tc := ⟨.hbm, 1158, rfl⟩
abbrev main_call9_v139 : Ref sig .tc := ⟨.hbm, 1159, rfl⟩
abbrev main_call9_v140 : Ref sig .tc := ⟨.hbm, 1160, rfl⟩
abbrev main_call9_call2_v0 : Ref sig .tc := ⟨.hbm, 1161, rfl⟩
abbrev main_call9_call2_cst : Ref sig .tc := ⟨.hbm, 1162, rfl⟩
abbrev main_call9_call2_c : Ref sig .tc := ⟨.hbm, 1163, rfl⟩
abbrev main_call9_call2_v1_0 : Ref sig .tc := ⟨.hbm, 1164, rfl⟩
abbrev main_call9_v141 : Ref sig .tc := ⟨.hbm, 1165, rfl⟩
abbrev main_call9_v142 : Ref sig .tc := ⟨.hbm, 1166, rfl⟩
abbrev main_call9_call3_c : Ref sig .tc := ⟨.hbm, 1167, rfl⟩
abbrev main_call9_call3_v0 : Ref sig .tc := ⟨.hbm, 1168, rfl⟩
abbrev main_call9_call3_v1 : Ref sig .tc := ⟨.hbm, 1169, rfl⟩
abbrev main_call9_call3_c_0 : Ref sig .tc := ⟨.hbm, 1170, rfl⟩
abbrev main_call9_call3_v2 : Ref sig .tc := ⟨.hbm, 1171, rfl⟩
abbrev main_call9_call3_v3 : Ref sig .tc := ⟨.hbm, 1172, rfl⟩
abbrev main_call9_call3_v4 : Ref sig .tc := ⟨.hbm, 1173, rfl⟩
abbrev main_call9_call3_v5 : Ref sig .tc := ⟨.hbm, 1174, rfl⟩
abbrev main_call9_call3_c_1 : Ref sig .tc := ⟨.hbm, 1175, rfl⟩
abbrev main_call9_call3_c_2 : Ref sig .tc := ⟨.hbm, 1176, rfl⟩
abbrev main_call9_call3_v6 : Ref sig .tc := ⟨.hbm, 1177, rfl⟩
abbrev main_call9_call3_v7 : Ref sig .tc := ⟨.hbm, 1178, rfl⟩
abbrev main_call9_call3_v8 : Ref sig .tc := ⟨.hbm, 1179, rfl⟩
abbrev main_call9_call3_v9 : Ref sig .tc := ⟨.hbm, 1180, rfl⟩
abbrev main_call9_call3_v10 : Ref sig .tc := ⟨.hbm, 1181, rfl⟩
abbrev main_call9_call3_v11 : Ref sig .tc := ⟨.hbm, 1182, rfl⟩
abbrev main_call9_call3_c_3 : Ref sig .tc := ⟨.hbm, 1183, rfl⟩
abbrev main_call9_call3_v12 : Ref sig .tc := ⟨.hbm, 1184, rfl⟩
abbrev main_call9_call3_v13 : Ref sig .tc := ⟨.hbm, 1185, rfl⟩
abbrev main_call9_call3_v14 : Ref sig .tc := ⟨.hbm, 1186, rfl⟩
abbrev main_call9_call3_cst : Ref sig .tc := ⟨.hbm, 1187, rfl⟩
abbrev main_call9_call3_v15 : Ref sig .tc := ⟨.hbm, 1188, rfl⟩
abbrev main_call9_v143 : Ref sig .tc := ⟨.hbm, 1189, rfl⟩
abbrev main_call9_v144 : Ref sig .tc := ⟨.hbm, 1190, rfl⟩
abbrev main_call9_v145 : Ref sig .tc := ⟨.hbm, 1191, rfl⟩
abbrev main_call9_call4_v0 : Ref sig .tc := ⟨.hbm, 1192, rfl⟩
abbrev main_call9_call4_cst : Ref sig .tc := ⟨.hbm, 1193, rfl⟩
abbrev main_call9_call4_v1 : Ref sig .tc := ⟨.hbm, 1194, rfl⟩
abbrev main_call9_call4_v2 : Ref sig .tc := ⟨.hbm, 1195, rfl⟩
abbrev main_call9_v146 : Ref sig .tc := ⟨.hbm, 1196, rfl⟩
abbrev main_call9_v147 : Ref sig .tc := ⟨.hbm, 1197, rfl⟩
abbrev main_call9_v148 : Ref sig .tc := ⟨.hbm, 1198, rfl⟩
abbrev main_call9_cst_7 : Ref sig .tc := ⟨.hbm, 1199, rfl⟩
abbrev main_call9_v149 : Ref sig .tc := ⟨.hbm, 1200, rfl⟩
abbrev main_call9_v150 : Ref sig .tc := ⟨.hbm, 1201, rfl⟩
abbrev main_call9_v151 : Ref sig .tc := ⟨.hbm, 1202, rfl⟩
abbrev main_call9_cst_8 : Ref sig .tc := ⟨.hbm, 1203, rfl⟩
abbrev main_call9_v152 : Ref sig .tc := ⟨.hbm, 1204, rfl⟩
abbrev main_call9_v153 : Ref sig .tc := ⟨.hbm, 1205, rfl⟩
abbrev main_call9_cst_9 : Ref sig .tc := ⟨.hbm, 1206, rfl⟩
abbrev main_call9_v154 : Ref sig .tc := ⟨.hbm, 1207, rfl⟩
abbrev main_call9_v155 : Ref sig .tc := ⟨.hbm, 1208, rfl⟩
abbrev main_call9_v156 : Ref sig .tc := ⟨.hbm, 1209, rfl⟩
abbrev main_call9_cst_10 : Ref sig .tc := ⟨.hbm, 1210, rfl⟩
abbrev main_call9_v157 : Ref sig .tc := ⟨.hbm, 1211, rfl⟩
abbrev main_call9_v158 : Ref sig .tc := ⟨.hbm, 1212, rfl⟩
abbrev main_call9_cst_11 : Ref sig .tc := ⟨.hbm, 1213, rfl⟩
abbrev main_call9_v159 : Ref sig .tc := ⟨.hbm, 1214, rfl⟩
abbrev main_call9_v160 : Ref sig .tc := ⟨.hbm, 1215, rfl⟩
abbrev main_call9_v161 : Ref sig .tc := ⟨.hbm, 1216, rfl⟩
abbrev main_call9_v162 : Ref sig .tc := ⟨.hbm, 1217, rfl⟩
abbrev main_call9_v163 : Ref sig .tc := ⟨.hbm, 1218, rfl⟩
abbrev main_call9_v164 : Ref sig .tc := ⟨.hbm, 1219, rfl⟩
abbrev main_call9_v165 : Ref sig .tc := ⟨.hbm, 1220, rfl⟩
abbrev main_v16 : Ref sig .tc := ⟨.hbm, 1221, rfl⟩
abbrev main_v17 : Ref sig .tc := ⟨.hbm, 1222, rfl⟩
abbrev main_call10_c : Ref sig .tc := ⟨.hbm, 1223, rfl⟩
abbrev main_call10_v0 : Ref sig .tc := ⟨.hbm, 1224, rfl⟩
abbrev main_call10_v1 : Ref sig .tc := ⟨.hbm, 1225, rfl⟩
abbrev main_call10_c_0 : Ref sig .tc := ⟨.hbm, 1226, rfl⟩
abbrev main_call10_v2 : Ref sig .tc := ⟨.hbm, 1227, rfl⟩
abbrev main_call10_v3 : Ref sig .tc := ⟨.hbm, 1228, rfl⟩
abbrev main_call10_v4 : Ref sig .tc := ⟨.hbm, 1229, rfl⟩
abbrev main_call10_v5 : Ref sig .tc := ⟨.hbm, 1230, rfl⟩
abbrev main_call10_c_1 : Ref sig .tc := ⟨.hbm, 1231, rfl⟩
abbrev main_call10_c_2 : Ref sig .tc := ⟨.hbm, 1232, rfl⟩
abbrev main_call10_v6 : Ref sig .tc := ⟨.hbm, 1233, rfl⟩
abbrev main_call10_v7 : Ref sig .tc := ⟨.hbm, 1234, rfl⟩
abbrev main_call10_v8 : Ref sig .tc := ⟨.hbm, 1235, rfl⟩
abbrev main_call10_v9 : Ref sig .tc := ⟨.hbm, 1236, rfl⟩
abbrev main_call10_v10 : Ref sig .tc := ⟨.hbm, 1237, rfl⟩
abbrev main_call10_v11 : Ref sig .tc := ⟨.hbm, 1238, rfl⟩
abbrev main_call10_c_3 : Ref sig .tc := ⟨.hbm, 1239, rfl⟩
abbrev main_call10_v12 : Ref sig .tc := ⟨.hbm, 1240, rfl⟩
abbrev main_call10_v13 : Ref sig .tc := ⟨.hbm, 1241, rfl⟩
abbrev main_call10_v14 : Ref sig .tc := ⟨.hbm, 1242, rfl⟩
abbrev main_call10_cst : Ref sig .tc := ⟨.hbm, 1243, rfl⟩
abbrev main_call10_v15 : Ref sig .tc := ⟨.hbm, 1244, rfl⟩
abbrev main_v18 : Ref sig .tc := ⟨.hbm, 1245, rfl⟩
abbrev main_call11_v0 : Ref sig .tc := ⟨.hbm, 1246, rfl⟩
abbrev main_call11_v1 : Ref sig .tc := ⟨.hbm, 1247, rfl⟩
abbrev main_call11_call0_v0 : Ref sig .tc := ⟨.hbm, 1248, rfl⟩
abbrev main_call11_call0_cst : Ref sig .tc := ⟨.hbm, 1249, rfl⟩
abbrev main_call11_call0_v1 : Ref sig .tc := ⟨.hbm, 1250, rfl⟩
abbrev main_call11_call0_v2 : Ref sig .tc := ⟨.hbm, 1251, rfl⟩
abbrev main_call11_v2 : Ref sig .tc := ⟨.hbm, 1252, rfl⟩
abbrev main_call11_v3 : Ref sig .tc := ⟨.hbm, 1253, rfl⟩
abbrev main_call11_v4 : Ref sig .tc := ⟨.hbm, 1254, rfl⟩
abbrev main_call11_v5 : Ref sig .tc := ⟨.hbm, 1255, rfl⟩
abbrev main_call11_cst : Ref sig .tc := ⟨.hbm, 1256, rfl⟩
abbrev main_call11_v6 : Ref sig .tc := ⟨.hbm, 1257, rfl⟩
abbrev main_call11_v7 : Ref sig .tc := ⟨.hbm, 1258, rfl⟩
abbrev main_call11_v8 : Ref sig .tc := ⟨.hbm, 1259, rfl⟩
abbrev main_call11_v9 : Ref sig .tc := ⟨.hbm, 1260, rfl⟩
abbrev main_call11_v10 : Ref sig .tc := ⟨.hbm, 1261, rfl⟩
abbrev main_call11_call1_v0 : Ref sig .tc := ⟨.hbm, 1262, rfl⟩
abbrev main_call11_call1_cst : Ref sig .tc := ⟨.hbm, 1263, rfl⟩
abbrev main_call11_call1_v1 : Ref sig .tc := ⟨.hbm, 1264, rfl⟩
abbrev main_call11_call1_v2 : Ref sig .tc := ⟨.hbm, 1265, rfl⟩
abbrev main_call11_v11 : Ref sig .tc := ⟨.hbm, 1266, rfl⟩
abbrev main_call11_v12 : Ref sig .tc := ⟨.hbm, 1267, rfl⟩
abbrev main_call11_v13 : Ref sig .tc := ⟨.hbm, 1268, rfl⟩
abbrev main_call11_v14 : Ref sig .tc := ⟨.hbm, 1269, rfl⟩
abbrev main_call11_v15 : Ref sig .tc := ⟨.hbm, 1270, rfl⟩
abbrev main_call11_v16 : Ref sig .tc := ⟨.hbm, 1271, rfl⟩
abbrev main_call11_v17 : Ref sig .tc := ⟨.hbm, 1272, rfl⟩
abbrev main_call11_v18 : Ref sig .tc := ⟨.hbm, 1273, rfl⟩
abbrev main_call11_v19 : Ref sig .tc := ⟨.hbm, 1274, rfl⟩
abbrev main_call11_v20 : Ref sig .tc := ⟨.hbm, 1275, rfl⟩
abbrev main_call11_v21 : Ref sig .tc := ⟨.hbm, 1276, rfl⟩
abbrev main_call11_v22 : Ref sig .tc := ⟨.hbm, 1277, rfl⟩
abbrev main_call11_v23 : Ref sig .tc := ⟨.hbm, 1278, rfl⟩
abbrev main_call11_v24 : Ref sig .tc := ⟨.hbm, 1279, rfl⟩
abbrev main_call11_v25 : Ref sig .tc := ⟨.hbm, 1280, rfl⟩
abbrev main_call11_v26 : Ref sig .tc := ⟨.hbm, 1281, rfl⟩
abbrev main_call11_v27 : Ref sig .tc := ⟨.hbm, 1282, rfl⟩
abbrev main_call11_v28 : Ref sig .tc := ⟨.hbm, 1283, rfl⟩
abbrev main_call11_v29 : Ref sig .tc := ⟨.hbm, 1284, rfl⟩
abbrev main_call11_v30 : Ref sig .tc := ⟨.hbm, 1285, rfl⟩
abbrev main_call11_v31 : Ref sig .tc := ⟨.hbm, 1286, rfl⟩
abbrev main_call11_v32 : Ref sig .tc := ⟨.hbm, 1287, rfl⟩
abbrev main_call11_v33 : Ref sig .tc := ⟨.hbm, 1288, rfl⟩
abbrev main_call11_v34 : Ref sig .tc := ⟨.hbm, 1289, rfl⟩
abbrev main_call11_v35 : Ref sig .tc := ⟨.hbm, 1290, rfl⟩
abbrev main_call11_v36 : Ref sig .tc := ⟨.hbm, 1291, rfl⟩
abbrev main_call11_v37 : Ref sig .tc := ⟨.hbm, 1292, rfl⟩
abbrev main_call11_v38 : Ref sig .tc := ⟨.hbm, 1293, rfl⟩
abbrev main_call11_v39 : Ref sig .tc := ⟨.hbm, 1294, rfl⟩
abbrev main_call11_v40 : Ref sig .tc := ⟨.hbm, 1295, rfl⟩
abbrev main_call11_v41 : Ref sig .tc := ⟨.hbm, 1296, rfl⟩
abbrev main_call11_v42 : Ref sig .tc := ⟨.hbm, 1297, rfl⟩
abbrev main_call11_v43 : Ref sig .tc := ⟨.hbm, 1298, rfl⟩
abbrev main_call11_v44 : Ref sig .tc := ⟨.hbm, 1299, rfl⟩
abbrev main_call11_v45 : Ref sig .tc := ⟨.hbm, 1300, rfl⟩
abbrev main_call11_v46 : Ref sig .tc := ⟨.hbm, 1301, rfl⟩
abbrev main_call11_v47 : Ref sig .tc := ⟨.hbm, 1302, rfl⟩
abbrev main_call11_v48 : Ref sig .tc := ⟨.hbm, 1303, rfl⟩
abbrev main_call11_v49 : Ref sig .tc := ⟨.hbm, 1304, rfl⟩
abbrev main_call11_v50 : Ref sig .tc := ⟨.hbm, 1305, rfl⟩
abbrev main_call11_v51 : Ref sig .tc := ⟨.hbm, 1306, rfl⟩
abbrev main_call11_v52 : Ref sig .tc := ⟨.hbm, 1307, rfl⟩
abbrev main_call11_v53 : Ref sig .tc := ⟨.hbm, 1308, rfl⟩
abbrev main_call11_v54 : Ref sig .tc := ⟨.hbm, 1309, rfl⟩
abbrev main_call11_v55 : Ref sig .tc := ⟨.hbm, 1310, rfl⟩
abbrev main_call11_v56 : Ref sig .tc := ⟨.hbm, 1311, rfl⟩
abbrev main_call11_v57 : Ref sig .tc := ⟨.hbm, 1312, rfl⟩
abbrev main_call11_v58 : Ref sig .tc := ⟨.hbm, 1313, rfl⟩
abbrev main_call11_v59 : Ref sig .tc := ⟨.hbm, 1314, rfl⟩
abbrev main_call11_v60 : Ref sig .tc := ⟨.hbm, 1315, rfl⟩
abbrev main_call11_cst_0 : Ref sig .tc := ⟨.hbm, 1316, rfl⟩
abbrev main_call11_v61 : Ref sig .tc := ⟨.hbm, 1317, rfl⟩
abbrev main_call11_v62 : Ref sig .tc := ⟨.hbm, 1318, rfl⟩
abbrev main_call11_v63 : Ref sig .tc := ⟨.hbm, 1319, rfl⟩
abbrev main_call11_v64 : Ref sig .tc := ⟨.hbm, 1320, rfl⟩
abbrev main_call11_cst_1 : Ref sig .tc := ⟨.hbm, 1321, rfl⟩
abbrev main_call11_v65 : Ref sig .tc := ⟨.hbm, 1322, rfl⟩
abbrev main_call11_v66 : Ref sig .tc := ⟨.hbm, 1323, rfl⟩
abbrev main_call11_v67 : Ref sig .tc := ⟨.hbm, 1324, rfl⟩
abbrev main_call11_v68 : Ref sig .tc := ⟨.hbm, 1325, rfl⟩
abbrev main_call11_cst_2 : Ref sig .tc := ⟨.hbm, 1326, rfl⟩
abbrev main_call11_v69 : Ref sig .tc := ⟨.hbm, 1327, rfl⟩
abbrev main_call11_v70 : Ref sig .tc := ⟨.hbm, 1328, rfl⟩
abbrev main_call11_v71 : Ref sig .tc := ⟨.hbm, 1329, rfl⟩
abbrev main_call11_v72 : Ref sig .tc := ⟨.hbm, 1330, rfl⟩
abbrev main_call11_cst_3 : Ref sig .tc := ⟨.hbm, 1331, rfl⟩
abbrev main_call11_v73 : Ref sig .tc := ⟨.hbm, 1332, rfl⟩
abbrev main_call11_v74 : Ref sig .tc := ⟨.hbm, 1333, rfl⟩
abbrev main_call11_v75 : Ref sig .tc := ⟨.hbm, 1334, rfl⟩
abbrev main_call11_v76 : Ref sig .tc := ⟨.hbm, 1335, rfl⟩
abbrev main_call11_v77 : Ref sig .tc := ⟨.hbm, 1336, rfl⟩
abbrev main_call11_v78 : Ref sig .tc := ⟨.hbm, 1337, rfl⟩
abbrev main_call11_v79 : Ref sig .tc := ⟨.hbm, 1338, rfl⟩
abbrev main_call11_v80 : Ref sig .tc := ⟨.hbm, 1339, rfl⟩
abbrev main_call11_v81 : Ref sig .tc := ⟨.hbm, 1340, rfl⟩
abbrev main_call11_cst_4 : Ref sig .tc := ⟨.hbm, 1341, rfl⟩
abbrev main_call11_v82 : Ref sig .tc := ⟨.hbm, 1342, rfl⟩
abbrev main_call11_v83 : Ref sig .tc := ⟨.hbm, 1343, rfl⟩
abbrev main_call11_v84 : Ref sig .tc := ⟨.hbm, 1344, rfl⟩
abbrev main_call11_v85 : Ref sig .tc := ⟨.hbm, 1345, rfl⟩
abbrev main_call11_v86 : Ref sig .tc := ⟨.hbm, 1346, rfl⟩
abbrev main_call11_v87 : Ref sig .tc := ⟨.hbm, 1347, rfl⟩
abbrev main_call11_v88 : Ref sig .tc := ⟨.hbm, 1348, rfl⟩
abbrev main_call11_v89 : Ref sig .tc := ⟨.hbm, 1349, rfl⟩
abbrev main_call11_v90 : Ref sig .tc := ⟨.hbm, 1350, rfl⟩
abbrev main_call11_v91 : Ref sig .tc := ⟨.hbm, 1351, rfl⟩
abbrev main_call11_v92 : Ref sig .tc := ⟨.hbm, 1352, rfl⟩
abbrev main_call11_v93 : Ref sig .tc := ⟨.hbm, 1353, rfl⟩
abbrev main_call11_v94 : Ref sig .tc := ⟨.hbm, 1354, rfl⟩
abbrev main_call11_v95 : Ref sig .tc := ⟨.hbm, 1355, rfl⟩
abbrev main_call11_v96 : Ref sig .tc := ⟨.hbm, 1356, rfl⟩
abbrev main_call11_v97 : Ref sig .tc := ⟨.hbm, 1357, rfl⟩
abbrev main_call11_v98 : Ref sig .tc := ⟨.hbm, 1358, rfl⟩
abbrev main_call11_v99 : Ref sig .tc := ⟨.hbm, 1359, rfl⟩
abbrev main_call11_v100 : Ref sig .tc := ⟨.hbm, 1360, rfl⟩
abbrev main_call11_v101 : Ref sig .tc := ⟨.hbm, 1361, rfl⟩
abbrev main_call11_v102 : Ref sig .tc := ⟨.hbm, 1362, rfl⟩
abbrev main_call11_v103 : Ref sig .tc := ⟨.hbm, 1363, rfl⟩
abbrev main_call11_v104 : Ref sig .tc := ⟨.hbm, 1364, rfl⟩
abbrev main_call11_v105 : Ref sig .tc := ⟨.hbm, 1365, rfl⟩
abbrev main_call11_v106 : Ref sig .tc := ⟨.hbm, 1366, rfl⟩
abbrev main_call11_v107 : Ref sig .tc := ⟨.hbm, 1367, rfl⟩
abbrev main_call11_v108 : Ref sig .tc := ⟨.hbm, 1368, rfl⟩
abbrev main_call11_v109 : Ref sig .tc := ⟨.hbm, 1369, rfl⟩
abbrev main_call11_v110 : Ref sig .tc := ⟨.hbm, 1370, rfl⟩
abbrev main_call11_v111 : Ref sig .tc := ⟨.hbm, 1371, rfl⟩
abbrev main_call11_v112 : Ref sig .tc := ⟨.hbm, 1372, rfl⟩
abbrev main_call11_v113 : Ref sig .tc := ⟨.hbm, 1373, rfl⟩
abbrev main_call11_v114 : Ref sig .tc := ⟨.hbm, 1374, rfl⟩
abbrev main_call11_v115 : Ref sig .tc := ⟨.hbm, 1375, rfl⟩
abbrev main_call11_v116 : Ref sig .tc := ⟨.hbm, 1376, rfl⟩
abbrev main_call11_v117 : Ref sig .tc := ⟨.hbm, 1377, rfl⟩
abbrev main_call11_v118 : Ref sig .tc := ⟨.hbm, 1378, rfl⟩
abbrev main_call11_v119 : Ref sig .tc := ⟨.hbm, 1379, rfl⟩
abbrev main_call11_v120 : Ref sig .tc := ⟨.hbm, 1380, rfl⟩
abbrev main_call11_v121 : Ref sig .tc := ⟨.hbm, 1381, rfl⟩
abbrev main_call11_v122 : Ref sig .tc := ⟨.hbm, 1382, rfl⟩
abbrev main_call11_v123 : Ref sig .tc := ⟨.hbm, 1383, rfl⟩
abbrev main_call11_v124 : Ref sig .tc := ⟨.hbm, 1384, rfl⟩
abbrev main_call11_v125 : Ref sig .tc := ⟨.hbm, 1385, rfl⟩
abbrev main_call11_v126 : Ref sig .tc := ⟨.hbm, 1386, rfl⟩
abbrev main_call11_v127 : Ref sig .tc := ⟨.hbm, 1387, rfl⟩
abbrev main_call11_v128 : Ref sig .tc := ⟨.hbm, 1388, rfl⟩
abbrev main_call11_v129 : Ref sig .tc := ⟨.hbm, 1389, rfl⟩
abbrev main_call11_v130 : Ref sig .tc := ⟨.hbm, 1390, rfl⟩
abbrev main_call11_v131 : Ref sig .tc := ⟨.hbm, 1391, rfl⟩
abbrev main_call11_v132 : Ref sig .tc := ⟨.hbm, 1392, rfl⟩
abbrev main_call11_v133 : Ref sig .tc := ⟨.hbm, 1393, rfl⟩
abbrev main_call11_v134 : Ref sig .tc := ⟨.hbm, 1394, rfl⟩
abbrev main_call11_cst_5 : Ref sig .tc := ⟨.hbm, 1395, rfl⟩
abbrev main_call11_v135 : Ref sig .tc := ⟨.hbm, 1396, rfl⟩
abbrev main_call11_v136 : Ref sig .tc := ⟨.hbm, 1397, rfl⟩
abbrev main_call11_cst_6 : Ref sig .tc := ⟨.hbm, 1398, rfl⟩
abbrev main_call11_v137 : Ref sig .tc := ⟨.hbm, 1399, rfl⟩
abbrev main_call11_v138 : Ref sig .tc := ⟨.hbm, 1400, rfl⟩
abbrev main_call11_v139 : Ref sig .tc := ⟨.hbm, 1401, rfl⟩
abbrev main_call11_v140 : Ref sig .tc := ⟨.hbm, 1402, rfl⟩
abbrev main_call11_call2_v0 : Ref sig .tc := ⟨.hbm, 1403, rfl⟩
abbrev main_call11_call2_cst : Ref sig .tc := ⟨.hbm, 1404, rfl⟩
abbrev main_call11_call2_c : Ref sig .tc := ⟨.hbm, 1405, rfl⟩
abbrev main_call11_call2_v1_0 : Ref sig .tc := ⟨.hbm, 1406, rfl⟩
abbrev main_call11_v141 : Ref sig .tc := ⟨.hbm, 1407, rfl⟩
abbrev main_call11_v142 : Ref sig .tc := ⟨.hbm, 1408, rfl⟩
abbrev main_call11_call3_c : Ref sig .tc := ⟨.hbm, 1409, rfl⟩
abbrev main_call11_call3_v0 : Ref sig .tc := ⟨.hbm, 1410, rfl⟩
abbrev main_call11_call3_v1 : Ref sig .tc := ⟨.hbm, 1411, rfl⟩
abbrev main_call11_call3_c_0 : Ref sig .tc := ⟨.hbm, 1412, rfl⟩
abbrev main_call11_call3_v2 : Ref sig .tc := ⟨.hbm, 1413, rfl⟩
abbrev main_call11_call3_v3 : Ref sig .tc := ⟨.hbm, 1414, rfl⟩
abbrev main_call11_call3_v4 : Ref sig .tc := ⟨.hbm, 1415, rfl⟩
abbrev main_call11_call3_c_1 : Ref sig .tc := ⟨.hbm, 1416, rfl⟩
abbrev main_call11_call3_c_2 : Ref sig .tc := ⟨.hbm, 1417, rfl⟩
abbrev main_call11_call3_v5 : Ref sig .tc := ⟨.hbm, 1418, rfl⟩
abbrev main_call11_call3_v6 : Ref sig .tc := ⟨.hbm, 1419, rfl⟩
abbrev main_call11_call3_v7 : Ref sig .tc := ⟨.hbm, 1420, rfl⟩
abbrev main_call11_call3_v8 : Ref sig .tc := ⟨.hbm, 1421, rfl⟩
abbrev main_call11_call3_v9 : Ref sig .tc := ⟨.hbm, 1422, rfl⟩
abbrev main_call11_call3_v10 : Ref sig .tc := ⟨.hbm, 1423, rfl⟩
abbrev main_call11_call3_c_3 : Ref sig .tc := ⟨.hbm, 1424, rfl⟩
abbrev main_call11_call3_v11 : Ref sig .tc := ⟨.hbm, 1425, rfl⟩
abbrev main_call11_call3_v12 : Ref sig .tc := ⟨.hbm, 1426, rfl⟩
abbrev main_call11_call3_v13 : Ref sig .tc := ⟨.hbm, 1427, rfl⟩
abbrev main_call11_call3_cst : Ref sig .tc := ⟨.hbm, 1428, rfl⟩
abbrev main_call11_call3_v14 : Ref sig .tc := ⟨.hbm, 1429, rfl⟩
abbrev main_call11_v143 : Ref sig .tc := ⟨.hbm, 1430, rfl⟩
abbrev main_call11_v144 : Ref sig .tc := ⟨.hbm, 1431, rfl⟩
abbrev main_call11_v145 : Ref sig .tc := ⟨.hbm, 1432, rfl⟩
abbrev main_call11_call4_v0 : Ref sig .tc := ⟨.hbm, 1433, rfl⟩
abbrev main_call11_call4_cst : Ref sig .tc := ⟨.hbm, 1434, rfl⟩
abbrev main_call11_call4_v1 : Ref sig .tc := ⟨.hbm, 1435, rfl⟩
abbrev main_call11_call4_v2 : Ref sig .tc := ⟨.hbm, 1436, rfl⟩
abbrev main_call11_v146 : Ref sig .tc := ⟨.hbm, 1437, rfl⟩
abbrev main_call11_v147 : Ref sig .tc := ⟨.hbm, 1438, rfl⟩
abbrev main_call11_v148 : Ref sig .tc := ⟨.hbm, 1439, rfl⟩
abbrev main_call11_cst_7 : Ref sig .tc := ⟨.hbm, 1440, rfl⟩
abbrev main_call11_v149 : Ref sig .tc := ⟨.hbm, 1441, rfl⟩
abbrev main_call11_v150 : Ref sig .tc := ⟨.hbm, 1442, rfl⟩
abbrev main_call11_v151 : Ref sig .tc := ⟨.hbm, 1443, rfl⟩
abbrev main_call11_cst_8 : Ref sig .tc := ⟨.hbm, 1444, rfl⟩
abbrev main_call11_v152 : Ref sig .tc := ⟨.hbm, 1445, rfl⟩
abbrev main_call11_v153 : Ref sig .tc := ⟨.hbm, 1446, rfl⟩
abbrev main_call11_cst_9 : Ref sig .tc := ⟨.hbm, 1447, rfl⟩
abbrev main_call11_v154 : Ref sig .tc := ⟨.hbm, 1448, rfl⟩
abbrev main_call11_v155 : Ref sig .tc := ⟨.hbm, 1449, rfl⟩
abbrev main_call11_v156 : Ref sig .tc := ⟨.hbm, 1450, rfl⟩
abbrev main_call11_cst_10 : Ref sig .tc := ⟨.hbm, 1451, rfl⟩
abbrev main_call11_v157 : Ref sig .tc := ⟨.hbm, 1452, rfl⟩
abbrev main_call11_v158 : Ref sig .tc := ⟨.hbm, 1453, rfl⟩
abbrev main_call11_cst_11 : Ref sig .tc := ⟨.hbm, 1454, rfl⟩
abbrev main_call11_v159 : Ref sig .tc := ⟨.hbm, 1455, rfl⟩
abbrev main_call11_v160 : Ref sig .tc := ⟨.hbm, 1456, rfl⟩
abbrev main_call11_v161 : Ref sig .tc := ⟨.hbm, 1457, rfl⟩
abbrev main_call11_v162 : Ref sig .tc := ⟨.hbm, 1458, rfl⟩
abbrev main_call11_v163 : Ref sig .tc := ⟨.hbm, 1459, rfl⟩
abbrev main_call11_v164 : Ref sig .tc := ⟨.hbm, 1460, rfl⟩
abbrev main_call11_v165 : Ref sig .tc := ⟨.hbm, 1461, rfl⟩
abbrev main_v19 : Ref sig .tc := ⟨.hbm, 1462, rfl⟩
abbrev main_call12_c : Ref sig .tc := ⟨.hbm, 1463, rfl⟩
abbrev main_call12_v0 : Ref sig .tc := ⟨.hbm, 1464, rfl⟩
abbrev main_call12_v1 : Ref sig .tc := ⟨.hbm, 1465, rfl⟩
abbrev main_call12_c_0 : Ref sig .tc := ⟨.hbm, 1466, rfl⟩
abbrev main_call12_v2 : Ref sig .tc := ⟨.hbm, 1467, rfl⟩
abbrev main_call12_v3 : Ref sig .tc := ⟨.hbm, 1468, rfl⟩
abbrev main_call12_v4 : Ref sig .tc := ⟨.hbm, 1469, rfl⟩
abbrev main_call12_v5 : Ref sig .tc := ⟨.hbm, 1470, rfl⟩
abbrev main_call12_c_1 : Ref sig .tc := ⟨.hbm, 1471, rfl⟩
abbrev main_call12_c_2 : Ref sig .tc := ⟨.hbm, 1472, rfl⟩
abbrev main_call12_v6 : Ref sig .tc := ⟨.hbm, 1473, rfl⟩
abbrev main_call12_v7 : Ref sig .tc := ⟨.hbm, 1474, rfl⟩
abbrev main_call12_v8 : Ref sig .tc := ⟨.hbm, 1475, rfl⟩
abbrev main_call12_v9 : Ref sig .tc := ⟨.hbm, 1476, rfl⟩
abbrev main_call12_v10 : Ref sig .tc := ⟨.hbm, 1477, rfl⟩
abbrev main_call12_v11 : Ref sig .tc := ⟨.hbm, 1478, rfl⟩
abbrev main_call12_c_3 : Ref sig .tc := ⟨.hbm, 1479, rfl⟩
abbrev main_call12_v12 : Ref sig .tc := ⟨.hbm, 1480, rfl⟩
abbrev main_call12_v13 : Ref sig .tc := ⟨.hbm, 1481, rfl⟩
abbrev main_call12_v14 : Ref sig .tc := ⟨.hbm, 1482, rfl⟩
abbrev main_call12_cst : Ref sig .tc := ⟨.hbm, 1483, rfl⟩
abbrev main_call12_v15 : Ref sig .tc := ⟨.hbm, 1484, rfl⟩
abbrev main_v20 : Ref sig .tc := ⟨.hbm, 1485, rfl⟩
abbrev main_call13_v0 : Ref sig .tc := ⟨.hbm, 1486, rfl⟩
abbrev main_call13_v1 : Ref sig .tc := ⟨.hbm, 1487, rfl⟩
abbrev main_call13_call0_v0 : Ref sig .tc := ⟨.hbm, 1488, rfl⟩
abbrev main_call13_call0_cst : Ref sig .tc := ⟨.hbm, 1489, rfl⟩
abbrev main_call13_call0_v1 : Ref sig .tc := ⟨.hbm, 1490, rfl⟩
abbrev main_call13_call0_v2 : Ref sig .tc := ⟨.hbm, 1491, rfl⟩
abbrev main_call13_v2 : Ref sig .tc := ⟨.hbm, 1492, rfl⟩
abbrev main_call13_v3 : Ref sig .tc := ⟨.hbm, 1493, rfl⟩
abbrev main_call13_v4 : Ref sig .tc := ⟨.hbm, 1494, rfl⟩
abbrev main_call13_v5 : Ref sig .tc := ⟨.hbm, 1495, rfl⟩
abbrev main_call13_cst : Ref sig .tc := ⟨.hbm, 1496, rfl⟩
abbrev main_call13_v6 : Ref sig .tc := ⟨.hbm, 1497, rfl⟩
abbrev main_call13_v7 : Ref sig .tc := ⟨.hbm, 1498, rfl⟩
abbrev main_call13_v8 : Ref sig .tc := ⟨.hbm, 1499, rfl⟩
abbrev main_call13_v9 : Ref sig .tc := ⟨.hbm, 1500, rfl⟩
abbrev main_call13_v10 : Ref sig .tc := ⟨.hbm, 1501, rfl⟩
abbrev main_call13_call1_v0 : Ref sig .tc := ⟨.hbm, 1502, rfl⟩
abbrev main_call13_call1_cst : Ref sig .tc := ⟨.hbm, 1503, rfl⟩
abbrev main_call13_call1_v1 : Ref sig .tc := ⟨.hbm, 1504, rfl⟩
abbrev main_call13_call1_v2 : Ref sig .tc := ⟨.hbm, 1505, rfl⟩
abbrev main_call13_v11 : Ref sig .tc := ⟨.hbm, 1506, rfl⟩
abbrev main_call13_v12 : Ref sig .tc := ⟨.hbm, 1507, rfl⟩
abbrev main_call13_v13 : Ref sig .tc := ⟨.hbm, 1508, rfl⟩
abbrev main_call13_v14 : Ref sig .tc := ⟨.hbm, 1509, rfl⟩
abbrev main_call13_v15 : Ref sig .tc := ⟨.hbm, 1510, rfl⟩
abbrev main_call13_v16 : Ref sig .tc := ⟨.hbm, 1511, rfl⟩
abbrev main_call13_v17 : Ref sig .tc := ⟨.hbm, 1512, rfl⟩
abbrev main_call13_v18 : Ref sig .tc := ⟨.hbm, 1513, rfl⟩
abbrev main_call13_v19 : Ref sig .tc := ⟨.hbm, 1514, rfl⟩
abbrev main_call13_v20 : Ref sig .tc := ⟨.hbm, 1515, rfl⟩
abbrev main_call13_v21 : Ref sig .tc := ⟨.hbm, 1516, rfl⟩
abbrev main_call13_v22 : Ref sig .tc := ⟨.hbm, 1517, rfl⟩
abbrev main_call13_v23 : Ref sig .tc := ⟨.hbm, 1518, rfl⟩
abbrev main_call13_v24 : Ref sig .tc := ⟨.hbm, 1519, rfl⟩
abbrev main_call13_v25 : Ref sig .tc := ⟨.hbm, 1520, rfl⟩
abbrev main_call13_v26 : Ref sig .tc := ⟨.hbm, 1521, rfl⟩
abbrev main_call13_v27 : Ref sig .tc := ⟨.hbm, 1522, rfl⟩
abbrev main_call13_v28 : Ref sig .tc := ⟨.hbm, 1523, rfl⟩
abbrev main_call13_v29 : Ref sig .tc := ⟨.hbm, 1524, rfl⟩
abbrev main_call13_v30 : Ref sig .tc := ⟨.hbm, 1525, rfl⟩
abbrev main_call13_v31 : Ref sig .tc := ⟨.hbm, 1526, rfl⟩
abbrev main_call13_v32 : Ref sig .tc := ⟨.hbm, 1527, rfl⟩
abbrev main_call13_v33 : Ref sig .tc := ⟨.hbm, 1528, rfl⟩
abbrev main_call13_v34 : Ref sig .tc := ⟨.hbm, 1529, rfl⟩
abbrev main_call13_v35 : Ref sig .tc := ⟨.hbm, 1530, rfl⟩
abbrev main_call13_v36 : Ref sig .tc := ⟨.hbm, 1531, rfl⟩
abbrev main_call13_v37 : Ref sig .tc := ⟨.hbm, 1532, rfl⟩
abbrev main_call13_v38 : Ref sig .tc := ⟨.hbm, 1533, rfl⟩
abbrev main_call13_v39 : Ref sig .tc := ⟨.hbm, 1534, rfl⟩
abbrev main_call13_v40 : Ref sig .tc := ⟨.hbm, 1535, rfl⟩
abbrev main_call13_v41 : Ref sig .tc := ⟨.hbm, 1536, rfl⟩
abbrev main_call13_v42 : Ref sig .tc := ⟨.hbm, 1537, rfl⟩
abbrev main_call13_v43 : Ref sig .tc := ⟨.hbm, 1538, rfl⟩
abbrev main_call13_v44 : Ref sig .tc := ⟨.hbm, 1539, rfl⟩
abbrev main_call13_v45 : Ref sig .tc := ⟨.hbm, 1540, rfl⟩
abbrev main_call13_v46 : Ref sig .tc := ⟨.hbm, 1541, rfl⟩
abbrev main_call13_v47 : Ref sig .tc := ⟨.hbm, 1542, rfl⟩
abbrev main_call13_v48 : Ref sig .tc := ⟨.hbm, 1543, rfl⟩
abbrev main_call13_v49 : Ref sig .tc := ⟨.hbm, 1544, rfl⟩
abbrev main_call13_v50 : Ref sig .tc := ⟨.hbm, 1545, rfl⟩
abbrev main_call13_v51 : Ref sig .tc := ⟨.hbm, 1546, rfl⟩
abbrev main_call13_v52 : Ref sig .tc := ⟨.hbm, 1547, rfl⟩
abbrev main_call13_v53 : Ref sig .tc := ⟨.hbm, 1548, rfl⟩
abbrev main_call13_v54 : Ref sig .tc := ⟨.hbm, 1549, rfl⟩
abbrev main_call13_v55 : Ref sig .tc := ⟨.hbm, 1550, rfl⟩
abbrev main_call13_v56 : Ref sig .tc := ⟨.hbm, 1551, rfl⟩
abbrev main_call13_v57 : Ref sig .tc := ⟨.hbm, 1552, rfl⟩
abbrev main_call13_v58 : Ref sig .tc := ⟨.hbm, 1553, rfl⟩
abbrev main_call13_v59 : Ref sig .tc := ⟨.hbm, 1554, rfl⟩
abbrev main_call13_v60 : Ref sig .tc := ⟨.hbm, 1555, rfl⟩
abbrev main_call13_cst_0 : Ref sig .tc := ⟨.hbm, 1556, rfl⟩
abbrev main_call13_v61 : Ref sig .tc := ⟨.hbm, 1557, rfl⟩
abbrev main_call13_v62 : Ref sig .tc := ⟨.hbm, 1558, rfl⟩
abbrev main_call13_v63 : Ref sig .tc := ⟨.hbm, 1559, rfl⟩
abbrev main_call13_v64 : Ref sig .tc := ⟨.hbm, 1560, rfl⟩
abbrev main_call13_cst_1 : Ref sig .tc := ⟨.hbm, 1561, rfl⟩
abbrev main_call13_v65 : Ref sig .tc := ⟨.hbm, 1562, rfl⟩
abbrev main_call13_v66 : Ref sig .tc := ⟨.hbm, 1563, rfl⟩
abbrev main_call13_v67 : Ref sig .tc := ⟨.hbm, 1564, rfl⟩
abbrev main_call13_v68 : Ref sig .tc := ⟨.hbm, 1565, rfl⟩
abbrev main_call13_cst_2 : Ref sig .tc := ⟨.hbm, 1566, rfl⟩
abbrev main_call13_v69 : Ref sig .tc := ⟨.hbm, 1567, rfl⟩
abbrev main_call13_v70 : Ref sig .tc := ⟨.hbm, 1568, rfl⟩
abbrev main_call13_v71 : Ref sig .tc := ⟨.hbm, 1569, rfl⟩
abbrev main_call13_v72 : Ref sig .tc := ⟨.hbm, 1570, rfl⟩
abbrev main_call13_cst_3 : Ref sig .tc := ⟨.hbm, 1571, rfl⟩
abbrev main_call13_v73 : Ref sig .tc := ⟨.hbm, 1572, rfl⟩
abbrev main_call13_v74 : Ref sig .tc := ⟨.hbm, 1573, rfl⟩
abbrev main_call13_v75 : Ref sig .tc := ⟨.hbm, 1574, rfl⟩
abbrev main_call13_v76 : Ref sig .tc := ⟨.hbm, 1575, rfl⟩
abbrev main_call13_v77 : Ref sig .tc := ⟨.hbm, 1576, rfl⟩
abbrev main_call13_v78 : Ref sig .tc := ⟨.hbm, 1577, rfl⟩
abbrev main_call13_v79 : Ref sig .tc := ⟨.hbm, 1578, rfl⟩
abbrev main_call13_v80 : Ref sig .tc := ⟨.hbm, 1579, rfl⟩
abbrev main_call13_v81 : Ref sig .tc := ⟨.hbm, 1580, rfl⟩
abbrev main_call13_cst_4 : Ref sig .tc := ⟨.hbm, 1581, rfl⟩
abbrev main_call13_v82 : Ref sig .tc := ⟨.hbm, 1582, rfl⟩
abbrev main_call13_v83 : Ref sig .tc := ⟨.hbm, 1583, rfl⟩
abbrev main_call13_v84 : Ref sig .tc := ⟨.hbm, 1584, rfl⟩
abbrev main_call13_v85 : Ref sig .tc := ⟨.hbm, 1585, rfl⟩
abbrev main_call13_v86 : Ref sig .tc := ⟨.hbm, 1586, rfl⟩
abbrev main_call13_v87 : Ref sig .tc := ⟨.hbm, 1587, rfl⟩
abbrev main_call13_v88 : Ref sig .tc := ⟨.hbm, 1588, rfl⟩
abbrev main_call13_v89 : Ref sig .tc := ⟨.hbm, 1589, rfl⟩
abbrev main_call13_v90 : Ref sig .tc := ⟨.hbm, 1590, rfl⟩
abbrev main_call13_v91 : Ref sig .tc := ⟨.hbm, 1591, rfl⟩
abbrev main_call13_v92 : Ref sig .tc := ⟨.hbm, 1592, rfl⟩
abbrev main_call13_v93 : Ref sig .tc := ⟨.hbm, 1593, rfl⟩
abbrev main_call13_v94 : Ref sig .tc := ⟨.hbm, 1594, rfl⟩
abbrev main_call13_v95 : Ref sig .tc := ⟨.hbm, 1595, rfl⟩
abbrev main_call13_v96 : Ref sig .tc := ⟨.hbm, 1596, rfl⟩
abbrev main_call13_v97 : Ref sig .tc := ⟨.hbm, 1597, rfl⟩
abbrev main_call13_v98 : Ref sig .tc := ⟨.hbm, 1598, rfl⟩
abbrev main_call13_v99 : Ref sig .tc := ⟨.hbm, 1599, rfl⟩
abbrev main_call13_v100 : Ref sig .tc := ⟨.hbm, 1600, rfl⟩
abbrev main_call13_v101 : Ref sig .tc := ⟨.hbm, 1601, rfl⟩
abbrev main_call13_v102 : Ref sig .tc := ⟨.hbm, 1602, rfl⟩
abbrev main_call13_v103 : Ref sig .tc := ⟨.hbm, 1603, rfl⟩
abbrev main_call13_v104 : Ref sig .tc := ⟨.hbm, 1604, rfl⟩
abbrev main_call13_v105 : Ref sig .tc := ⟨.hbm, 1605, rfl⟩
abbrev main_call13_v106 : Ref sig .tc := ⟨.hbm, 1606, rfl⟩
abbrev main_call13_v107 : Ref sig .tc := ⟨.hbm, 1607, rfl⟩
abbrev main_call13_v108 : Ref sig .tc := ⟨.hbm, 1608, rfl⟩
abbrev main_call13_v109 : Ref sig .tc := ⟨.hbm, 1609, rfl⟩
abbrev main_call13_v110 : Ref sig .tc := ⟨.hbm, 1610, rfl⟩
abbrev main_call13_v111 : Ref sig .tc := ⟨.hbm, 1611, rfl⟩
abbrev main_call13_v112 : Ref sig .tc := ⟨.hbm, 1612, rfl⟩
abbrev main_call13_v113 : Ref sig .tc := ⟨.hbm, 1613, rfl⟩
abbrev main_call13_v114 : Ref sig .tc := ⟨.hbm, 1614, rfl⟩
abbrev main_call13_v115 : Ref sig .tc := ⟨.hbm, 1615, rfl⟩
abbrev main_call13_v116 : Ref sig .tc := ⟨.hbm, 1616, rfl⟩
abbrev main_call13_v117 : Ref sig .tc := ⟨.hbm, 1617, rfl⟩
abbrev main_call13_v118 : Ref sig .tc := ⟨.hbm, 1618, rfl⟩
abbrev main_call13_v119 : Ref sig .tc := ⟨.hbm, 1619, rfl⟩
abbrev main_call13_v120 : Ref sig .tc := ⟨.hbm, 1620, rfl⟩
abbrev main_call13_v121 : Ref sig .tc := ⟨.hbm, 1621, rfl⟩
abbrev main_call13_v122 : Ref sig .tc := ⟨.hbm, 1622, rfl⟩
abbrev main_call13_v123 : Ref sig .tc := ⟨.hbm, 1623, rfl⟩
abbrev main_call13_v124 : Ref sig .tc := ⟨.hbm, 1624, rfl⟩
abbrev main_call13_v125 : Ref sig .tc := ⟨.hbm, 1625, rfl⟩
abbrev main_call13_v126 : Ref sig .tc := ⟨.hbm, 1626, rfl⟩
abbrev main_call13_v127 : Ref sig .tc := ⟨.hbm, 1627, rfl⟩
abbrev main_call13_v128 : Ref sig .tc := ⟨.hbm, 1628, rfl⟩
abbrev main_call13_v129 : Ref sig .tc := ⟨.hbm, 1629, rfl⟩
abbrev main_call13_v130 : Ref sig .tc := ⟨.hbm, 1630, rfl⟩
abbrev main_call13_v131 : Ref sig .tc := ⟨.hbm, 1631, rfl⟩
abbrev main_call13_v132 : Ref sig .tc := ⟨.hbm, 1632, rfl⟩
abbrev main_call13_v133 : Ref sig .tc := ⟨.hbm, 1633, rfl⟩
abbrev main_call13_v134 : Ref sig .tc := ⟨.hbm, 1634, rfl⟩
abbrev main_call13_cst_5 : Ref sig .tc := ⟨.hbm, 1635, rfl⟩
abbrev main_call13_v135 : Ref sig .tc := ⟨.hbm, 1636, rfl⟩
abbrev main_call13_v136 : Ref sig .tc := ⟨.hbm, 1637, rfl⟩
abbrev main_call13_cst_6 : Ref sig .tc := ⟨.hbm, 1638, rfl⟩
abbrev main_call13_v137 : Ref sig .tc := ⟨.hbm, 1639, rfl⟩
abbrev main_call13_v138 : Ref sig .tc := ⟨.hbm, 1640, rfl⟩
abbrev main_call13_v139 : Ref sig .tc := ⟨.hbm, 1641, rfl⟩
abbrev main_call13_v140 : Ref sig .tc := ⟨.hbm, 1642, rfl⟩
abbrev main_call13_call2_v0 : Ref sig .tc := ⟨.hbm, 1643, rfl⟩
abbrev main_call13_call2_cst : Ref sig .tc := ⟨.hbm, 1644, rfl⟩
abbrev main_call13_call2_c : Ref sig .tc := ⟨.hbm, 1645, rfl⟩
abbrev main_call13_call2_v1_0 : Ref sig .tc := ⟨.hbm, 1646, rfl⟩
abbrev main_call13_v141 : Ref sig .tc := ⟨.hbm, 1647, rfl⟩
abbrev main_call13_v142 : Ref sig .tc := ⟨.hbm, 1648, rfl⟩
abbrev main_call13_call3_c : Ref sig .tc := ⟨.hbm, 1649, rfl⟩
abbrev main_call13_call3_v0 : Ref sig .tc := ⟨.hbm, 1650, rfl⟩
abbrev main_call13_call3_v1 : Ref sig .tc := ⟨.hbm, 1651, rfl⟩
abbrev main_call13_call3_c_0 : Ref sig .tc := ⟨.hbm, 1652, rfl⟩
abbrev main_call13_call3_v2 : Ref sig .tc := ⟨.hbm, 1653, rfl⟩
abbrev main_call13_call3_v3 : Ref sig .tc := ⟨.hbm, 1654, rfl⟩
abbrev main_call13_call3_v4 : Ref sig .tc := ⟨.hbm, 1655, rfl⟩
abbrev main_call13_call3_c_1 : Ref sig .tc := ⟨.hbm, 1656, rfl⟩
abbrev main_call13_call3_c_2 : Ref sig .tc := ⟨.hbm, 1657, rfl⟩
abbrev main_call13_call3_v5 : Ref sig .tc := ⟨.hbm, 1658, rfl⟩
abbrev main_call13_call3_v6 : Ref sig .tc := ⟨.hbm, 1659, rfl⟩
abbrev main_call13_call3_v7 : Ref sig .tc := ⟨.hbm, 1660, rfl⟩
abbrev main_call13_call3_v8 : Ref sig .tc := ⟨.hbm, 1661, rfl⟩
abbrev main_call13_call3_v9 : Ref sig .tc := ⟨.hbm, 1662, rfl⟩
abbrev main_call13_call3_v10 : Ref sig .tc := ⟨.hbm, 1663, rfl⟩
abbrev main_call13_call3_c_3 : Ref sig .tc := ⟨.hbm, 1664, rfl⟩
abbrev main_call13_call3_v11 : Ref sig .tc := ⟨.hbm, 1665, rfl⟩
abbrev main_call13_call3_v12 : Ref sig .tc := ⟨.hbm, 1666, rfl⟩
abbrev main_call13_call3_v13 : Ref sig .tc := ⟨.hbm, 1667, rfl⟩
abbrev main_call13_call3_cst : Ref sig .tc := ⟨.hbm, 1668, rfl⟩
abbrev main_call13_call3_v14 : Ref sig .tc := ⟨.hbm, 1669, rfl⟩
abbrev main_call13_v143 : Ref sig .tc := ⟨.hbm, 1670, rfl⟩
abbrev main_call13_v144 : Ref sig .tc := ⟨.hbm, 1671, rfl⟩
abbrev main_call13_v145 : Ref sig .tc := ⟨.hbm, 1672, rfl⟩
abbrev main_call13_call4_v0 : Ref sig .tc := ⟨.hbm, 1673, rfl⟩
abbrev main_call13_call4_cst : Ref sig .tc := ⟨.hbm, 1674, rfl⟩
abbrev main_call13_call4_v1 : Ref sig .tc := ⟨.hbm, 1675, rfl⟩
abbrev main_call13_call4_v2 : Ref sig .tc := ⟨.hbm, 1676, rfl⟩
abbrev main_call13_v146 : Ref sig .tc := ⟨.hbm, 1677, rfl⟩
abbrev main_call13_v147 : Ref sig .tc := ⟨.hbm, 1678, rfl⟩
abbrev main_call13_v148 : Ref sig .tc := ⟨.hbm, 1679, rfl⟩
abbrev main_call13_cst_7 : Ref sig .tc := ⟨.hbm, 1680, rfl⟩
abbrev main_call13_v149 : Ref sig .tc := ⟨.hbm, 1681, rfl⟩
abbrev main_call13_v150 : Ref sig .tc := ⟨.hbm, 1682, rfl⟩
abbrev main_call13_v151 : Ref sig .tc := ⟨.hbm, 1683, rfl⟩
abbrev main_call13_cst_8 : Ref sig .tc := ⟨.hbm, 1684, rfl⟩
abbrev main_call13_v152 : Ref sig .tc := ⟨.hbm, 1685, rfl⟩
abbrev main_call13_v153 : Ref sig .tc := ⟨.hbm, 1686, rfl⟩
abbrev main_call13_cst_9 : Ref sig .tc := ⟨.hbm, 1687, rfl⟩
abbrev main_call13_v154 : Ref sig .tc := ⟨.hbm, 1688, rfl⟩
abbrev main_call13_v155 : Ref sig .tc := ⟨.hbm, 1689, rfl⟩
abbrev main_call13_v156 : Ref sig .tc := ⟨.hbm, 1690, rfl⟩
abbrev main_call13_cst_10 : Ref sig .tc := ⟨.hbm, 1691, rfl⟩
abbrev main_call13_v157 : Ref sig .tc := ⟨.hbm, 1692, rfl⟩
abbrev main_call13_v158 : Ref sig .tc := ⟨.hbm, 1693, rfl⟩
abbrev main_call13_cst_11 : Ref sig .tc := ⟨.hbm, 1694, rfl⟩
abbrev main_call13_v159 : Ref sig .tc := ⟨.hbm, 1695, rfl⟩
abbrev main_call13_v160 : Ref sig .tc := ⟨.hbm, 1696, rfl⟩
abbrev main_call13_v161 : Ref sig .tc := ⟨.hbm, 1697, rfl⟩
abbrev main_call13_v162 : Ref sig .tc := ⟨.hbm, 1698, rfl⟩
abbrev main_call13_v163 : Ref sig .tc := ⟨.hbm, 1699, rfl⟩
abbrev main_call13_v164 : Ref sig .tc := ⟨.hbm, 1700, rfl⟩
abbrev main_call13_v165 : Ref sig .tc := ⟨.hbm, 1701, rfl⟩
abbrev main_v21 : Ref sig .tc := ⟨.hbm, 1702, rfl⟩
abbrev main_call14_c : Ref sig .tc := ⟨.hbm, 1703, rfl⟩
abbrev main_call14_v0 : Ref sig .tc := ⟨.hbm, 1704, rfl⟩
abbrev main_call14_v1 : Ref sig .tc := ⟨.hbm, 1705, rfl⟩
abbrev main_call14_c_0 : Ref sig .tc := ⟨.hbm, 1706, rfl⟩
abbrev main_call14_v2 : Ref sig .tc := ⟨.hbm, 1707, rfl⟩
abbrev main_call14_v3 : Ref sig .tc := ⟨.hbm, 1708, rfl⟩
abbrev main_call14_v4 : Ref sig .tc := ⟨.hbm, 1709, rfl⟩
abbrev main_call14_v5 : Ref sig .tc := ⟨.hbm, 1710, rfl⟩
abbrev main_call14_c_1 : Ref sig .tc := ⟨.hbm, 1711, rfl⟩
abbrev main_call14_c_2 : Ref sig .tc := ⟨.hbm, 1712, rfl⟩
abbrev main_call14_v6 : Ref sig .tc := ⟨.hbm, 1713, rfl⟩
abbrev main_call14_v7 : Ref sig .tc := ⟨.hbm, 1714, rfl⟩
abbrev main_call14_v8 : Ref sig .tc := ⟨.hbm, 1715, rfl⟩
abbrev main_call14_v9 : Ref sig .tc := ⟨.hbm, 1716, rfl⟩
abbrev main_call14_v10 : Ref sig .tc := ⟨.hbm, 1717, rfl⟩
abbrev main_call14_v11 : Ref sig .tc := ⟨.hbm, 1718, rfl⟩
abbrev main_call14_c_3 : Ref sig .tc := ⟨.hbm, 1719, rfl⟩
abbrev main_call14_v12 : Ref sig .tc := ⟨.hbm, 1720, rfl⟩
abbrev main_call14_v13 : Ref sig .tc := ⟨.hbm, 1721, rfl⟩
abbrev main_call14_v14 : Ref sig .tc := ⟨.hbm, 1722, rfl⟩
abbrev main_call14_cst : Ref sig .tc := ⟨.hbm, 1723, rfl⟩
abbrev main_call14_v15 : Ref sig .tc := ⟨.hbm, 1724, rfl⟩
abbrev main_v22 : Ref sig .tc := ⟨.hbm, 1725, rfl⟩
abbrev main_call15_c : Ref sig .tc := ⟨.hbm, 1726, rfl⟩
abbrev main_call15_v0 : Ref sig .tc := ⟨.hbm, 1727, rfl⟩
abbrev main_call15_v1 : Ref sig .tc := ⟨.hbm, 1728, rfl⟩
abbrev main_call15_c_0 : Ref sig .tc := ⟨.hbm, 1729, rfl⟩
abbrev main_call15_v2 : Ref sig .tc := ⟨.hbm, 1730, rfl⟩
abbrev main_call15_v3 : Ref sig .tc := ⟨.hbm, 1731, rfl⟩
abbrev main_call15_v4 : Ref sig .tc := ⟨.hbm, 1732, rfl⟩
abbrev main_call15_v5 : Ref sig .tc := ⟨.hbm, 1733, rfl⟩
abbrev main_call15_c_1 : Ref sig .tc := ⟨.hbm, 1734, rfl⟩
abbrev main_call15_c_2 : Ref sig .tc := ⟨.hbm, 1735, rfl⟩
abbrev main_call15_v6 : Ref sig .tc := ⟨.hbm, 1736, rfl⟩
abbrev main_call15_v7 : Ref sig .tc := ⟨.hbm, 1737, rfl⟩
abbrev main_call15_v8 : Ref sig .tc := ⟨.hbm, 1738, rfl⟩
abbrev main_call15_v9 : Ref sig .tc := ⟨.hbm, 1739, rfl⟩
abbrev main_call15_v10 : Ref sig .tc := ⟨.hbm, 1740, rfl⟩
abbrev main_call15_v11 : Ref sig .tc := ⟨.hbm, 1741, rfl⟩
abbrev main_call15_c_3 : Ref sig .tc := ⟨.hbm, 1742, rfl⟩
abbrev main_call15_v12 : Ref sig .tc := ⟨.hbm, 1743, rfl⟩
abbrev main_call15_v13 : Ref sig .tc := ⟨.hbm, 1744, rfl⟩
abbrev main_call15_v14 : Ref sig .tc := ⟨.hbm, 1745, rfl⟩
abbrev main_call15_cst : Ref sig .tc := ⟨.hbm, 1746, rfl⟩
abbrev main_call15_v15 : Ref sig .tc := ⟨.hbm, 1747, rfl⟩
abbrev main_v23 : Ref sig .tc := ⟨.hbm, 1748, rfl⟩

abbrev nD : Nat := 1
abbrev τ : Topo := Topo.v7x

variable {F : FTy → Type} [FloatOps F]
-- ==== Proof.Lines.lean ====
/- Straight lines of host operations in which every operation writes one buffer, every buffer is
   written once, and an operation reads buffers with smaller indices than the one it writes. After such a
   line every operation's equation holds of the final contents: the result buffer holds the operation's
   function of what its operand buffers hold at the end. A buffer with an index below the line's first
   result keeps its contents. -/
module

public import Idealize.ShloMosaic.Lib.StableHlo.Run

@[expose] public section

namespace Cert.Lines

open Idealize.ShloMosaic Idealize.ShloMosaic.StableHlo TcCoe

variable {τ : Topo} {sig : RefSig} {Val : EltTy → Type}

/-- What a typed reference holds. -/
def val {T : BufTy} (W : Valuation τ sig Val) (x : TRef sig T) : T.Contents Val := x.ofBuf (W (Proc.devRef .tc x.ref))

/-- One operation, its result buffer, its operand buffers, and the equation it makes true. -/
structure Line (τ : Topo) (sig : RefSig) (Val : EltTy → Type) where
  op : HloOp τ sig Val
  dst : Ref sig .tc
  reads : List (Ref sig .tc)
  eqn : Valuation τ sig Val → Prop
  writes_eq : op.writes = {Proc.devRef .tc dst}
  bufs_sub : op.bufs ⊆ tcRefs τ sig
  fresh : op.fresh = ∅
  sound : ∀ V W : Valuation τ sig Val, (∀ r ∈ reads, W (Proc.devRef .tc r) = V (Proc.devRef .tc r)) →
    W (Proc.devRef .tc dst) = op.result V (Proc.devRef .tc dst) → eqn W

theorem val_of_eq {T : BufTy} (y : TRef sig T) (W : Valuation τ sig Val) (v : T.Contents Val)
    (h : W (Proc.devRef .tc y.ref) = y.toBuf v) : val W y = v := by
  unfold val; rw [h, TRef.ofBuf_toBuf]

/-- A reshape between buffers of given types is the reshape of the contents at those types. -/
theorem reshape_cast {s t : Shape} {e : EltTy} {A Y : BufTy} (ha : A = ⟨s, e⟩) (hy : Y = ⟨t, e⟩) (v : A.Contents Val)
    (hn : s.ShapeCasts t) (p : A.elt = Y.elt) (q : A.shape.ShapeCasts Y.shape) :
    (fun i => p ▸ shapeCast Y.shape v q i : Y.Contents Val) =
      cast (congrArg (fun U : BufTy => U.Contents Val) hy.symm)
        (fun i => shapeCast t (cast (congrArg (fun U : BufTy => U.Contents Val) ha) v : (⟨s, e⟩ : BufTy).Contents Val) hn i) := by
  subst ha hy; rfl

namespace Line

variable {Tc Ta Tb Ty : BufTy}

/-- A constant. -/
def nullary (y : TRef sig Ty) (v : Ty.Contents Val) : Line τ sig Val where
  op := TRef.nullary y v
  dst := y.ref
  reads := []
  eqn W := val W y = v
  writes_eq := rfl
  bufs_sub := nullary_bufs_sub _ _ _
  fresh := rfl
  sound V W _ h := val_of_eq y W v (h.trans (nullary_result _ _ _ _))

/-- An operation of one operand. -/
def unary (a : TRef sig Ta) (y : TRef sig Ty) (f : Ta.Contents Val → Ty.Contents Val) : Line τ sig Val where
  op := TRef.unary a y f
  dst := y.ref
  reads := [a.ref]
  eqn W := val W y = f (val W a)
  writes_eq := rfl
  bufs_sub := unary_bufs_sub _ _ _ _ _
  fresh := rfl
  sound V W hr h := val_of_eq y W _ (h.trans ((unary_result _ _ _ _ _ _).trans (by
    simp only [val, hr _ List.mem_cons_self])))

/-- An operation of two operands. -/
def binary (a : TRef sig Ta) (b : TRef sig Tb) (y : TRef sig Ty)
    (f : Ta.Contents Val → Tb.Contents Val → Ty.Contents Val) : Line τ sig Val where
  op := TRef.binary a b y f
  dst := y.ref
  reads := [a.ref, b.ref]
  eqn W := val W y = f (val W a) (val W b)
  writes_eq := rfl
  bufs_sub := binary_bufs_sub _ _ _ _ _ _ _
  fresh := rfl
  sound V W hr h := val_of_eq y W _ (h.trans ((binary_result _ _ _ _ _ _ _ _).trans (by
    simp only [val, hr a.ref (by simp), hr b.ref (by simp)])))

/-- An operation of three operands. -/
def ternary (c : TRef sig Tc) (a : TRef sig Ta) (b : TRef sig Tb) (y : TRef sig Ty)
    (f : Tc.Contents Val → Ta.Contents Val → Tb.Contents Val → Ty.Contents Val) : Line τ sig Val where
  op := TRef.ternary c a b y f
  dst := y.ref
  reads := [c.ref, a.ref, b.ref]
  eqn W := val W y = f (val W c) (val W a) (val W b)
  writes_eq := rfl
  bufs_sub := ternary_bufs_sub _ _ _ _ _ _ _ _ _
  fresh := rfl
  sound V W hr h := val_of_eq y W _ (h.trans ((ternary_result _ _ _ _ _ _ _ _ _ _).trans (by
    simp only [val, hr c.ref (by simp), hr a.ref (by simp), hr b.ref (by simp)])))

/-- An operation of four operands. -/
def quaternary {Td : BufTy} (a : TRef sig Ta) (b : TRef sig Tb) (c : TRef sig Tc) (d : TRef sig Td) (y : TRef sig Ty)
    (f : Ta.Contents Val → Tb.Contents Val → Tc.Contents Val → Td.Contents Val → Ty.Contents Val) : Line τ sig Val where
  op := TRef.quaternary a b c d y f
  dst := y.ref
  reads := [a.ref, b.ref, c.ref, d.ref]
  eqn W := val W y = f (val W a) (val W b) (val W c) (val W d)
  writes_eq := rfl
  bufs_sub := quaternary_bufs_sub _ _ _ _ _ _ _ _ _ _ _
  fresh := rfl
  sound V W hr h := val_of_eq y W _ (h.trans ((quaternary_result _ _ _ _ _ _ _ _ _ _ _ _).trans (by
    simp only [val, hr a.ref (by simp), hr b.ref (by simp), hr c.ref (by simp), hr d.ref (by simp)])))

/-- An operation of a row of operands. -/
def nary {n : Nat} {Ts : Fin n → BufTy} (xs : (k : Fin n) → TRef sig (Ts k)) (y : TRef sig Ty)
    (f : ((k : Fin n) → (Ts k).Contents Val) → Ty.Contents Val) : Line τ sig Val where
  op := TRef.nary xs y f
  dst := y.ref
  reads := List.ofFn fun k => (xs k).ref
  eqn W := val W y = f (fun k => val W (xs k))
  writes_eq := rfl
  bufs_sub := nary_bufs_sub _ _ _ _ _
  fresh := rfl
  sound V W hr h := val_of_eq y W _ (h.trans ((nary_result _ _ _ _ _ _).trans (by
    have : ∀ k, W (Proc.devRef .tc (xs k).ref) = V (Proc.devRef .tc (xs k).ref) := fun k =>
      hr _ ((List.mem_ofFn' _ _).mpr ⟨k, rfl⟩)
    simp only [val, this])))

/-- An operation of three operands of one type, given as a row. -/
def cat3 {T : BufTy} (a b c : TRef sig T) (y : TRef sig Ty) (f : T.Contents Val → T.Contents Val → T.Contents Val → Ty.Contents Val) :
    Line τ sig Val :=
  { nary (Ts := fun _ => T) ![a, b, c] y (fun u => f (u 0) (u 1) (u 2)) with
    eqn := fun W => val W y = f (val W a) (val W b) (val W c)
    sound := (nary (Ts := fun _ => T) ![a, b, c] y (fun u => f (u 0) (u 1) (u 2))).sound }

/-- An operation of four operands of one type, given as a row. -/
def cat4 {T : BufTy} (a b c d : TRef sig T) (y : TRef sig Ty)
    (f : T.Contents Val → T.Contents Val → T.Contents Val → T.Contents Val → Ty.Contents Val) : Line τ sig Val :=
  { nary (Ts := fun _ => T) ![a, b, c, d] y (fun u => f (u 0) (u 1) (u 2) (u 3)) with
    eqn := fun W => val W y = f (val W a) (val W b) (val W c) (val W d)
    sound := (nary (Ts := fun _ => T) ![a, b, c, d] y (fun u => f (u 0) (u 1) (u 2) (u 3))).sound }

/-- A reshape. -/
def reshape {s t : Shape} {e : EltTy} (a : TRef sig ⟨s, e⟩) (y : TRef sig ⟨t, e⟩) (hn : s.ShapeCasts t) : Line τ sig Val where
  op := TRef.reshape a y rfl hn
  dst := y.ref
  reads := [a.ref]
  eqn W := val W y = fun i => shapeCast t (val W a) hn i
  writes_eq := rfl
  bufs_sub := reshape_bufs_sub _ _ _ _ _ _
  fresh := rfl
  sound V W hr h := by
    refine val_of_eq y W _ (h.trans ((reshape_result _ _ _ _ _ _ _).trans ?_))
    simp only [val, hr a.ref List.mem_cons_self]
    exact reshape_cast a.ty_eq y.ty_eq _ hn _ _

end Line

/-- The index of a buffer. -/
def pos (r : Ref sig .tc) : Nat := r.idx.val

theorem ne_of_pos {r r' : Ref sig .tc} (h : pos r < pos r') : r ≠ r' := fun e => by subst e; exact Nat.lt_irrefl _ h

/-- Every line writes at or past `n`, past what the lines before it wrote, and reads below what it writes. -/
def ok : Nat → List (Line τ sig Val) → Bool
  | _, [] => true
  | n, l :: ls => Nat.ble n (pos l.dst) && l.reads.all (fun r => Nat.blt (pos r) (pos l.dst)) && ok (pos l.dst + 1) ls

/-- The operations of a list of lines. -/
abbrev ops (ls : List (Line τ sig Val)) : List (HloOp τ sig Val) := ls.map Line.op

theorem keeps : ∀ (ls : List (Line τ sig Val)) (n : Nat) (V : Valuation τ sig Val), ok n ls = true →
    ∀ r : Ref sig .tc, pos r < n → after (ops ls) V (Proc.devRef .tc r) = V (Proc.devRef .tc r)
  | [], _, _, _, _, _ => rfl
  | l :: ls, n, V, h, r, hr => by
    simp only [ok, Bool.and_eq_true, Nat.ble_eq] at h
    have hlt : pos r < pos l.dst := lt_of_lt_of_le hr h.1.1
    have := keeps ls (pos l.dst + 1) (l.op.result V) h.2 r (Nat.lt_succ_of_lt hlt)
    rw [show ops (l :: ls) = l.op :: ops ls from rfl, after_cons, this, HloOp.result_of_not_mem]
    rw [l.writes_eq, Finset.mem_singleton]
    exact devRef_ne_of_ne (ne_of_pos hlt)

theorem holds : ∀ (ls : List (Line τ sig Val)) (n : Nat) (V : Valuation τ sig Val), ok n ls = true →
    ∀ l ∈ ls, l.eqn (after (ops ls) V)
  | [], _, _, _, _, hl => absurd hl List.not_mem_nil
  | a :: ls, n, V, h, l, hl => by
    simp only [ok, Bool.and_eq_true, List.all_eq_true, Nat.blt_eq] at h
    rw [show ops (a :: ls) = a.op :: ops ls from rfl, after_cons]
    rcases List.mem_cons.mp hl with rfl | hl
    · refine l.sound V _ (fun r hr => ?_) (keeps ls _ _ h.2 _ (Nat.lt_succ_self _))
      rw [keeps ls _ _ h.2 r (Nat.lt_succ_of_lt (h.1.2 r hr)), HloOp.result_of_not_mem]
      rw [l.writes_eq, Finset.mem_singleton]
      exact devRef_ne_of_ne (ne_of_pos (h.1.2 r hr))
    · exact holds ls _ _ h.2 l hl

/-- All the equations of a list of lines. -/
def AllEqns (W : Valuation τ sig Val) : List (Line τ sig Val) → Prop
  | [] => True
  | l :: ls => l.eqn W ∧ AllEqns W ls

theorem allEqns_of {W : Valuation τ sig Val} : ∀ {ls : List (Line τ sig Val)}, (∀ l ∈ ls, l.eqn W) → AllEqns W ls
  | [], _ => trivial
  | l :: _, h => ⟨h l List.mem_cons_self, allEqns_of fun l' hl' => h l' (List.mem_cons_of_mem _ hl')⟩

theorem allEqns_append {W : Valuation τ sig Val} : ∀ {ls ls' : List (Line τ sig Val)},
    AllEqns W (ls ++ ls') → AllEqns W ls ∧ AllEqns W ls'
  | [], _, h => ⟨trivial, h⟩
  | _ :: _, _, h => ⟨⟨h.1, (allEqns_append h.2).1⟩, (allEqns_append h.2).2⟩

theorem ops_sub (ls : List (Line τ sig Val)) : (ops ls).Forall fun op => op.bufs ⊆ tcRefs τ sig :=
  List.forall_iff_forall_mem.mpr fun op h => by
    obtain ⟨l, -, rfl⟩ := List.mem_map.mp h
    exact l.bufs_sub

theorem ops_fresh (ls : List (Line τ sig Val)) : ∀ op ∈ ops ls, op.fresh = ∅ := fun op h => by
  obtain ⟨l, -, rfl⟩ := List.mem_map.mp h
  exact l.fresh

end Cert.Lines

end
-- ==== Proof.Conv.lean ====
/- The conversion of a [4096, J, 6] array of 6D rotations to axis angles as the reference's host operations
   perform it, over the joint count `J` and any typed references for the values: the operations listed by
   stages, and the shape facts they take. -/
module

public import proofs.«01_k».proof.ReferenceIdeal
public import proofs.«01_k».proof.Proof.Lines

@[expose] public section

namespace Cert.Conv

open Idealize.ShloMosaic Idealize.ShloMosaic.StableHlo Cert.Lines
open Cert.ReferenceIdeal (reducer_argmax_f32_i32)

abbrev s0 : Shape := ⟨0, ![]⟩
abbrev s1 : Shape := ⟨1, ![1]⟩
abbrev s1111 : Shape := ⟨4, ![1, 1, 1, 1]⟩
abbrev s2 (J : Nat) : Shape := ⟨2, ![4096, J]⟩
abbrev s3 (J a : Nat) : Shape := ⟨3, ![4096, J, a]⟩
abbrev s4 (J a b : Nat) : Shape := ⟨4, ![4096, J, a, b]⟩

/-- The shape facts of the conversion. -/
structure Facts (J : Nat) : Prop where
  slices_Jx6_Jx3_0_0_0 : (s3 J 6).Slices ![0, 0, 0] (s3 J 3)
  slices_Jx6_Jx3_0_0_3 : (s3 J 6).Slices ![0, 0, 3] (s3 J 3)
  bcast_Jx1_Jx3_0_1_2 : (s3 J 1).BroadcastsInDim (s3 J 3) (![0, 1, 2] : Fin 3 → Fin (s3 J 3).rank)
  reducesTo_Jx3_J_d2 : (s3 J 3).ReducesTo [2] (s2 J)
  h_S0 : 0 < s0.numel
  bcast_J_Jx1_0_1 : (s2 J).BroadcastsInDim (s3 J 1) (![0, 1] : Fin 2 → Fin (s3 J 1).rank)
  slices_Jx3_Jx1_0_0_0 : (s3 J 3).Slices ![0, 0, 0] (s3 J 1)
  shapeCasts_Jx1_J : (s3 J 1).ShapeCasts (s2 J)
  slices_Jx3_Jx1_0_0_1 : (s3 J 3).Slices ![0, 0, 1] (s3 J 1)
  slices_Jx3_Jx1_0_0_2 : (s3 J 3).Slices ![0, 0, 2] (s3 J 1)
  concatenates_Jx1_Jx1_Jx1_Jx3_d2 : Shape.Concatenates [(s3 J 1), (s3 J 1), (s3 J 1)] (s3 J 3) 2
  bcast_Jx3_Jx1x3_0_1_3 : (s3 J 3).BroadcastsInDim (s4 J 1 3) (![0, 1, 3] : Fin 3 → Fin (s4 J 1 3).rank)
  concatenates_Jx1x3_Jx1x3_Jx1x3_Jx3x3_d2 : Shape.Concatenates [(s4 J 1 3), (s4 J 1 3), (s4 J 1 3)] (s4 J 3 3) 2
  slices_Jx3x3_Jx1x1_0_0_0_0 : (s4 J 3 3).Slices ![0, 0, 0, 0] (s4 J 1 1)
  shapeCasts_Jx1x1_J : (s4 J 1 1).ShapeCasts (s2 J)
  slices_Jx3x3_Jx1x1_0_0_1_1 : (s4 J 3 3).Slices ![0, 0, 1, 1] (s4 J 1 1)
  slices_Jx3x3_Jx1x1_0_0_2_2 : (s4 J 3 3).Slices ![0, 0, 2, 2] (s4 J 1 1)
  slices_Jx3x3_Jx1x1_0_0_2_1 : (s4 J 3 3).Slices ![0, 0, 2, 1] (s4 J 1 1)
  slices_Jx3x3_Jx1x1_0_0_1_2 : (s4 J 3 3).Slices ![0, 0, 1, 2] (s4 J 1 1)
  slices_Jx3x3_Jx1x1_0_0_0_2 : (s4 J 3 3).Slices ![0, 0, 0, 2] (s4 J 1 1)
  slices_Jx3x3_Jx1x1_0_0_2_0 : (s4 J 3 3).Slices ![0, 0, 2, 0] (s4 J 1 1)
  slices_Jx3x3_Jx1x1_0_0_1_0 : (s4 J 3 3).Slices ![0, 0, 1, 0] (s4 J 1 1)
  slices_Jx3x3_Jx1x1_0_0_0_1 : (s4 J 3 3).Slices ![0, 0, 0, 1] (s4 J 1 1)
  bcast_S0J : s0.BroadcastsInDim (s2 J) (![] : Fin 0 → Fin (s2 J).rank)
  concatenates_Jx1_Jx1_Jx1_Jx1_Jx4_d2 : Shape.Concatenates [(s3 J 1), (s3 J 1), (s3 J 1), (s3 J 1)] (s3 J 4) 2
  bcast_S0Jx4 : s0.BroadcastsInDim (s3 J 4) (![] : Fin 0 → Fin (s3 J 4).rank)
  slices_Jx4_Jx1_0_0_0 : (s3 J 4).Slices ![0, 0, 0] (s3 J 1)
  slices_Jx4_Jx1_0_0_1 : (s3 J 4).Slices ![0, 0, 1] (s3 J 1)
  slices_Jx4_Jx1_0_0_2 : (s3 J 4).Slices ![0, 0, 2] (s3 J 1)
  slices_Jx4_Jx1_0_0_3 : (s3 J 4).Slices ![0, 0, 3] (s3 J 1)
  bcast_Jx4_Jx1x4_0_1_3 : (s3 J 4).BroadcastsInDim (s4 J 1 4) (![0, 1, 3] : Fin 3 → Fin (s4 J 1 4).rank)
  concatenates_Jx1x4_Jx1x4_Jx1x4_Jx1x4_Jx4x4_d2 : Shape.Concatenates [(s4 J 1 4), (s4 J 1 4), (s4 J 1 4), (s4 J 1 4)] (s4 J 4 4) 2
  bcast_Jx4_Jx4x1_0_1_2 : (s3 J 4).BroadcastsInDim (s4 J 4 1) (![0, 1, 2] : Fin 3 → Fin (s4 J 4 1).rank)
  bcast_S0Jx4x1 : s0.BroadcastsInDim (s4 J 4 1) (![] : Fin 0 → Fin (s4 J 4 1).rank)
  bcast_Jx4x1_Jx4x4_0_1_2_3 : (s4 J 4 1).BroadcastsInDim (s4 J 4 4) (![0, 1, 2, 3] : Fin 4 → Fin (s4 J 4 4).rank)
  bcast_J_Jx1x1_0_1 : (s2 J).BroadcastsInDim (s4 J 1 1) (![0, 1] : Fin 2 → Fin (s4 J 1 1).rank)
  shapeCasts_Jx1x4_Jx4 : (s4 J 1 4).ShapeCasts (s3 J 4)
  slices_Jx4_Jx3_0_0_1 : (s3 J 4).Slices ![0, 0, 1] (s3 J 3)
  bcast_S0Jx1 : s0.BroadcastsInDim (s3 J 1) (![] : Fin 0 → Fin (s3 J 1).rank)
  reducesTo_Jx4_J_d2 : (s3 J 4).ReducesTo [2] (s2 J)

/-- The shape facts of the selection along the candidate axis. -/
structure AlongFacts (J : Nat) : Prop where
  wf : GatherDims.WF (s4 J 4 4) (s4 J 1 1) (s4 J 1 4) [3] [2] [0, 1] [2] [0, 1] 3 ![1, 1, 1, 4]
  h_S0 : 0 < s0.numel
  bcast_S0Jx1x1 : s0.BroadcastsInDim (s4 J 1 1) (![] : Fin 0 → Fin (s4 J 1 1).rank)
  bcast_S1_S1x1x1x1_3 : s1.BroadcastsInDim s1111 (![3] : Fin 1 → Fin s1111.rank)
  bcast_S1x1x1x1_Jx1x1_0_1_2_3 : s1111.BroadcastsInDim (s4 J 1 1) (![0, 1, 2, 3] : Fin 4 → Fin (s4 J 1 1).rank)
  reducesTo_Jx1x1_Jx1_d3 : (s4 J 1 1).ReducesTo [3] (s3 J 1)
  bcast_Jx1_Jx1x4_0_1_2 : (s3 J 1).BroadcastsInDim (s4 J 1 4) (![0, 1, 2] : Fin 3 → Fin (s4 J 1 4).rank)
  bcast_S0Jx1x4 : s0.BroadcastsInDim (s4 J 1 4) (![] : Fin 0 → Fin (s4 J 1 4).rank)

/-- The selection's gather: one row of four per table and joint. -/
def along {J : Nat} (wf : GatherDims.WF (s4 J 4 4) (s4 J 1 1) (s4 J 1 4) [3] [2] [0, 1] [2] [0, 1] 3 ![1, 1, 1, 4]) :
    GatherDims (s4 J 4 4) (s4 J 1 1) (s4 J 1 4) where
  offsetDims := [3]
  collapsedSliceDims := [2]
  operandBatchingDims := [0, 1]
  startIndicesBatchingDims := [0, 1]
  startIndexMap := [2]
  indexVectorDim := 3
  sliceSizes := ![1, 1, 1, 4]
  wf := wf

/-- The values of one norm. -/
structure NormBufs (sig : RefSig) (J : Nat) where
  v0 : TRef sig ⟨(s3 J 3), .f32⟩
  cst : TRef sig ⟨s0, .f32⟩
  v1 : TRef sig ⟨(s2 J), .f32⟩
  v2 : TRef sig ⟨(s3 J 1), .f32⟩
  v3 : TRef sig ⟨(s3 J 1), .f32⟩

/-- The values of the argmax. -/
structure ArgmaxBufs (sig : RefSig) (J : Nat) where
  v0 : TRef sig ⟨(s3 J 4), .i32⟩
  cst : TRef sig ⟨s0, .f32⟩
  c : TRef sig ⟨s0, .i32⟩
  v1_0 : TRef sig ⟨(s2 J), .f32⟩
  v1_1 : TRef sig ⟨(s2 J), .i32⟩

/-- The value of one choice. -/
structure WhereBufs (sig : RefSig) (J : Nat) where
  v0 : TRef sig ⟨(s3 J 1), .f32⟩

/-- The values of the selection. -/
structure AlongBufs (sig : RefSig) (J : Nat) where
  c : TRef sig ⟨s0, .i32⟩
  v0 : TRef sig ⟨(s4 J 1 1), .i32⟩
  v1 : TRef sig ⟨(s4 J 1 1), .i1⟩
  c_0 : TRef sig ⟨s0, .i32⟩
  v2 : TRef sig ⟨(s4 J 1 1), .i32⟩
  v3 : TRef sig ⟨(s4 J 1 1), .i32⟩
  v4 : TRef sig ⟨(s4 J 1 1), .i32⟩
  c_1 : TRef sig ⟨s1, .i32⟩
  c_2 : TRef sig ⟨s0, .i32⟩
  v5 : TRef sig ⟨(s4 J 1 1), .i32⟩
  v6 : TRef sig ⟨(s4 J 1 1), .i1⟩
  v7 : TRef sig ⟨s1111, .i32⟩
  v8 : TRef sig ⟨(s4 J 1 1), .i32⟩
  v9 : TRef sig ⟨(s4 J 1 1), .i1⟩
  v10 : TRef sig ⟨(s4 J 1 1), .i1⟩
  c_3 : TRef sig ⟨s0, .i1⟩
  v11 : TRef sig ⟨(s3 J 1), .i1⟩
  v12 : TRef sig ⟨(s4 J 1 4), .f32⟩
  v13 : TRef sig ⟨(s4 J 1 4), .i1⟩
  cst : TRef sig ⟨s0, .f32⟩
  v14 : TRef sig ⟨(s4 J 1 4), .f32⟩
  v15 : TRef sig ⟨(s4 J 1 4), .f32⟩

/-- The values of the conversion; of the selection only its result. -/
structure Bufs (sig : RefSig) (J : Nat) where
  v0 : TRef sig ⟨(s3 J 3), .f32⟩
  v1 : TRef sig ⟨(s3 J 3), .f32⟩
  call0 : NormBufs sig J
  v3 : TRef sig ⟨(s3 J 3), .f32⟩
  v4 : TRef sig ⟨(s3 J 3), .f32⟩
  v5 : TRef sig ⟨(s3 J 3), .f32⟩
  cst : TRef sig ⟨s0, .f32⟩
  v6 : TRef sig ⟨(s2 J), .f32⟩
  v7 : TRef sig ⟨(s3 J 1), .f32⟩
  v8 : TRef sig ⟨(s3 J 3), .f32⟩
  v9 : TRef sig ⟨(s3 J 3), .f32⟩
  v10 : TRef sig ⟨(s3 J 3), .f32⟩
  call1 : NormBufs sig J
  v12 : TRef sig ⟨(s3 J 3), .f32⟩
  v13 : TRef sig ⟨(s3 J 3), .f32⟩
  v14 : TRef sig ⟨(s3 J 1), .f32⟩
  v15 : TRef sig ⟨(s2 J), .f32⟩
  v16 : TRef sig ⟨(s3 J 1), .f32⟩
  v17 : TRef sig ⟨(s2 J), .f32⟩
  v18 : TRef sig ⟨(s3 J 1), .f32⟩
  v19 : TRef sig ⟨(s2 J), .f32⟩
  v20 : TRef sig ⟨(s3 J 1), .f32⟩
  v21 : TRef sig ⟨(s2 J), .f32⟩
  v22 : TRef sig ⟨(s3 J 1), .f32⟩
  v23 : TRef sig ⟨(s2 J), .f32⟩
  v24 : TRef sig ⟨(s3 J 1), .f32⟩
  v25 : TRef sig ⟨(s2 J), .f32⟩
  v26 : TRef sig ⟨(s2 J), .f32⟩
  v27 : TRef sig ⟨(s2 J), .f32⟩
  v28 : TRef sig ⟨(s2 J), .f32⟩
  v29 : TRef sig ⟨(s2 J), .f32⟩
  v30 : TRef sig ⟨(s2 J), .f32⟩
  v31 : TRef sig ⟨(s2 J), .f32⟩
  v32 : TRef sig ⟨(s2 J), .f32⟩
  v33 : TRef sig ⟨(s2 J), .f32⟩
  v34 : TRef sig ⟨(s2 J), .f32⟩
  v35 : TRef sig ⟨(s3 J 1), .f32⟩
  v36 : TRef sig ⟨(s3 J 1), .f32⟩
  v37 : TRef sig ⟨(s3 J 1), .f32⟩
  v38 : TRef sig ⟨(s3 J 3), .f32⟩
  v39 : TRef sig ⟨(s4 J 1 3), .f32⟩
  v40 : TRef sig ⟨(s4 J 1 3), .f32⟩
  v41 : TRef sig ⟨(s4 J 1 3), .f32⟩
  v42 : TRef sig ⟨(s4 J 3 3), .f32⟩
  v43 : TRef sig ⟨(s4 J 1 1), .f32⟩
  v44 : TRef sig ⟨(s2 J), .f32⟩
  v45 : TRef sig ⟨(s4 J 1 1), .f32⟩
  v46 : TRef sig ⟨(s2 J), .f32⟩
  v47 : TRef sig ⟨(s4 J 1 1), .f32⟩
  v48 : TRef sig ⟨(s2 J), .f32⟩
  v49 : TRef sig ⟨(s4 J 1 1), .f32⟩
  v50 : TRef sig ⟨(s2 J), .f32⟩
  v51 : TRef sig ⟨(s4 J 1 1), .f32⟩
  v52 : TRef sig ⟨(s2 J), .f32⟩
  v53 : TRef sig ⟨(s4 J 1 1), .f32⟩
  v54 : TRef sig ⟨(s2 J), .f32⟩
  v55 : TRef sig ⟨(s4 J 1 1), .f32⟩
  v56 : TRef sig ⟨(s2 J), .f32⟩
  v57 : TRef sig ⟨(s4 J 1 1), .f32⟩
  v58 : TRef sig ⟨(s2 J), .f32⟩
  v59 : TRef sig ⟨(s4 J 1 1), .f32⟩
  v60 : TRef sig ⟨(s2 J), .f32⟩
  cst_0 : TRef sig ⟨s0, .f32⟩
  v61 : TRef sig ⟨(s2 J), .f32⟩
  v62 : TRef sig ⟨(s2 J), .f32⟩
  v63 : TRef sig ⟨(s2 J), .f32⟩
  v64 : TRef sig ⟨(s2 J), .f32⟩
  cst_1 : TRef sig ⟨s0, .f32⟩
  v65 : TRef sig ⟨(s2 J), .f32⟩
  v66 : TRef sig ⟨(s2 J), .f32⟩
  v67 : TRef sig ⟨(s2 J), .f32⟩
  v68 : TRef sig ⟨(s2 J), .f32⟩
  cst_2 : TRef sig ⟨s0, .f32⟩
  v69 : TRef sig ⟨(s2 J), .f32⟩
  v70 : TRef sig ⟨(s2 J), .f32⟩
  v71 : TRef sig ⟨(s2 J), .f32⟩
  v72 : TRef sig ⟨(s2 J), .f32⟩
  cst_3 : TRef sig ⟨s0, .f32⟩
  v73 : TRef sig ⟨(s2 J), .f32⟩
  v74 : TRef sig ⟨(s2 J), .f32⟩
  v75 : TRef sig ⟨(s2 J), .f32⟩
  v76 : TRef sig ⟨(s2 J), .f32⟩
  v77 : TRef sig ⟨(s3 J 1), .f32⟩
  v78 : TRef sig ⟨(s3 J 1), .f32⟩
  v79 : TRef sig ⟨(s3 J 1), .f32⟩
  v80 : TRef sig ⟨(s3 J 1), .f32⟩
  v81 : TRef sig ⟨(s3 J 4), .f32⟩
  cst_4 : TRef sig ⟨s0, .f32⟩
  v82 : TRef sig ⟨(s3 J 4), .f32⟩
  v83 : TRef sig ⟨(s3 J 4), .f32⟩
  v84 : TRef sig ⟨(s3 J 4), .f32⟩
  v85 : TRef sig ⟨(s3 J 1), .f32⟩
  v86 : TRef sig ⟨(s2 J), .f32⟩
  v87 : TRef sig ⟨(s2 J), .f32⟩
  v88 : TRef sig ⟨(s2 J), .f32⟩
  v89 : TRef sig ⟨(s2 J), .f32⟩
  v90 : TRef sig ⟨(s2 J), .f32⟩
  v91 : TRef sig ⟨(s3 J 1), .f32⟩
  v92 : TRef sig ⟨(s3 J 1), .f32⟩
  v93 : TRef sig ⟨(s3 J 1), .f32⟩
  v94 : TRef sig ⟨(s3 J 1), .f32⟩
  v95 : TRef sig ⟨(s3 J 4), .f32⟩
  v96 : TRef sig ⟨(s2 J), .f32⟩
  v97 : TRef sig ⟨(s3 J 1), .f32⟩
  v98 : TRef sig ⟨(s2 J), .f32⟩
  v99 : TRef sig ⟨(s2 J), .f32⟩
  v100 : TRef sig ⟨(s2 J), .f32⟩
  v101 : TRef sig ⟨(s2 J), .f32⟩
  v102 : TRef sig ⟨(s3 J 1), .f32⟩
  v103 : TRef sig ⟨(s3 J 1), .f32⟩
  v104 : TRef sig ⟨(s3 J 1), .f32⟩
  v105 : TRef sig ⟨(s3 J 1), .f32⟩
  v106 : TRef sig ⟨(s3 J 4), .f32⟩
  v107 : TRef sig ⟨(s2 J), .f32⟩
  v108 : TRef sig ⟨(s2 J), .f32⟩
  v109 : TRef sig ⟨(s3 J 1), .f32⟩
  v110 : TRef sig ⟨(s2 J), .f32⟩
  v111 : TRef sig ⟨(s2 J), .f32⟩
  v112 : TRef sig ⟨(s2 J), .f32⟩
  v113 : TRef sig ⟨(s3 J 1), .f32⟩
  v114 : TRef sig ⟨(s3 J 1), .f32⟩
  v115 : TRef sig ⟨(s3 J 1), .f32⟩
  v116 : TRef sig ⟨(s3 J 1), .f32⟩
  v117 : TRef sig ⟨(s3 J 4), .f32⟩
  v118 : TRef sig ⟨(s2 J), .f32⟩
  v119 : TRef sig ⟨(s2 J), .f32⟩
  v120 : TRef sig ⟨(s2 J), .f32⟩
  v121 : TRef sig ⟨(s3 J 1), .f32⟩
  v122 : TRef sig ⟨(s2 J), .f32⟩
  v123 : TRef sig ⟨(s2 J), .f32⟩
  v124 : TRef sig ⟨(s3 J 1), .f32⟩
  v125 : TRef sig ⟨(s3 J 1), .f32⟩
  v126 : TRef sig ⟨(s3 J 1), .f32⟩
  v127 : TRef sig ⟨(s3 J 1), .f32⟩
  v128 : TRef sig ⟨(s3 J 4), .f32⟩
  v129 : TRef sig ⟨(s4 J 1 4), .f32⟩
  v130 : TRef sig ⟨(s4 J 1 4), .f32⟩
  v131 : TRef sig ⟨(s4 J 1 4), .f32⟩
  v132 : TRef sig ⟨(s4 J 1 4), .f32⟩
  v133 : TRef sig ⟨(s4 J 4 4), .f32⟩
  v134 : TRef sig ⟨(s4 J 4 1), .f32⟩
  cst_5 : TRef sig ⟨s0, .f32⟩
  v135 : TRef sig ⟨(s4 J 4 1), .f32⟩
  v136 : TRef sig ⟨(s4 J 4 1), .f32⟩
  cst_6 : TRef sig ⟨s0, .f32⟩
  v137 : TRef sig ⟨(s4 J 4 1), .f32⟩
  v138 : TRef sig ⟨(s4 J 4 1), .f32⟩
  v139 : TRef sig ⟨(s4 J 4 4), .f32⟩
  v140 : TRef sig ⟨(s4 J 4 4), .f32⟩
  call2 : ArgmaxBufs sig J
  v142 : TRef sig ⟨(s4 J 1 1), .i32⟩
  sel : TRef sig ⟨(s4 J 1 4), .f32⟩
  v144 : TRef sig ⟨(s3 J 4), .f32⟩
  v145 : TRef sig ⟨(s3 J 3), .f32⟩
  call4 : NormBufs sig J
  v147 : TRef sig ⟨(s3 J 1), .f32⟩
  v148 : TRef sig ⟨(s3 J 1), .f32⟩
  cst_7 : TRef sig ⟨s0, .f32⟩
  v149 : TRef sig ⟨(s3 J 1), .f32⟩
  v150 : TRef sig ⟨(s3 J 1), .f32⟩
  v151 : TRef sig ⟨(s3 J 1), .f32⟩
  cst_8 : TRef sig ⟨s0, .f32⟩
  v152 : TRef sig ⟨(s3 J 1), .f32⟩
  v153 : TRef sig ⟨(s3 J 1), .i1⟩
  cst_9 : TRef sig ⟨s0, .f32⟩
  v154 : TRef sig ⟨(s3 J 1), .f32⟩
  call5 : WhereBufs sig J
  v156 : TRef sig ⟨(s3 J 1), .f32⟩
  cst_10 : TRef sig ⟨s0, .f32⟩
  v157 : TRef sig ⟨(s3 J 1), .f32⟩
  v158 : TRef sig ⟨(s3 J 1), .f32⟩
  cst_11 : TRef sig ⟨s0, .f32⟩
  v159 : TRef sig ⟨(s3 J 1), .f32⟩
  v160 : TRef sig ⟨(s3 J 1), .f32⟩
  v161 : TRef sig ⟨(s3 J 1), .f32⟩
  v162 : TRef sig ⟨(s3 J 1), .f32⟩
  call6 : WhereBufs sig J
  v164 : TRef sig ⟨(s3 J 3), .f32⟩
  v165 : TRef sig ⟨(s3 J 3), .f32⟩
  v166 : TRef sig ⟨(s3 J 3), .f32⟩

variable {τ : Topo} {sig : RefSig} {J : Nat} {F : FTy → Type} [FloatOps F]

/-- One norm. -/
def normLines (H : Facts J) (arg0 : TRef sig ⟨(s3 J 3), .f32⟩) (φ : NormBufs sig J) : List (Line τ sig (Elt F)) :=
  [.binary arg0 arg0 φ.v0 mulf,
   .nullary φ.cst (constant s0 .f32 0x00000000#32),
   .binary φ.v0 φ.cst φ.v1 (fun x v => Host.reduceAdd x v H.reducesTo_Jx3_J_d2 H.h_S0),
   .unary φ.v1 φ.v2 (broadcastInDim (s3 J 1) ![0, 1] H.bcast_J_Jx1_0_1),
   .unary φ.v2 φ.v3 Host.sqrt]

/-- The argmax. -/
def argmaxLines (H : Facts J) (arg0 : TRef sig ⟨(s3 J 4), .f32⟩) (φ : ArgmaxBufs sig J) : List (Line τ sig (Elt F)) :=
  [.nullary φ.v0 (iotaInDim (s3 J 4) 32 2),
   .nullary φ.cst (constant s0 .f32 0xFF800000#32),
   .nullary φ.c (constantI s0 32 0#32),
   .quaternary arg0 φ.v0 φ.cst φ.c φ.v1_0 (fun x y u v j => (Host.argReduce reducer_argmax_f32_i32 x y u v H.reducesTo_Jx4_J_d2 H.h_S0 j).1),
   .quaternary arg0 φ.v0 φ.cst φ.c φ.v1_1 (fun x y u v j => (Host.argReduce reducer_argmax_f32_i32 x y u v H.reducesTo_Jx4_J_d2 H.h_S0 j).2)]

/-- One choice. -/
def whereLines (arg0 : TRef sig ⟨(s3 J 1), .i1⟩) (arg1 arg2 : TRef sig ⟨(s3 J 1), .f32⟩) (φ : WhereBufs sig J) : List (Line τ sig (Elt F)) :=
  [.ternary arg0 arg1 arg2 φ.v0 select]

/-- The selection. -/
def alongLines (H : AlongFacts J) (arg0 : TRef sig ⟨(s4 J 4 4), .f32⟩) (arg1 : TRef sig ⟨(s4 J 1 1), .i32⟩) (φ : AlongBufs sig J) : List (Line τ sig (Elt F)) :=
  [.nullary φ.c (constantI s0 32 0#32),
   .unary φ.c φ.v0 (broadcastInDim (s4 J 1 1) ![] H.bcast_S0Jx1x1),
   .binary arg1 φ.v0 φ.v1 (cmpi .slt),
   .nullary φ.c_0 (constantI s0 32 4#32),
   .unary φ.c_0 φ.v2 (broadcastInDim (s4 J 1 1) ![] H.bcast_S0Jx1x1),
   .binary arg1 φ.v2 φ.v3 addi,
   .ternary φ.v1 φ.v3 arg1 φ.v4 select,
   .nullary φ.c_1 (constantI s1 32 3#32),
   .nullary φ.c_2 (constantI s0 32 0#32),
   .unary φ.c_2 φ.v5 (broadcastInDim (s4 J 1 1) ![] H.bcast_S0Jx1x1),
   .binary φ.v4 φ.v5 φ.v6 (cmpi .sge),
   .unary φ.c_1 φ.v7 (broadcastInDim s1111 ![3] H.bcast_S1_S1x1x1x1_3),
   .unary φ.v7 φ.v8 (broadcastInDim (s4 J 1 1) ![0, 1, 2, 3] H.bcast_S1x1x1x1_Jx1x1_0_1_2_3),
   .binary φ.v4 φ.v8 φ.v9 (cmpi .sle),
   .binary φ.v6 φ.v9 φ.v10 andi,
   .nullary φ.c_3 (constantI s0 1 1#1),
   .binary φ.v10 φ.c_3 φ.v11 (fun x v => Host.reduce IntOp.andi x v H.reducesTo_Jx1x1_Jx1_d3 H.h_S0),
   .binary arg0 φ.v4 φ.v12 (fun x i => Host.gather (along H.wf) x i),
   .unary φ.v11 φ.v13 (broadcastInDim (s4 J 1 4) ![0, 1, 2] H.bcast_Jx1_Jx1x4_0_1_2),
   .nullary φ.cst (constant s0 .f32 0x7FC00000#32),
   .unary φ.cst φ.v14 (broadcastInDim (s4 J 1 4) ![] H.bcast_S0Jx1x4),
   .ternary φ.v13 φ.v12 φ.v14 φ.v15 select]

/-- The first unit vector. -/
def firstLines (H : Facts J) (arg0 : TRef sig ⟨(s3 J 6), .f32⟩) (φ : Bufs sig J) : List (Line τ sig (Elt F)) :=
  [.unary arg0 φ.v0 (extractStridedSlice (s3 J 3) ![0, 0, 0] · H.slices_Jx6_Jx3_0_0_0),
   .unary arg0 φ.v1 (extractStridedSlice (s3 J 3) ![0, 0, 3] · H.slices_Jx6_Jx3_0_0_3)] ++
  normLines H φ.v0 φ.call0 ++
  [.unary φ.call0.v3 φ.v3 (broadcastInDim (s3 J 3) ![0, 1, 2] H.bcast_Jx1_Jx3_0_1_2),
   .binary φ.v0 φ.v3 φ.v4 Host.divf]

/-- The second unit vector. -/
def secondLines (H : Facts J) (φ : Bufs sig J) : List (Line τ sig (Elt F)) :=
  [.binary φ.v4 φ.v1 φ.v5 mulf,
   .nullary φ.cst (constant s0 .f32 0x00000000#32),
   .binary φ.v5 φ.cst φ.v6 (fun x v => Host.reduceAdd x v H.reducesTo_Jx3_J_d2 H.h_S0),
   .unary φ.v6 φ.v7 (broadcastInDim (s3 J 1) ![0, 1] H.bcast_J_Jx1_0_1),
   .unary φ.v7 φ.v8 (broadcastInDim (s3 J 3) ![0, 1, 2] H.bcast_Jx1_Jx3_0_1_2),
   .binary φ.v8 φ.v4 φ.v9 mulf,
   .binary φ.v1 φ.v9 φ.v10 subf] ++
  normLines H φ.v10 φ.call1 ++
  [.unary φ.call1.v3 φ.v12 (broadcastInDim (s3 J 3) ![0, 1, 2] H.bcast_Jx1_Jx3_0_1_2),
   .binary φ.v10 φ.v12 φ.v13 Host.divf]

/-- The components and their cross product. -/
def thirdLines (H : Facts J) (φ : Bufs sig J) : List (Line τ sig (Elt F)) :=
  [.unary φ.v4 φ.v14 (extractStridedSlice (s3 J 1) ![0, 0, 0] · H.slices_Jx3_Jx1_0_0_0),
   .reshape φ.v14 φ.v15 H.shapeCasts_Jx1_J,
   .unary φ.v4 φ.v16 (extractStridedSlice (s3 J 1) ![0, 0, 1] · H.slices_Jx3_Jx1_0_0_1),
   .reshape φ.v16 φ.v17 H.shapeCasts_Jx1_J,
   .unary φ.v4 φ.v18 (extractStridedSlice (s3 J 1) ![0, 0, 2] · H.slices_Jx3_Jx1_0_0_2),
   .reshape φ.v18 φ.v19 H.shapeCasts_Jx1_J,
   .unary φ.v13 φ.v20 (extractStridedSlice (s3 J 1) ![0, 0, 0] · H.slices_Jx3_Jx1_0_0_0),
   .reshape φ.v20 φ.v21 H.shapeCasts_Jx1_J,
   .unary φ.v13 φ.v22 (extractStridedSlice (s3 J 1) ![0, 0, 1] · H.slices_Jx3_Jx1_0_0_1),
   .reshape φ.v22 φ.v23 H.shapeCasts_Jx1_J,
   .unary φ.v13 φ.v24 (extractStridedSlice (s3 J 1) ![0, 0, 2] · H.slices_Jx3_Jx1_0_0_2),
   .reshape φ.v24 φ.v25 H.shapeCasts_Jx1_J,
   .binary φ.v17 φ.v25 φ.v26 mulf,
   .binary φ.v19 φ.v23 φ.v27 mulf,
   .binary φ.v26 φ.v27 φ.v28 subf,
   .binary φ.v19 φ.v21 φ.v29 mulf,
   .binary φ.v15 φ.v25 φ.v30 mulf,
   .binary φ.v29 φ.v30 φ.v31 subf,
   .binary φ.v15 φ.v23 φ.v32 mulf,
   .binary φ.v17 φ.v21 φ.v33 mulf,
   .binary φ.v32 φ.v33 φ.v34 subf,
   .unary φ.v28 φ.v35 (broadcastInDim (s3 J 1) ![0, 1] H.bcast_J_Jx1_0_1),
   .unary φ.v31 φ.v36 (broadcastInDim (s3 J 1) ![0, 1] H.bcast_J_Jx1_0_1),
   .unary φ.v34 φ.v37 (broadcastInDim (s3 J 1) ![0, 1] H.bcast_J_Jx1_0_1),
   .cat3 φ.v35 φ.v36 φ.v37 φ.v38 (fun u0 u1 u2 => concatenate (s3 J 3) 2 [⟨(s3 J 1), u0⟩, ⟨(s3 J 1), u1⟩, ⟨(s3 J 1), u2⟩] H.concatenates_Jx1_Jx1_Jx1_Jx3_d2)]

/-- The matrix and its entries. -/
def matrixLines (H : Facts J) (φ : Bufs sig J) : List (Line τ sig (Elt F)) :=
  [.unary φ.v4 φ.v39 (broadcastInDim (s4 J 1 3) ![0, 1, 3] H.bcast_Jx3_Jx1x3_0_1_3),
   .unary φ.v13 φ.v40 (broadcastInDim (s4 J 1 3) ![0, 1, 3] H.bcast_Jx3_Jx1x3_0_1_3),
   .unary φ.v38 φ.v41 (broadcastInDim (s4 J 1 3) ![0, 1, 3] H.bcast_Jx3_Jx1x3_0_1_3),
   .cat3 φ.v39 φ.v40 φ.v41 φ.v42 (fun u0 u1 u2 => concatenate (s4 J 3 3) 2 [⟨(s4 J 1 3), u0⟩, ⟨(s4 J 1 3), u1⟩, ⟨(s4 J 1 3), u2⟩] H.concatenates_Jx1x3_Jx1x3_Jx1x3_Jx3x3_d2),
   .unary φ.v42 φ.v43 (extractStridedSlice (s4 J 1 1) ![0, 0, 0, 0] · H.slices_Jx3x3_Jx1x1_0_0_0_0),
   .reshape φ.v43 φ.v44 H.shapeCasts_Jx1x1_J,
   .unary φ.v42 φ.v45 (extractStridedSlice (s4 J 1 1) ![0, 0, 1, 1] · H.slices_Jx3x3_Jx1x1_0_0_1_1),
   .reshape φ.v45 φ.v46 H.shapeCasts_Jx1x1_J,
   .unary φ.v42 φ.v47 (extractStridedSlice (s4 J 1 1) ![0, 0, 2, 2] · H.slices_Jx3x3_Jx1x1_0_0_2_2),
   .reshape φ.v47 φ.v48 H.shapeCasts_Jx1x1_J,
   .unary φ.v42 φ.v49 (extractStridedSlice (s4 J 1 1) ![0, 0, 2, 1] · H.slices_Jx3x3_Jx1x1_0_0_2_1),
   .reshape φ.v49 φ.v50 H.shapeCasts_Jx1x1_J,
   .unary φ.v42 φ.v51 (extractStridedSlice (s4 J 1 1) ![0, 0, 1, 2] · H.slices_Jx3x3_Jx1x1_0_0_1_2),
   .reshape φ.v51 φ.v52 H.shapeCasts_Jx1x1_J,
   .unary φ.v42 φ.v53 (extractStridedSlice (s4 J 1 1) ![0, 0, 0, 2] · H.slices_Jx3x3_Jx1x1_0_0_0_2),
   .reshape φ.v53 φ.v54 H.shapeCasts_Jx1x1_J,
   .unary φ.v42 φ.v55 (extractStridedSlice (s4 J 1 1) ![0, 0, 2, 0] · H.slices_Jx3x3_Jx1x1_0_0_2_0),
   .reshape φ.v55 φ.v56 H.shapeCasts_Jx1x1_J,
   .unary φ.v42 φ.v57 (extractStridedSlice (s4 J 1 1) ![0, 0, 1, 0] · H.slices_Jx3x3_Jx1x1_0_0_1_0),
   .reshape φ.v57 φ.v58 H.shapeCasts_Jx1x1_J,
   .unary φ.v42 φ.v59 (extractStridedSlice (s4 J 1 1) ![0, 0, 0, 1] · H.slices_Jx3x3_Jx1x1_0_0_0_1),
   .reshape φ.v59 φ.v60 H.shapeCasts_Jx1x1_J]

/-- The four square roots. -/
def normsLines (H : Facts J) (φ : Bufs sig J) : List (Line τ sig (Elt F)) :=
  [.nullary φ.cst_0 (constant s0 .f32 0x3F800000#32),
   .unary φ.cst_0 φ.v61 (broadcastInDim (s2 J) ![] H.bcast_S0J),
   .binary φ.v61 φ.v44 φ.v62 addf,
   .binary φ.v62 φ.v46 φ.v63 addf,
   .binary φ.v63 φ.v48 φ.v64 addf,
   .nullary φ.cst_1 (constant s0 .f32 0x3F800000#32),
   .unary φ.cst_1 φ.v65 (broadcastInDim (s2 J) ![] H.bcast_S0J),
   .binary φ.v65 φ.v44 φ.v66 addf,
   .binary φ.v66 φ.v46 φ.v67 subf,
   .binary φ.v67 φ.v48 φ.v68 subf,
   .nullary φ.cst_2 (constant s0 .f32 0x3F800000#32),
   .unary φ.cst_2 φ.v69 (broadcastInDim (s2 J) ![] H.bcast_S0J),
   .binary φ.v69 φ.v44 φ.v70 subf,
   .binary φ.v70 φ.v46 φ.v71 addf,
   .binary φ.v71 φ.v48 φ.v72 subf,
   .nullary φ.cst_3 (constant s0 .f32 0x3F800000#32),
   .unary φ.cst_3 φ.v73 (broadcastInDim (s2 J) ![] H.bcast_S0J),
   .binary φ.v73 φ.v44 φ.v74 subf,
   .binary φ.v74 φ.v46 φ.v75 subf,
   .binary φ.v75 φ.v48 φ.v76 addf,
   .unary φ.v64 φ.v77 (broadcastInDim (s3 J 1) ![0, 1] H.bcast_J_Jx1_0_1),
   .unary φ.v68 φ.v78 (broadcastInDim (s3 J 1) ![0, 1] H.bcast_J_Jx1_0_1),
   .unary φ.v72 φ.v79 (broadcastInDim (s3 J 1) ![0, 1] H.bcast_J_Jx1_0_1),
   .unary φ.v76 φ.v80 (broadcastInDim (s3 J 1) ![0, 1] H.bcast_J_Jx1_0_1),
   .cat4 φ.v77 φ.v78 φ.v79 φ.v80 φ.v81 (fun u0 u1 u2 u3 => concatenate (s3 J 4) 2 [⟨(s3 J 1), u0⟩, ⟨(s3 J 1), u1⟩, ⟨(s3 J 1), u2⟩, ⟨(s3 J 1), u3⟩] H.concatenates_Jx1_Jx1_Jx1_Jx1_Jx4_d2),
   .nullary φ.cst_4 (constant s0 .f32 0x00000000#32),
   .unary φ.cst_4 φ.v82 (broadcastInDim (s3 J 4) ![] H.bcast_S0Jx4),
   .binary φ.v81 φ.v82 φ.v83 maximumf,
   .unary φ.v83 φ.v84 Host.sqrt]

/-- The first candidate. -/
def row0Lines (H : Facts J) (φ : Bufs sig J) : List (Line τ sig (Elt F)) :=
  [.unary φ.v84 φ.v85 (extractStridedSlice (s3 J 1) ![0, 0, 0] · H.slices_Jx4_Jx1_0_0_0),
   .reshape φ.v85 φ.v86 H.shapeCasts_Jx1_J,
   .binary φ.v86 φ.v86 φ.v87 mulf,
   .binary φ.v50 φ.v52 φ.v88 subf,
   .binary φ.v54 φ.v56 φ.v89 subf,
   .binary φ.v58 φ.v60 φ.v90 subf,
   .unary φ.v87 φ.v91 (broadcastInDim (s3 J 1) ![0, 1] H.bcast_J_Jx1_0_1),
   .unary φ.v88 φ.v92 (broadcastInDim (s3 J 1) ![0, 1] H.bcast_J_Jx1_0_1),
   .unary φ.v89 φ.v93 (broadcastInDim (s3 J 1) ![0, 1] H.bcast_J_Jx1_0_1),
   .unary φ.v90 φ.v94 (broadcastInDim (s3 J 1) ![0, 1] H.bcast_J_Jx1_0_1),
   .cat4 φ.v91 φ.v92 φ.v93 φ.v94 φ.v95 (fun u0 u1 u2 u3 => concatenate (s3 J 4) 2 [⟨(s3 J 1), u0⟩, ⟨(s3 J 1), u1⟩, ⟨(s3 J 1), u2⟩, ⟨(s3 J 1), u3⟩] H.concatenates_Jx1_Jx1_Jx1_Jx1_Jx4_d2)]

/-- The second candidate. -/
def row1Lines (H : Facts J) (φ : Bufs sig J) : List (Line τ sig (Elt F)) :=
  [.binary φ.v50 φ.v52 φ.v96 subf,
   .unary φ.v84 φ.v97 (extractStridedSlice (s3 J 1) ![0, 0, 1] · H.slices_Jx4_Jx1_0_0_1),
   .reshape φ.v97 φ.v98 H.shapeCasts_Jx1_J,
   .binary φ.v98 φ.v98 φ.v99 mulf,
   .binary φ.v58 φ.v60 φ.v100 addf,
   .binary φ.v54 φ.v56 φ.v101 addf,
   .unary φ.v96 φ.v102 (broadcastInDim (s3 J 1) ![0, 1] H.bcast_J_Jx1_0_1),
   .unary φ.v99 φ.v103 (broadcastInDim (s3 J 1) ![0, 1] H.bcast_J_Jx1_0_1),
   .unary φ.v100 φ.v104 (broadcastInDim (s3 J 1) ![0, 1] H.bcast_J_Jx1_0_1),
   .unary φ.v101 φ.v105 (broadcastInDim (s3 J 1) ![0, 1] H.bcast_J_Jx1_0_1),
   .cat4 φ.v102 φ.v103 φ.v104 φ.v105 φ.v106 (fun u0 u1 u2 u3 => concatenate (s3 J 4) 2 [⟨(s3 J 1), u0⟩, ⟨(s3 J 1), u1⟩, ⟨(s3 J 1), u2⟩, ⟨(s3 J 1), u3⟩] H.concatenates_Jx1_Jx1_Jx1_Jx1_Jx4_d2)]

/-- The third candidate. -/
def row2Lines (H : Facts J) (φ : Bufs sig J) : List (Line τ sig (Elt F)) :=
  [.binary φ.v54 φ.v56 φ.v107 subf,
   .binary φ.v58 φ.v60 φ.v108 addf,
   .unary φ.v84 φ.v109 (extractStridedSlice (s3 J 1) ![0, 0, 2] · H.slices_Jx4_Jx1_0_0_2),
   .reshape φ.v109 φ.v110 H.shapeCasts_Jx1_J,
   .binary φ.v110 φ.v110 φ.v111 mulf,
   .binary φ.v52 φ.v50 φ.v112 addf,
   .unary φ.v107 φ.v113 (broadcastInDim (s3 J 1) ![0, 1] H.bcast_J_Jx1_0_1),
   .unary φ.v108 φ.v114 (broadcastInDim (s3 J 1) ![0, 1] H.bcast_J_Jx1_0_1),
   .unary φ.v111 φ.v115 (broadcastInDim (s3 J 1) ![0, 1] H.bcast_J_Jx1_0_1),
   .unary φ.v112 φ.v116 (broadcastInDim (s3 J 1) ![0, 1] H.bcast_J_Jx1_0_1),
   .cat4 φ.v113 φ.v114 φ.v115 φ.v116 φ.v117 (fun u0 u1 u2 u3 => concatenate (s3 J 4) 2 [⟨(s3 J 1), u0⟩, ⟨(s3 J 1), u1⟩, ⟨(s3 J 1), u2⟩, ⟨(s3 J 1), u3⟩] H.concatenates_Jx1_Jx1_Jx1_Jx1_Jx4_d2)]

/-- The fourth candidate. -/
def row3Lines (H : Facts J) (φ : Bufs sig J) : List (Line τ sig (Elt F)) :=
  [.binary φ.v58 φ.v60 φ.v118 subf,
   .binary φ.v56 φ.v54 φ.v119 addf,
   .binary φ.v50 φ.v52 φ.v120 addf,
   .unary φ.v84 φ.v121 (extractStridedSlice (s3 J 1) ![0, 0, 3] · H.slices_Jx4_Jx1_0_0_3),
   .reshape φ.v121 φ.v122 H.shapeCasts_Jx1_J,
   .binary φ.v122 φ.v122 φ.v123 mulf,
   .unary φ.v118 φ.v124 (broadcastInDim (s3 J 1) ![0, 1] H.bcast_J_Jx1_0_1),
   .unary φ.v119 φ.v125 (broadcastInDim (s3 J 1) ![0, 1] H.bcast_J_Jx1_0_1),
   .unary φ.v120 φ.v126 (broadcastInDim (s3 J 1) ![0, 1] H.bcast_J_Jx1_0_1),
   .unary φ.v123 φ.v127 (broadcastInDim (s3 J 1) ![0, 1] H.bcast_J_Jx1_0_1),
   .cat4 φ.v124 φ.v125 φ.v126 φ.v127 φ.v128 (fun u0 u1 u2 u3 => concatenate (s3 J 4) 2 [⟨(s3 J 1), u0⟩, ⟨(s3 J 1), u1⟩, ⟨(s3 J 1), u2⟩, ⟨(s3 J 1), u3⟩] H.concatenates_Jx1_Jx1_Jx1_Jx1_Jx4_d2)]

/-- The candidates divided. -/
def quatsLines (H : Facts J) (φ : Bufs sig J) : List (Line τ sig (Elt F)) :=
  [.unary φ.v95 φ.v129 (broadcastInDim (s4 J 1 4) ![0, 1, 3] H.bcast_Jx4_Jx1x4_0_1_3),
   .unary φ.v106 φ.v130 (broadcastInDim (s4 J 1 4) ![0, 1, 3] H.bcast_Jx4_Jx1x4_0_1_3),
   .unary φ.v117 φ.v131 (broadcastInDim (s4 J 1 4) ![0, 1, 3] H.bcast_Jx4_Jx1x4_0_1_3),
   .unary φ.v128 φ.v132 (broadcastInDim (s4 J 1 4) ![0, 1, 3] H.bcast_Jx4_Jx1x4_0_1_3),
   .cat4 φ.v129 φ.v130 φ.v131 φ.v132 φ.v133 (fun u0 u1 u2 u3 => concatenate (s4 J 4 4) 2 [⟨(s4 J 1 4), u0⟩, ⟨(s4 J 1 4), u1⟩, ⟨(s4 J 1 4), u2⟩, ⟨(s4 J 1 4), u3⟩] H.concatenates_Jx1x4_Jx1x4_Jx1x4_Jx1x4_Jx4x4_d2),
   .unary φ.v84 φ.v134 (broadcastInDim (s4 J 4 1) ![0, 1, 2] H.bcast_Jx4_Jx4x1_0_1_2),
   .nullary φ.cst_5 (constant s0 .f32 0x3DCCCCCD#32),
   .unary φ.cst_5 φ.v135 (broadcastInDim (s4 J 4 1) ![] H.bcast_S0Jx4x1),
   .binary φ.v134 φ.v135 φ.v136 maximumf,
   .nullary φ.cst_6 (constant s0 .f32 0x40000000#32),
   .unary φ.cst_6 φ.v137 (broadcastInDim (s4 J 4 1) ![] H.bcast_S0Jx4x1),
   .binary φ.v137 φ.v136 φ.v138 mulf,
   .unary φ.v138 φ.v139 (broadcastInDim (s4 J 4 4) ![0, 1, 2, 3] H.bcast_Jx4x1_Jx4x4_0_1_2_3),
   .binary φ.v133 φ.v139 φ.v140 Host.divf]

/-- The index of the largest root. -/
def indexLines (H : Facts J) (φ : Bufs sig J) : List (Line τ sig (Elt F)) :=
  argmaxLines H φ.v84 φ.call2 ++
  [.unary φ.call2.v1_1 φ.v142 (broadcastInDim (s4 J 1 1) ![0, 1] H.bcast_J_Jx1x1_0_1)]

/-- The axis angle of the selected quaternion. -/
def lastLines (H : Facts J) (φ : Bufs sig J) : List (Line τ sig (Elt F)) :=
  [.reshape φ.sel φ.v144 H.shapeCasts_Jx1x4_Jx4,
   .unary φ.v144 φ.v145 (extractStridedSlice (s3 J 3) ![0, 0, 1] · H.slices_Jx4_Jx3_0_0_1)] ++
  normLines H φ.v145 φ.call4 ++
  [.unary φ.v144 φ.v147 (extractStridedSlice (s3 J 1) ![0, 0, 0] · H.slices_Jx4_Jx1_0_0_0),
   .binary φ.call4.v3 φ.v147 φ.v148 Host.atan2,
   .nullary φ.cst_7 (constant s0 .f32 0x40000000#32),
   .unary φ.cst_7 φ.v149 (broadcastInDim (s3 J 1) ![] H.bcast_S0Jx1),
   .binary φ.v149 φ.v148 φ.v150 mulf,
   .unary φ.v150 φ.v151 Host.absf,
   .nullary φ.cst_8 (constant s0 .f32 0x358637BD#32),
   .unary φ.cst_8 φ.v152 (broadcastInDim (s3 J 1) ![] H.bcast_S0Jx1),
   .binary φ.v151 φ.v152 φ.v153 (cmpf .olt),
   .nullary φ.cst_9 (constant s0 .f32 0x3F800000#32),
   .unary φ.cst_9 φ.v154 (broadcastInDim (s3 J 1) ![] H.bcast_S0Jx1)] ++
  whereLines φ.v153 φ.v154 φ.v150 φ.call5 ++
  [.binary φ.v150 φ.v150 φ.v156 mulf,
   .nullary φ.cst_10 (constant s0 .f32 0x42400000#32),
   .unary φ.cst_10 φ.v157 (broadcastInDim (s3 J 1) ![] H.bcast_S0Jx1),
   .binary φ.v156 φ.v157 φ.v158 Host.divf,
   .nullary φ.cst_11 (constant s0 .f32 0x3F000000#32),
   .unary φ.cst_11 φ.v159 (broadcastInDim (s3 J 1) ![] H.bcast_S0Jx1),
   .binary φ.v159 φ.v158 φ.v160 subf,
   .unary φ.v148 φ.v161 Host.sin,
   .binary φ.v161 φ.call5.v0 φ.v162 Host.divf] ++
  whereLines φ.v153 φ.v160 φ.v162 φ.call6 ++
  [.unary φ.v144 φ.v164 (extractStridedSlice (s3 J 3) ![0, 0, 1] · H.slices_Jx4_Jx3_0_0_1),
   .unary φ.call6.v0 φ.v165 (broadcastInDim (s3 J 3) ![0, 1, 2] H.bcast_Jx1_Jx3_0_1_2),
   .binary φ.v164 φ.v165 φ.v166 Host.divf]

/-- The conversion up to the selection, and after it. -/
def preLines (H : Facts J) (arg0 : TRef sig ⟨(s3 J 6), .f32⟩) (φ : Bufs sig J) : List (Line τ sig (Elt F)) :=
  firstLines H arg0 φ ++ secondLines H φ ++ thirdLines H φ ++ matrixLines H φ ++ normsLines H φ ++ row0Lines H φ ++ row1Lines H φ ++ row2Lines H φ ++ row3Lines H φ ++ quatsLines H φ ++ indexLines H φ

end Cert.Conv

end
-- ==== Proof.Along1.lean ====
/- The selection along the candidate axis at one joint: as for more joints, with the joint axis read off the
   indices by a reshape and carried through the gather whole. -/
module

public import proofs.«01_k».proof.Proof.Conv

@[expose] public section

namespace Cert.Conv

open Idealize.ShloMosaic Idealize.ShloMosaic.StableHlo Cert.Lines

abbrev s111 : Shape := ⟨3, ![1, 1, 1]⟩

/-- The shape facts of the selection at one joint. -/
structure Along1Facts : Prop where
  wf : GatherDims.WF (s4 1 4 4) (s3 1 1) (s4 1 1 4) [1, 3] [2] [0] [2] [0] 2 ![1, 1, 1, 4]
  bcast_S0_Jx1x1 : s0.BroadcastsInDim (s4 1 1 1) (![] : Fin 0 → Fin (s4 1 1 1).rank)
  shapeCasts_Jx1x1_Jx1 : (s4 1 1 1).ShapeCasts (s3 1 1)
  bcast_S0_Jx1 : s0.BroadcastsInDim (s3 1 1) (![] : Fin 0 → Fin (s3 1 1).rank)
  bcast_S1_S1x1x1_2 : s1.BroadcastsInDim s111 (![2] : Fin 1 → Fin s111.rank)
  bcast_S1x1x1_Jx1_0_1_2 : s111.BroadcastsInDim (s3 1 1) (![0, 1, 2] : Fin 3 → Fin (s3 1 1).rank)
  reducesTo_Jx1_J_d2 : (s3 1 1).ReducesTo [2] (s2 1)
  h_S0_ : 0 < s0.numel
  bcast_J_Jx1x4_0_2 : (s2 1).BroadcastsInDim (s4 1 1 4) (![0, 2] : Fin 2 → Fin (s4 1 1 4).rank)
  bcast_S0_Jx1x4 : s0.BroadcastsInDim (s4 1 1 4) (![] : Fin 0 → Fin (s4 1 1 4).rank)

/-- The selection's gather at one joint. -/
def along1 (wf : GatherDims.WF (s4 1 4 4) (s3 1 1) (s4 1 1 4) [1, 3] [2] [0] [2] [0] 2 ![1, 1, 1, 4]) :
    GatherDims (s4 1 4 4) (s3 1 1) (s4 1 1 4) where
  offsetDims := [1, 3]
  collapsedSliceDims := [2]
  operandBatchingDims := [0]
  startIndicesBatchingDims := [0]
  startIndexMap := [2]
  indexVectorDim := 2
  sliceSizes := ![1, 1, 1, 4]
  wf := wf

/-- The values of the selection at one joint. -/
structure Along1Bufs (sig : RefSig) where
  c : TRef sig ⟨s0, .i32⟩
  v0 : TRef sig ⟨(s4 1 1 1), .i32⟩
  v1 : TRef sig ⟨(s4 1 1 1), .i1⟩
  c_0 : TRef sig ⟨s0, .i32⟩
  v2 : TRef sig ⟨(s4 1 1 1), .i32⟩
  v3 : TRef sig ⟨(s4 1 1 1), .i32⟩
  v4 : TRef sig ⟨(s4 1 1 1), .i32⟩
  v5 : TRef sig ⟨(s3 1 1), .i32⟩
  c_1 : TRef sig ⟨s1, .i32⟩
  c_2 : TRef sig ⟨s0, .i32⟩
  v6 : TRef sig ⟨(s3 1 1), .i32⟩
  v7 : TRef sig ⟨(s3 1 1), .i1⟩
  v8 : TRef sig ⟨s111, .i32⟩
  v9 : TRef sig ⟨(s3 1 1), .i32⟩
  v10 : TRef sig ⟨(s3 1 1), .i1⟩
  v11 : TRef sig ⟨(s3 1 1), .i1⟩
  c_3 : TRef sig ⟨s0, .i1⟩
  v12 : TRef sig ⟨(s2 1), .i1⟩
  v13 : TRef sig ⟨(s4 1 1 4), .f32⟩
  v14 : TRef sig ⟨(s4 1 1 4), .i1⟩
  cst : TRef sig ⟨s0, .f32⟩
  v15 : TRef sig ⟨(s4 1 1 4), .f32⟩
  v16 : TRef sig ⟨(s4 1 1 4), .f32⟩

/-- The selection at one joint. -/
def along1Lines {τ : Topo} {sig : RefSig} {F : FTy → Type} [FloatOps F] (H : Along1Facts)
    (arg0 : TRef sig ⟨(s4 1 4 4), .f32⟩) (arg1 : TRef sig ⟨(s4 1 1 1), .i32⟩) (φ : Along1Bufs sig) : List (Line τ sig (Elt F)) :=
  [.nullary φ.c (constantI s0 32 0#32),
   .unary φ.c φ.v0 (broadcastInDim (s4 1 1 1) ![] H.bcast_S0_Jx1x1),
   .binary arg1 φ.v0 φ.v1 (cmpi .slt),
   .nullary φ.c_0 (constantI s0 32 4#32),
   .unary φ.c_0 φ.v2 (broadcastInDim (s4 1 1 1) ![] H.bcast_S0_Jx1x1),
   .binary arg1 φ.v2 φ.v3 addi,
   .ternary φ.v1 φ.v3 arg1 φ.v4 select,
   .reshape φ.v4 φ.v5 H.shapeCasts_Jx1x1_Jx1,
   .nullary φ.c_1 (constantI s1 32 3#32),
   .nullary φ.c_2 (constantI s0 32 0#32),
   .unary φ.c_2 φ.v6 (broadcastInDim (s3 1 1) ![] H.bcast_S0_Jx1),
   .binary φ.v5 φ.v6 φ.v7 (cmpi .sge),
   .unary φ.c_1 φ.v8 (broadcastInDim s111 ![2] H.bcast_S1_S1x1x1_2),
   .unary φ.v8 φ.v9 (broadcastInDim (s3 1 1) ![0, 1, 2] H.bcast_S1x1x1_Jx1_0_1_2),
   .binary φ.v5 φ.v9 φ.v10 (cmpi .sle),
   .binary φ.v7 φ.v10 φ.v11 andi,
   .nullary φ.c_3 (constantI s0 1 1#1),
   .binary φ.v11 φ.c_3 φ.v12 (fun x v => Host.reduce IntOp.andi x v H.reducesTo_Jx1_J_d2 H.h_S0_),
   .binary arg0 φ.v5 φ.v13 (fun x i => Host.gather (along1 H.wf) x i),
   .unary φ.v12 φ.v14 (broadcastInDim (s4 1 1 4) ![0, 2] H.bcast_J_Jx1x4_0_2),
   .nullary φ.cst (constant s0 .f32 0x7FC00000#32),
   .unary φ.cst φ.v15 (broadcastInDim (s4 1 1 4) ![] H.bcast_S0_Jx1x4),
   .ternary φ.v14 φ.v13 φ.v15 φ.v16 select]

end Cert.Conv

end
-- ==== Proof.Take.lean ====
/- Rows of a table by an index vector, as `jnp.take` prints: a negative index counts from the end, a row
   whose index is then outside the table is filled. The same text at every table shape, so it is read once:
   the operations over any typed references, and the one function of table and index they compute. -/
module

public import proofs.«01_k».proof.Proof.Lines

@[expose] public section

namespace Cert.Take

open Idealize.ShloMosaic Idealize.ShloMosaic.StableHlo Cert.Lines

abbrev s0 : Shape := ⟨0, ![]⟩
abbrev s1 : Shape := ⟨1, ![1]⟩
abbrev s11 : Shape := ⟨2, ![1, 1]⟩
abbrev sn : Shape := ⟨1, ![4096]⟩
abbrev sn1 : Shape := ⟨2, ![4096, 1]⟩

/-- The shape facts every table shares. -/
structure Facts : Prop where
  bcast_n : s0.BroadcastsInDim sn (![] : Fin 0 → Fin sn.rank)
  bcast_n_n1 : sn.BroadcastsInDim sn1 (![0] : Fin 1 → Fin sn1.rank)
  bcast_n1 : s0.BroadcastsInDim sn1 (![] : Fin 0 → Fin sn1.rank)
  bcast_1_11 : s1.BroadcastsInDim s11 (![1] : Fin 1 → Fin s11.rank)
  bcast_11_n1 : s11.BroadcastsInDim sn1 (![0, 1] : Fin 2 → Fin sn1.rank)
  reduces : sn1.ReducesTo [1] sn
  pos0 : 0 < s0.numel

theorem facts : Facts := ⟨by decide, by decide, by decide, by decide, by decide, by decide, by decide⟩

/-- The values of one take with rows gathered to shape `o`. -/
structure Bufs (sig : RefSig) (o : Shape) where
  c : TRef sig ⟨s0, .i32⟩
  v0 : TRef sig ⟨sn, .i32⟩
  v1 : TRef sig ⟨sn, .i1⟩
  c_0 : TRef sig ⟨s0, .i32⟩
  v2 : TRef sig ⟨sn, .i32⟩
  v3 : TRef sig ⟨sn, .i32⟩
  v4 : TRef sig ⟨sn, .i32⟩
  v5 : TRef sig ⟨sn1, .i32⟩
  c_1 : TRef sig ⟨s1, .i32⟩
  c_2 : TRef sig ⟨s0, .i32⟩
  v6 : TRef sig ⟨sn1, .i32⟩
  v7 : TRef sig ⟨sn1, .i1⟩
  v8 : TRef sig ⟨s11, .i32⟩
  v9 : TRef sig ⟨sn1, .i32⟩
  v10 : TRef sig ⟨sn1, .i1⟩
  v11 : TRef sig ⟨sn1, .i1⟩
  c_3 : TRef sig ⟨s0, .i1⟩
  v12 : TRef sig ⟨sn, .i1⟩
  v13 : TRef sig ⟨o, .f32⟩
  v14 : TRef sig ⟨o, .i1⟩
  cst : TRef sig ⟨s0, .f32⟩
  v15 : TRef sig ⟨o, .f32⟩
  v16 : TRef sig ⟨o, .f32⟩

variable {τ : Topo} {sig : RefSig} {F : FTy → Type} [FloatOps F] {s o : Shape}

/-- The operations of one take. -/
def lines (g : GatherDims s sn1 o) (d : Fin 1 → Fin o.rank) (hd : sn.BroadcastsInDim o d)
    (hz : s0.BroadcastsInDim o (![] : Fin 0 → Fin o.rank))
    (arg0 : TRef sig ⟨s, .f32⟩) (arg1 : TRef sig ⟨sn, .i32⟩) (φ : Bufs sig o) : List (Line τ sig (Elt F)) :=
  [.nullary φ.c (constantI s0 32 0#32),
   .unary φ.c φ.v0 (broadcastInDim sn ![] facts.bcast_n),
   .binary arg1 φ.v0 φ.v1 (cmpi .slt),
   .nullary φ.c_0 (constantI s0 32 100000#32),
   .unary φ.c_0 φ.v2 (broadcastInDim sn ![] facts.bcast_n),
   .binary arg1 φ.v2 φ.v3 addi,
   .ternary φ.v1 φ.v3 arg1 φ.v4 select,
   .unary φ.v4 φ.v5 (broadcastInDim sn1 ![0] facts.bcast_n_n1),
   .nullary φ.c_1 (constantI s1 32 99999#32),
   .nullary φ.c_2 (constantI s0 32 0#32),
   .unary φ.c_2 φ.v6 (broadcastInDim sn1 ![] facts.bcast_n1),
   .binary φ.v5 φ.v6 φ.v7 (cmpi .sge),
   .unary φ.c_1 φ.v8 (broadcastInDim s11 ![1] facts.bcast_1_11),
   .unary φ.v8 φ.v9 (broadcastInDim sn1 ![0, 1] facts.bcast_11_n1),
   .binary φ.v5 φ.v9 φ.v10 (cmpi .sle),
   .binary φ.v7 φ.v10 φ.v11 andi,
   .nullary φ.c_3 (constantI s0 1 1#1),
   .binary φ.v11 φ.c_3 φ.v12 (fun x v => Host.reduce IntOp.andi x v facts.reduces facts.pos0),
   .binary arg0 φ.v5 φ.v13 (fun x i => Host.gather g x i),
   .unary φ.v12 φ.v14 (broadcastInDim o d hd),
   .nullary φ.cst (constant s0 .f32 0x7FC00000#32),
   .unary φ.cst φ.v15 (broadcastInDim o ![] hz),
   .ternary φ.v14 φ.v13 φ.v15 φ.v16 select]

/-- The row numbers: a negative index counted from the table's end. -/
def rowsOf (i : IVec sn 32) : IVec sn1 32 :=
  broadcastInDim sn1 ![0] facts.bcast_n_n1
    (select (cmpi .slt i (broadcastInDim sn ![] facts.bcast_n (constantI s0 32 0#32)))
      (addi i (broadcastInDim sn ![] facts.bcast_n (constantI s0 32 100000#32))) i)

/-- Which rows lie inside the table. -/
def insideOf (r : IVec sn1 32) : IVec sn 1 :=
  Host.reduce IntOp.andi
    (andi (cmpi .sge r (broadcastInDim sn1 ![] facts.bcast_n1 (constantI s0 32 0#32)))
      (cmpi .sle r (broadcastInDim sn1 ![0, 1] facts.bcast_11_n1 (broadcastInDim s11 ![1] facts.bcast_1_11 (constantI s1 32 99999#32)))))
    (constantI s0 1 1#1) facts.reduces facts.pos0

/-- The rows of table `x` named by `i`. -/
def take (g : GatherDims s sn1 o) (d : Fin 1 → Fin o.rank) (hd : sn.BroadcastsInDim o d)
    (hz : s0.BroadcastsInDim o (![] : Fin 0 → Fin o.rank)) (x : FVec F s .f32) (i : IVec sn 32) : FVec F o .f32 :=
  select (broadcastInDim o d hd (insideOf (rowsOf i))) (Host.gather g x (rowsOf i))
    (broadcastInDim o ![] hz (constant s0 .f32 0x7FC00000#32))

theorem spec (g : GatherDims s sn1 o) (d : Fin 1 → Fin o.rank) (hd : sn.BroadcastsInDim o d)
    (hz : s0.BroadcastsInDim o (![] : Fin 0 → Fin o.rank))
    (arg0 : TRef sig ⟨s, .f32⟩) (arg1 : TRef sig ⟨sn, .i32⟩) (φ : Bufs sig o) (W : Valuation τ sig (Elt F))
    (h : AllEqns W (lines g d hd hz arg0 arg1 φ)) : val W φ.v16 = take g d hd hz (val W arg0) (val W arg1) := by
  obtain ⟨c, v0, v1, c0, v2, v3, v4, v5, c1, c2, v6, v7, v8, v9, v10, v11, c3, v12, v13, v14, cst, v15, v16, -⟩ := h
  have r : val W φ.v5 = rowsOf (val W arg1) := by
    refine v5.trans ?_
    rw [v4, v3, v2, c0, v1, v0, c]; rfl
  have n : val W φ.v12 = insideOf (rowsOf (val W arg1)) := by
    refine v12.trans ?_
    rw [v11, v10, v9, v8, c1, v7, v6, c2, c3, r]; rfl
  refine v16.trans ?_
  rw [v15, cst, v14, v13, n, r]; rfl

end Cert.Take

end
-- ==== Proof.RefRun.lean ====
/- The reference's run: its operations as lines, the program as their sequence, and what every buffer holds
   after it. -/
module

public import proofs.«01_k».proof.ReferenceIdeal
public import proofs.«01_k».proof.Proof.Gen.ReferenceIdeal
public import proofs.«01_k».proof.Proof.Along1
public import proofs.«01_k».proof.Proof.Take

@[expose] public section

noncomputable section

namespace Cert.RefRun

open Idealize.ShloMosaic Idealize.ShloMosaic.StableHlo Idealize.SL.Sem Cert.Lines Cert.ReferenceIdeal
open Cert.ReferenceIdeal.Gen (facts₀ facts)
open Cert.ReferenceIdeal.Facts₀

variable {F : FTy → Type} [FloatOps F]

/-- A call of @axis_angles as the conversion of 1 joint(s). -/
def axis_anglesBufs (φ : fn_axis_angles.Bufs) : Conv.Bufs sig 1 :=
  ⟨φ.v0, φ.v1, ⟨φ.call0.v0, φ.call0.cst, φ.call0.v1, φ.call0.v2, φ.call0.v3⟩, φ.v3, φ.v4, φ.v5, φ.cst, φ.v6, φ.v7,
    φ.v8, φ.v9, φ.v10, ⟨φ.call1.v0, φ.call1.cst, φ.call1.v1, φ.call1.v2, φ.call1.v3⟩, φ.v12, φ.v13, φ.v14, φ.v15,
    φ.v16, φ.v17, φ.v18, φ.v19, φ.v20, φ.v21, φ.v22, φ.v23, φ.v24, φ.v25, φ.v26, φ.v27, φ.v28, φ.v29, φ.v30, φ.v31,
    φ.v32, φ.v33, φ.v34, φ.v35, φ.v36, φ.v37, φ.v38, φ.v39, φ.v40, φ.v41, φ.v42, φ.v43, φ.v44, φ.v45, φ.v46, φ.v47,
    φ.v48, φ.v49, φ.v50, φ.v51, φ.v52, φ.v53, φ.v54, φ.v55, φ.v56, φ.v57, φ.v58, φ.v59, φ.v60, φ.cst_0, φ.v61, φ.v62,
    φ.v63, φ.v64, φ.cst_1, φ.v65, φ.v66, φ.v67, φ.v68, φ.cst_2, φ.v69, φ.v70, φ.v71, φ.v72, φ.cst_3, φ.v73, φ.v74,
    φ.v75, φ.v76, φ.v77, φ.v78, φ.v79, φ.v80, φ.v81, φ.cst_4, φ.v82, φ.v83, φ.v84, φ.v85, φ.v86, φ.v87, φ.v88, φ.v89,
    φ.v90, φ.v91, φ.v92, φ.v93, φ.v94, φ.v95, φ.v96, φ.v97, φ.v98, φ.v99, φ.v100, φ.v101, φ.v102, φ.v103, φ.v104,
    φ.v105, φ.v106, φ.v107, φ.v108, φ.v109, φ.v110, φ.v111, φ.v112, φ.v113, φ.v114, φ.v115, φ.v116, φ.v117, φ.v118,
    φ.v119, φ.v120, φ.v121, φ.v122, φ.v123, φ.v124, φ.v125, φ.v126, φ.v127, φ.v128, φ.v129, φ.v130, φ.v131, φ.v132,
    φ.v133, φ.v134, φ.cst_5, φ.v135, φ.v136, φ.cst_6, φ.v137, φ.v138, φ.v139, φ.v140, ⟨φ.call2.v0, φ.call2.cst,
    φ.call2.c, φ.call2.v1_0, φ.call2.v1_1⟩, φ.v142, φ.call3.v16, φ.v144, φ.v145, ⟨φ.call4.v0, φ.call4.cst,
    φ.call4.v1, φ.call4.v2, φ.call4.v3⟩, φ.v147, φ.v148, φ.cst_7, φ.v149, φ.v150, φ.v151, φ.cst_8, φ.v152, φ.v153,
    φ.cst_9, φ.v154, ⟨φ.call5.v0⟩, φ.v156, φ.cst_10, φ.v157, φ.v158, φ.cst_11, φ.v159, φ.v160, φ.v161, φ.v162,
    ⟨φ.call6.v0⟩, φ.v164, φ.v165, φ.v166⟩

/-- A call of @axis_angles_2 as the conversion of 21 joint(s). -/
def axis_angles_2Bufs (φ : fn_axis_angles_2.Bufs) : Conv.Bufs sig 21 :=
  ⟨φ.v0, φ.v1, ⟨φ.call0.v0, φ.call0.cst, φ.call0.v1, φ.call0.v2, φ.call0.v3⟩, φ.v3, φ.v4, φ.v5, φ.cst, φ.v6, φ.v7,
    φ.v8, φ.v9, φ.v10, ⟨φ.call1.v0, φ.call1.cst, φ.call1.v1, φ.call1.v2, φ.call1.v3⟩, φ.v12, φ.v13, φ.v14, φ.v15,
    φ.v16, φ.v17, φ.v18, φ.v19, φ.v20, φ.v21, φ.v22, φ.v23, φ.v24, φ.v25, φ.v26, φ.v27, φ.v28, φ.v29, φ.v30, φ.v31,
    φ.v32, φ.v33, φ.v34, φ.v35, φ.v36, φ.v37, φ.v38, φ.v39, φ.v40, φ.v41, φ.v42, φ.v43, φ.v44, φ.v45, φ.v46, φ.v47,
    φ.v48, φ.v49, φ.v50, φ.v51, φ.v52, φ.v53, φ.v54, φ.v55, φ.v56, φ.v57, φ.v58, φ.v59, φ.v60, φ.cst_0, φ.v61, φ.v62,
    φ.v63, φ.v64, φ.cst_1, φ.v65, φ.v66, φ.v67, φ.v68, φ.cst_2, φ.v69, φ.v70, φ.v71, φ.v72, φ.cst_3, φ.v73, φ.v74,
    φ.v75, φ.v76, φ.v77, φ.v78, φ.v79, φ.v80, φ.v81, φ.cst_4, φ.v82, φ.v83, φ.v84, φ.v85, φ.v86, φ.v87, φ.v88, φ.v89,
    φ.v90, φ.v91, φ.v92, φ.v93, φ.v94, φ.v95, φ.v96, φ.v97, φ.v98, φ.v99, φ.v100, φ.v101, φ.v102, φ.v103, φ.v104,
    φ.v105, φ.v106, φ.v107, φ.v108, φ.v109, φ.v110, φ.v111, φ.v112, φ.v113, φ.v114, φ.v115, φ.v116, φ.v117, φ.v118,
    φ.v119, φ.v120, φ.v121, φ.v122, φ.v123, φ.v124, φ.v125, φ.v126, φ.v127, φ.v128, φ.v129, φ.v130, φ.v131, φ.v132,
    φ.v133, φ.v134, φ.cst_5, φ.v135, φ.v136, φ.cst_6, φ.v137, φ.v138, φ.v139, φ.v140, ⟨φ.call2.v0, φ.call2.cst,
    φ.call2.c, φ.call2.v1_0, φ.call2.v1_1⟩, φ.v142, φ.call3.v15, φ.v144, φ.v145, ⟨φ.call4.v0, φ.call4.cst,
    φ.call4.v1, φ.call4.v2, φ.call4.v3⟩, φ.v147, φ.v148, φ.cst_7, φ.v149, φ.v150, φ.v151, φ.cst_8, φ.v152, φ.v153,
    φ.cst_9, φ.v154, ⟨φ.call5.v0⟩, φ.v156, φ.cst_10, φ.v157, φ.v158, φ.cst_11, φ.v159, φ.v160, φ.v161, φ.v162,
    ⟨φ.call6.v0⟩, φ.v164, φ.v165, φ.v166⟩

/-- A call of @axis_angles_8 as the conversion of 15 joint(s). -/
def axis_angles_8Bufs (φ : fn_axis_angles_8.Bufs) : Conv.Bufs sig 15 :=
  ⟨φ.v0, φ.v1, ⟨φ.call0.v0, φ.call0.cst, φ.call0.v1, φ.call0.v2, φ.call0.v3⟩, φ.v3, φ.v4, φ.v5, φ.cst, φ.v6, φ.v7,
    φ.v8, φ.v9, φ.v10, ⟨φ.call1.v0, φ.call1.cst, φ.call1.v1, φ.call1.v2, φ.call1.v3⟩, φ.v12, φ.v13, φ.v14, φ.v15,
    φ.v16, φ.v17, φ.v18, φ.v19, φ.v20, φ.v21, φ.v22, φ.v23, φ.v24, φ.v25, φ.v26, φ.v27, φ.v28, φ.v29, φ.v30, φ.v31,
    φ.v32, φ.v33, φ.v34, φ.v35, φ.v36, φ.v37, φ.v38, φ.v39, φ.v40, φ.v41, φ.v42, φ.v43, φ.v44, φ.v45, φ.v46, φ.v47,
    φ.v48, φ.v49, φ.v50, φ.v51, φ.v52, φ.v53, φ.v54, φ.v55, φ.v56, φ.v57, φ.v58, φ.v59, φ.v60, φ.cst_0, φ.v61, φ.v62,
    φ.v63, φ.v64, φ.cst_1, φ.v65, φ.v66, φ.v67, φ.v68, φ.cst_2, φ.v69, φ.v70, φ.v71, φ.v72, φ.cst_3, φ.v73, φ.v74,
    φ.v75, φ.v76, φ.v77, φ.v78, φ.v79, φ.v80, φ.v81, φ.cst_4, φ.v82, φ.v83, φ.v84, φ.v85, φ.v86, φ.v87, φ.v88, φ.v89,
    φ.v90, φ.v91, φ.v92, φ.v93, φ.v94, φ.v95, φ.v96, φ.v97, φ.v98, φ.v99, φ.v100, φ.v101, φ.v102, φ.v103, φ.v104,
    φ.v105, φ.v106, φ.v107, φ.v108, φ.v109, φ.v110, φ.v111, φ.v112, φ.v113, φ.v114, φ.v115, φ.v116, φ.v117, φ.v118,
    φ.v119, φ.v120, φ.v121, φ.v122, φ.v123, φ.v124, φ.v125, φ.v126, φ.v127, φ.v128, φ.v129, φ.v130, φ.v131, φ.v132,
    φ.v133, φ.v134, φ.cst_5, φ.v135, φ.v136, φ.cst_6, φ.v137, φ.v138, φ.v139, φ.v140, ⟨φ.call2.v0, φ.call2.cst,
    φ.call2.c, φ.call2.v1_0, φ.call2.v1_1⟩, φ.v142, φ.call3.v15, φ.v144, φ.v145, ⟨φ.call4.v0, φ.call4.cst,
    φ.call4.v1, φ.call4.v2, φ.call4.v3⟩, φ.v147, φ.v148, φ.cst_7, φ.v149, φ.v150, φ.v151, φ.cst_8, φ.v152, φ.v153,
    φ.cst_9, φ.v154, ⟨φ.call5.v0⟩, φ.v156, φ.cst_10, φ.v157, φ.v158, φ.cst_11, φ.v159, φ.v160, φ.v161, φ.v162,
    ⟨φ.call6.v0⟩, φ.v164, φ.v165, φ.v166⟩

def take_along_axis_5Bufs (φ : fn_take_along_axis_5.Bufs) : Conv.AlongBufs sig 21 :=
  ⟨φ.c, φ.v0, φ.v1, φ.c_0, φ.v2, φ.v3, φ.v4, φ.c_1, φ.c_2, φ.v5, φ.v6, φ.v7, φ.v8, φ.v9, φ.v10, φ.c_3, φ.v11, φ.v12,
    φ.v13, φ.cst, φ.v14, φ.v15⟩

def take_along_axis_11Bufs (φ : fn_take_along_axis_11.Bufs) : Conv.AlongBufs sig 15 :=
  ⟨φ.c, φ.v0, φ.v1, φ.c_0, φ.v2, φ.v3, φ.v4, φ.c_1, φ.c_2, φ.v5, φ.v6, φ.v7, φ.v8, φ.v9, φ.v10, φ.c_3, φ.v11, φ.v12,
    φ.v13, φ.cst, φ.v14, φ.v15⟩

def take_along_axisBufs (φ : fn_take_along_axis.Bufs) : Conv.Along1Bufs sig :=
  ⟨φ.c, φ.v0, φ.v1, φ.c_0, φ.v2, φ.v3, φ.v4, φ.v5, φ.c_1, φ.c_2, φ.v6, φ.v7, φ.v8, φ.v9, φ.v10, φ.v11, φ.c_3, φ.v12,
    φ.v13, φ.v14, φ.cst, φ.v15, φ.v16⟩

def takeBufs (φ : fn_take.Bufs) : Take.Bufs sig S4096x6 :=
  ⟨φ.c, φ.v0, φ.v1, φ.c_0, φ.v2, φ.v3, φ.call0.v0, φ.v5, φ.c_1, φ.c_2, φ.v6, φ.v7, φ.v8, φ.v9, φ.v10, φ.v11, φ.c_3,
    φ.v12, φ.v13, φ.v14, φ.cst, φ.v15, φ.v16⟩

def take_1Bufs (φ : fn_take_1.Bufs) : Take.Bufs sig S4096x21x6 :=
  ⟨φ.c, φ.v0, φ.v1, φ.c_0, φ.v2, φ.v3, φ.call0.v0, φ.v5, φ.c_1, φ.c_2, φ.v6, φ.v7, φ.v8, φ.v9, φ.v10, φ.v11, φ.c_3,
    φ.v12, φ.v13, φ.v14, φ.cst, φ.v15, φ.v16⟩

def take_7Bufs (φ : fn_take_7.Bufs) : Take.Bufs sig S4096x15x6 :=
  ⟨φ.c, φ.v0, φ.v1, φ.c_0, φ.v2, φ.v3, φ.call0.v0, φ.v5, φ.c_1, φ.c_2, φ.v6, φ.v7, φ.v8, φ.v9, φ.v10, φ.v11, φ.c_3,
    φ.v12, φ.v13, φ.v14, φ.cst, φ.v15, φ.v16⟩

def take_13Bufs (φ : fn_take_13.Bufs) : Take.Bufs sig S4096x50 :=
  ⟨φ.c, φ.v0, φ.v1, φ.c_0, φ.v2, φ.v3, φ.call0.v0, φ.v5, φ.c_1, φ.c_2, φ.v6, φ.v7, φ.v8, φ.v9, φ.v10, φ.v11, φ.c_3,
    φ.v12, φ.v13, φ.v14, φ.cst, φ.v15, φ.v16⟩

def take_14Bufs (φ : fn_take_14.Bufs) : Take.Bufs sig S4096x3 :=
  ⟨φ.c, φ.v0, φ.v1, φ.c_0, φ.v2, φ.v3, φ.call0.v0, φ.v5, φ.c_1, φ.c_2, φ.v6, φ.v7, φ.v8, φ.v9, φ.v10, φ.v11, φ.c_3,
    φ.v12, φ.v13, φ.v14, φ.cst, φ.v15, φ.v16⟩

theorem cf1 : Conv.Facts 1 := by constructor <;> decide
theorem cf15 : Conv.Facts 15 := by constructor <;> decide
theorem cf21 : Conv.Facts 21 := by constructor <;> decide
theorem af1 : Conv.Along1Facts := by constructor <;> decide
theorem af15 : Conv.AlongFacts 15 := by constructor <;> decide
theorem af21 : Conv.AlongFacts 21 := by constructor <;> decide

/-! One take of each table shape. -/

def take6 (x : TRef sig ⟨S100000x6, .f32⟩) (y : TRef sig ⟨S4096, .i32⟩) (φ : fn_take.Bufs) : List (Line τ sig (Elt F)) :=
  Take.lines gather_S100000x6_S4096x1_S4096x6_1_0_n_n_0_1_16 ![0] bcast_S4096_S4096x6_0 bcast_S_S4096x6 x y (takeBufs φ)

def take21x6 (x : TRef sig ⟨S100000x21x6, .f32⟩) (y : TRef sig ⟨S4096, .i32⟩) (φ : fn_take_1.Bufs) : List (Line τ sig (Elt F)) :=
  Take.lines gather_S100000x21x6_S4096x1_S4096x21x6_12_0_n_n_0_1_1216 ![0] bcast_S4096_S4096x21x6_0 bcast_S_S4096x21x6 x y (take_1Bufs φ)

def take15x6 (x : TRef sig ⟨S100000x15x6, .f32⟩) (y : TRef sig ⟨S4096, .i32⟩) (φ : fn_take_7.Bufs) : List (Line τ sig (Elt F)) :=
  Take.lines gather_S100000x15x6_S4096x1_S4096x15x6_12_0_n_n_0_1_1156 ![0] bcast_S4096_S4096x15x6_0 bcast_S_S4096x15x6 x y (take_7Bufs φ)

def take50 (x : TRef sig ⟨S100000x50, .f32⟩) (y : TRef sig ⟨S4096, .i32⟩) (φ : fn_take_13.Bufs) : List (Line τ sig (Elt F)) :=
  Take.lines gather_S100000x50_S4096x1_S4096x50_1_0_n_n_0_1_150 ![0] bcast_S4096_S4096x50_0 bcast_S_S4096x50 x y (take_13Bufs φ)

def take3 (x : TRef sig ⟨S100000x3, .f32⟩) (y : TRef sig ⟨S4096, .i32⟩) (φ : fn_take_14.Bufs) : List (Line τ sig (Elt F)) :=
  Take.lines gather_S100000x3_S4096x1_S4096x3_1_0_n_n_0_1_13 ![0] bcast_S4096_S4096x3_0 bcast_S_S4096x3 x y (take_14Bufs φ)

/-- One call of the conversion at one joint. -/
def conv1 (x : TRef sig ⟨S4096x1x6, .f32⟩) (φ : fn_axis_angles.Bufs) : List (Line τ sig (Elt F)) :=
  Conv.preLines cf1 x (axis_anglesBufs φ) ++ (Conv.along1Lines af1 φ.v140 φ.v142 (take_along_axisBufs φ.call3) ++
    Conv.lastLines cf1 (axis_anglesBufs φ))

/-- One call of the conversion at 21 joints. -/
def conv21 (x : TRef sig ⟨S4096x21x6, .f32⟩) (φ : fn_axis_angles_2.Bufs) : List (Line τ sig (Elt F)) :=
  Conv.preLines cf21 x (axis_angles_2Bufs φ) ++ (Conv.alongLines af21 φ.v140 φ.v142 (take_along_axis_5Bufs φ.call3) ++
    Conv.lastLines cf21 (axis_angles_2Bufs φ))

/-- One call of the conversion at 15 joints. -/
def conv15 (x : TRef sig ⟨S4096x15x6, .f32⟩) (φ : fn_axis_angles_8.Bufs) : List (Line τ sig (Elt F)) :=
  Conv.preLines cf15 x (axis_angles_8Bufs φ) ++ (Conv.alongLines af15 φ.v140 φ.v142 (take_along_axis_11Bufs φ.call3) ++
    Conv.lastLines cf15 (axis_angles_8Bufs φ))

theorem norm_eq (x : TRef sig ⟨S4096x1x3, .f32⟩) (φ : fn_norm.Bufs) :
    fn_norm.body (F := F) x φ = seq (ops (Conv.normLines cf1 x ⟨φ.v0, φ.cst, φ.v1, φ.v2, φ.v3⟩)) := rfl

theorem along1_eq (x : TRef sig ⟨S4096x1x4x4, .f32⟩) (y) (φ : fn_take_along_axis.Bufs) :
    fn_take_along_axis.body (F := F) x y φ = seq (ops (Conv.along1Lines af1 x y (take_along_axisBufs φ))) := rfl

theorem take_eq (x) (y) (φ : fn_take.Bufs) : fn_take.body (F := F) x y φ = seq (ops (take6 x y φ)) := rfl
theorem take_1_eq (x) (y) (φ : fn_take_1.Bufs) : fn_take_1.body (F := F) x y φ = seq (ops (take21x6 x y φ)) := rfl
theorem take_7_eq (x) (y) (φ : fn_take_7.Bufs) : fn_take_7.body (F := F) x y φ = seq (ops (take15x6 x y φ)) := rfl
theorem take_13_eq (x) (y) (φ : fn_take_13.Bufs) : fn_take_13.body (F := F) x y φ = seq (ops (take50 x y φ)) := rfl
theorem take_14_eq (x) (y) (φ : fn_take_14.Bufs) : fn_take_14.body (F := F) x y φ = seq (ops (take3 x y φ)) := rfl

set_option maxRecDepth 65536 in
set_option maxHeartbeats 4000000 in
theorem conv1_eq (x) (φ : fn_axis_angles.Bufs) :
    fn_axis_angles.body (F := F) x φ = seq (ops (conv1 x φ)) := rfl

set_option maxRecDepth 65536 in
set_option maxHeartbeats 4000000 in
theorem conv21_eq (x) (φ : fn_axis_angles_2.Bufs) :
    fn_axis_angles_2.body (F := F) x φ = seq (ops (conv21 x φ)) := rfl

set_option maxRecDepth 65536 in
set_option maxHeartbeats 4000000 in
theorem conv15_eq (x) (φ : fn_axis_angles_8.Bufs) :
    fn_axis_angles_8.body (F := F) x φ = seq (ops (conv15 x φ)) := rfl

end Cert.RefRun

end
-- ==== Proof.RefMain.lean ====
/- The reference's whole text as one list of lines, and its run. -/
module

public import proofs.«01_k».proof.Proof.RefRun
public import Idealize.ShloMosaic.Lib.Quiescent

@[expose] public section

noncomputable section

namespace Cert.RefRun

open Idealize.ShloMosaic Idealize.ShloMosaic.StableHlo Idealize.SL.Sem Cert.Lines Cert.ReferenceIdeal
open Cert.ReferenceIdeal.Gen (facts₀ facts)
open Cert.ReferenceIdeal.Facts₀

variable {F : FTy → Type} [FloatOps F]

/-- The reference's operations in order. -/
def mainLines : List (Line τ sig (Elt F)) :=
  take6 (.of main_arg0) (.of main_arg10) main_call0 ++ (
  [Line.unary (.of main_v0 : TRef sig ⟨S4096x6, .f32⟩) (.of main_v1 : TRef sig ⟨S4096x1x6, .f32⟩) (broadcastInDim S4096x1x6 ![0, 2] bcast_S4096x6_S4096x1x6_0_2)] ++ (
  conv1 (.of main_v1) main_call1 ++ (
  [Line.reshape (.of main_v2 : TRef sig ⟨S4096x1x3, .f32⟩) (.of main_v3 : TRef sig ⟨S4096x3, .f32⟩) shapeCasts_S4096x1x3_S4096x3] ++ (
  take21x6 (.of main_arg1) (.of main_arg10) main_call2 ++ (
  conv21 (.of main_v4) main_call3 ++ (
  take6 (.of main_arg2) (.of main_arg10) main_call4 ++ (
  [Line.unary (.of main_v6 : TRef sig ⟨S4096x6, .f32⟩) (.of main_v7 : TRef sig ⟨S4096x1x6, .f32⟩) (broadcastInDim S4096x1x6 ![0, 2] bcast_S4096x6_S4096x1x6_0_2)] ++ (
  conv1 (.of main_v7) main_call5 ++ (
  [Line.reshape (.of main_v8 : TRef sig ⟨S4096x1x3, .f32⟩) (.of main_v9 : TRef sig ⟨S4096x3, .f32⟩) shapeCasts_S4096x1x3_S4096x3] ++ (
  take6 (.of main_arg3) (.of main_arg10) main_call6 ++ (
  [Line.unary (.of main_v10 : TRef sig ⟨S4096x6, .f32⟩) (.of main_v11 : TRef sig ⟨S4096x1x6, .f32⟩) (broadcastInDim S4096x1x6 ![0, 2] bcast_S4096x6_S4096x1x6_0_2)] ++ (
  conv1 (.of main_v11) main_call7 ++ (
  [Line.reshape (.of main_v12 : TRef sig ⟨S4096x1x3, .f32⟩) (.of main_v13 : TRef sig ⟨S4096x3, .f32⟩) shapeCasts_S4096x1x3_S4096x3] ++ (
  take6 (.of main_arg4) (.of main_arg10) main_call8 ++ (
  [Line.unary (.of main_v14 : TRef sig ⟨S4096x6, .f32⟩) (.of main_v15 : TRef sig ⟨S4096x1x6, .f32⟩) (broadcastInDim S4096x1x6 ![0, 2] bcast_S4096x6_S4096x1x6_0_2)] ++ (
  conv1 (.of main_v15) main_call9 ++ (
  [Line.reshape (.of main_v16 : TRef sig ⟨S4096x1x3, .f32⟩) (.of main_v17 : TRef sig ⟨S4096x3, .f32⟩) shapeCasts_S4096x1x3_S4096x3] ++ (
  take15x6 (.of main_arg5) (.of main_arg10) main_call10 ++ (
  conv15 (.of main_v18) main_call11 ++ (
  take15x6 (.of main_arg6) (.of main_arg10) main_call12 ++ (
  conv15 (.of main_v20) main_call13 ++ (
  take50 (.of main_arg7) (.of main_arg10) main_call14 ++ (
  take3 (.of main_arg8) (.of main_arg10) main_call15)))))))))))))))))))))))

theorem seq_one (op : HloOp τ sig (Elt F)) : seq (nD := nD) (Λ := Pipeline.Sig Λ₀ (Fin 0) fun p => (pcfgs (F := F) p).Adm) [op] = hlo rfl op (fun _ => .ret ⟨⟩) := rfl

set_option maxRecDepth 65536 in
set_option maxHeartbeats 4000000 in
theorem main_eq (d : Dev nD) : main (F := F) d = seq (ops mainLines) := by
  simp only [main, mainLines, ops, List.map_append, seq_append, take_eq, take_1_eq, take_7_eq, take_13_eq, take_14_eq, conv1_eq, conv15_eq,
    conv21_eq]
  rfl

set_option maxRecDepth 65536 in
set_option maxHeartbeats 4000000 in
theorem ok_main : ok 11 (mainLines (F := F)) = true := rfl

end Cert.RefRun

end
-- ==== Proof.RefEnd.lean ====
/- What the reference's buffers hold after its run: every line's equation, and the arguments as they were. -/
module

public import proofs.«01_k».proof.Proof.RefMain
public import Idealize.ShloMosaic.Lib.Quiescent

@[expose] public section

noncomputable section

namespace Cert.RefRun

open Idealize.ShloMosaic Idealize.ShloMosaic.StableHlo Idealize.SL.Sem Cert.Lines Cert.ReferenceIdeal
open TcCoe

variable {F : FTy → Type} [FloatOps F]
variable (m : (ℓ : Loc nD τ sig) → Buf (Elt F) ℓ) (ρ : Dev nD → PrngReg)

theorem scopedRefs_eq : (Finset.univ.filter fun b : Ref sig .tc => b.isScoped) = ∅ := by decide +kernel
theorem scopedSems_eq : (Finset.univ.filter fun sm : SemLoc sig => sm.isScoped .tc) = ∅ := by decide

/-- The contents of a device's buffers when the reference has run. -/
def final (d : Dev nD) : Valuation τ sig (Elt F) := after (ops mainLines) (launchContents m d)

theorem run : θ_run (defs (F := F)) (onTc (τ := τ) (main (F := F))) ⟨m, fun _ => 0, ρ⟩ fun r => ∀ (d : Dev nD) b,
    r.2.mem ((d.tc : Thread nD τ).loc b) = final m d (Proc.devRef .tc b) :=
  run_seq scopedRefs_eq scopedSems_eq defs main (fun _ => ops mainLines) main_eq (fun _ => ops_sub _) m ρ (fun _ => ops_fresh _)

theorem eqns (d : Dev nD) : AllEqns (final m d) mainLines := allEqns_of (holds _ 11 _ ok_main)

/-- A buffer below index 11, an argument, ends as it was. -/
theorem final_arg (d : Dev nD) (r : Ref sig .tc) (h : pos r < 11) : final m d (Proc.devRef .tc r) = m ((d : Thread nD τ).loc r) :=
  keeps _ 11 _ ok_main r h

/-- The reference runs, and leaves its arguments as they were and no semaphore raised. -/
theorem frame : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0 :=
  (θ_run defs _ _).mono (fun r h => ⟨fun c => by
    refine ⟨?_, ?_, ?_, ?_, ?_, ?_, ?_, ?_, ?_, ?_, ?_⟩ <;> exact (h c _).trans (final_arg m c _ (by decide)),
    sem_eq_zero_of_no_sems rfl r.2⟩) (run m ρ)

end Cert.RefRun

end
-- ==== Proof.Shapes.lean ====
/- What the slices, broadcasts, reshapes, concatenations and sums of the conversion read, element by element. -/
module

public import proofs.«01_k».proof.Proof.Conv
public import Idealize.ShloMosaic.Lib.Pointwise.Reduce
public import Idealize.ShloMosaic.Lib.Pointwise.SelectCore
public import Idealize.ShloMosaic.Lib.Pipeline.Value
public import Idealize.ShloMosaic.Lib.IdealHost

@[expose] public section

noncomputable section

namespace Cert.Conv

open Idealize.ShloMosaic

variable {J : Nat} {α : Type}

theorem slice3 {a b : Nat} (o : Nat) (x : (s3 J a).Idx → α) (h : (s3 J a).Slices ![0, 0, o] (s3 J b)) (i : Fin 4096) (j : Fin J)
    (k : Fin b) (k' : Fin a) (hk : k'.val = o + k.val) :
    extractStridedSlice (s3 J b) ![0, 0, o] x h (ix3 i j k) = x (ix3 i j k') :=
  extractStridedSlice_apply _ x h _ _ fun c => match c with
    | ⟨0, _⟩ => (Nat.zero_add _).symm
    | ⟨1, _⟩ => (Nat.zero_add _).symm
    | ⟨2, _⟩ => hk

theorem slice4 {a b c d : Nat} (o p : Nat) (x : (s4 J a b).Idx → α) (h : (s4 J a b).Slices ![0, 0, o, p] (s4 J c d)) (i : Fin 4096)
    (j : Fin J) (k : Fin c) (l : Fin d) (k' : Fin a) (l' : Fin b) (hk : k'.val = o + k.val) (hl : l'.val = p + l.val) :
    extractStridedSlice (s4 J c d) ![0, 0, o, p] x h (ix4 i j k l) = x (ix4 i j k' l') :=
  extractStridedSlice_apply _ x h _ _ fun c => match c with
    | ⟨0, _⟩ => (Nat.zero_add _).symm
    | ⟨1, _⟩ => (Nat.zero_add _).symm
    | ⟨2, _⟩ => hk
    | ⟨3, _⟩ => hl

/-- A coordinate bounded by an extent is what a broadcast along an equal extent reads. -/
theorem keep {n : Nat} (k : Fin n) : k.val = if n = 1 then 0 else k.val := by
  split
  · next h => subst h; omega
  · rfl

theorem bcast23 (x : (s2 J).Idx → α) (h : (s2 J).BroadcastsInDim (s3 J 1) (![0, 1] : Fin 2 → Fin (s3 J 1).rank)) (i : Fin 4096) (j : Fin J)
    (k : Fin 1) : broadcastInDim (s3 J 1) ![0, 1] h x (ix3 i j k) = x (ix2 i j) :=
  broadcastInDim_apply _ h x _ _ fun a => match a with
    | ⟨0, _⟩ => keep i
    | ⟨1, _⟩ => keep j

theorem bcast33 {b : Nat} (x : (s3 J 1).Idx → α)
    (h : (s3 J 1).BroadcastsInDim (s3 J b) (![0, 1, 2] : Fin 3 → Fin (s3 J b).rank)) (i : Fin 4096) (j : Fin J)
    (k : Fin b) : broadcastInDim (s3 J b) ![0, 1, 2] h x (ix3 i j k) = x (ix3 i j 0) :=
  broadcastInDim_apply _ h x _ _ fun a => match a with
    | ⟨0, _⟩ => keep i
    | ⟨1, _⟩ => keep j
    | ⟨2, _⟩ => rfl

theorem cast32 (x : (s3 J 1).Idx → α) (h : (s3 J 1).ShapeCasts (s2 J)) (i : Fin 4096) (j : Fin J) :
    shapeCast (s2 J) x h (ix2 i j) = x (ix3 i j 0) := by
  refine shapeCast_apply x h _ _ ?_
  simp [Shape.rowMajor_val_three, Shape.rowMajor_val_two]

theorem cast42 (x : (s4 J 1 1).Idx → α) (h : (s4 J 1 1).ShapeCasts (s2 J)) (i : Fin 4096) (j : Fin J) :
    shapeCast (s2 J) x h (ix2 i j) = x (ix4 i j 0 0) := by
  refine shapeCast_apply x h _ _ ?_
  simp [Shape.rowMajor_val_four, Shape.rowMajor_val_two]

theorem cast43r {a : Nat} (x : (s4 J 1 a).Idx → α) (h : (s4 J 1 a).ShapeCasts (s3 J a)) (i : Fin 4096) (j : Fin J) (k : Fin a) :
    shapeCast (s3 J a) x h (ix3 i j k) = x (ix4 i j 0 k) := by
  refine shapeCast_apply x h _ _ ?_
  simp [Shape.rowMajor_val_four, Shape.rowMajor_val_three]

theorem sum3 (x : FVec Ideal (s3 J 3) .f32) (h : (s3 J 3).ReducesTo [2] (s2 J)) (hu : 0 < s0.numel) (i : Fin 4096) (j : Fin J) :
    Host.reduceAdd x (constant s0 .f32 0x00000000#32) h hu (ix2 i j) = x (ix3 i j 0) + x (ix3 i j 1) + x (ix3 i j 2) := by
  rw [Host.reduceAdd_apply, Ideal.hostReduceAdd_def, Ideal.hostReduceAdd_r3_a2, Fin.sum_univ_three]
  show Ideal.ofBits .f32 0x00000000#32 + _ = _
  rw [Ideal.ofBits_zero_f32, zero_add]
  rfl

theorem bcast0 {t : Shape} (x : s0.Idx → α) (h : s0.BroadcastsInDim t (![] : Fin 0 → Fin t.rank)) (j : t.Idx) :
    broadcastInDim t ![] h x j = x (fun a => a.elim0) :=
  broadcastInDim_apply _ h x _ _ fun a => a.elim0

theorem bcast34m {a : Nat} (x : (s3 J a).Idx → α)
    (h : (s3 J a).BroadcastsInDim (s4 J 1 a) (![0, 1, 3] : Fin 3 → Fin (s4 J 1 a).rank)) (i : Fin 4096) (j : Fin J) (o : Fin 1)
    (k : Fin a) : broadcastInDim (s4 J 1 a) ![0, 1, 3] h x (ix4 i j o k) = x (ix3 i j k) :=
  broadcastInDim_apply _ h x _ _ fun c => match c with
    | ⟨0, _⟩ => keep i
    | ⟨1, _⟩ => keep j
    | ⟨2, _⟩ => keep k

theorem bcast34l {a b : Nat} (x : (s3 J a).Idx → α)
    (h : (s3 J a).BroadcastsInDim (s4 J a b) (![0, 1, 2] : Fin 3 → Fin (s4 J a b).rank)) (i : Fin 4096) (j : Fin J) (k : Fin a)
    (l : Fin b) : broadcastInDim (s4 J a b) ![0, 1, 2] h x (ix4 i j k l) = x (ix3 i j k) :=
  broadcastInDim_apply _ h x _ _ fun c => match c with
    | ⟨0, _⟩ => keep i
    | ⟨1, _⟩ => keep j
    | ⟨2, _⟩ => keep k

theorem bcast44 {a b : Nat} (x : (s4 J a 1).Idx → α)
    (h : (s4 J a 1).BroadcastsInDim (s4 J a b) (![0, 1, 2, 3] : Fin 4 → Fin (s4 J a b).rank)) (i : Fin 4096) (j : Fin J) (k : Fin a)
    (l : Fin b) : broadcastInDim (s4 J a b) ![0, 1, 2, 3] h x (ix4 i j k l) = x (ix4 i j k 0) :=
  broadcastInDim_apply _ h x _ _ fun c => match c with
    | ⟨0, _⟩ => keep i
    | ⟨1, _⟩ => keep j
    | ⟨2, _⟩ => keep k
    | ⟨3, _⟩ => rfl

theorem bcast24 (x : (s2 J).Idx → α) (h : (s2 J).BroadcastsInDim (s4 J 1 1) (![0, 1] : Fin 2 → Fin (s4 J 1 1).rank)) (i : Fin 4096) (j : Fin J)
    (k l : Fin 1) : broadcastInDim (s4 J 1 1) ![0, 1] h x (ix4 i j k l) = x (ix2 i j) :=
  broadcastInDim_apply _ h x _ _ fun a => match a with
    | ⟨0, _⟩ => keep i
    | ⟨1, _⟩ => keep j

/-- Which piece of a concatenation of width one holds a column. -/
theorem piece3 {b : Nat} (xs : List ((s : Shape) × (s.Idx → α))) (h : Shape.Concatenates (xs.map (·.1)) (s3 J b) 2) (i : Fin 4096)
    (j : Fin J) (n : Fin b) (hn : n.val < xs.length) (x : (s3 J 1).Idx → α) (hx : xs[n.val] = ⟨s3 J 1, x⟩)
    (hpre : (((xs.take n.val).map (·.1)).map fun s => if h : s.rank = (s3 J b).rank then s.size ((2 : Fin (s3 J b).rank).cast h.symm) else 0).sum = n.val) :
    concatenate (s3 J b) 2 xs h (ix3 i j n) = x (ix3 i j 0) :=
  concatenate_apply_piece _ xs h _ n.val hn (s3 J 1) x hx rfl n.val hpre _ (fun c hc => match c, hc with
    | ⟨0, _⟩, _ => rfl
    | ⟨1, _⟩, _ => rfl
    | ⟨2, _⟩, hc => (hc rfl).elim) rfl

/-- The same for pieces that are rows. -/
theorem piece4 {a b : Nat} (xs : List ((s : Shape) × (s.Idx → α))) (h : Shape.Concatenates (xs.map (·.1)) (s4 J b a) 2) (i : Fin 4096)
    (j : Fin J) (n : Fin b) (l : Fin a) (hn : n.val < xs.length) (x : (s4 J 1 a).Idx → α) (hx : xs[n.val] = ⟨s4 J 1 a, x⟩)
    (hpre : (((xs.take n.val).map (·.1)).map fun s => if h : s.rank = (s4 J b a).rank then s.size ((2 : Fin (s4 J b a).rank).cast h.symm) else 0).sum = n.val) :
    concatenate (s4 J b a) 2 xs h (ix4 i j n l) = x (ix4 i j 0 l) :=
  concatenate_apply_piece _ xs h _ n.val hn (s4 J 1 a) x hx rfl n.val hpre _ (fun c hc => match c, hc with
    | ⟨0, _⟩, _ => rfl
    | ⟨1, _⟩, _ => rfl
    | ⟨2, _⟩, hc => (hc rfl).elim
    | ⟨3, _⟩, _ => rfl) rfl

theorem cat33 (x0 x1 x2 : (s3 J 1).Idx → α) (h : Shape.Concatenates [s3 J 1, s3 J 1, s3 J 1] (s3 J 3) 2) (i : Fin 4096) (j : Fin J) (n : Fin 3) :
    concatenate (s3 J 3) 2 [⟨s3 J 1, x0⟩, ⟨s3 J 1, x1⟩, ⟨s3 J 1, x2⟩] h (ix3 i j n) = ![x0 (ix3 i j 0), x1 (ix3 i j 0), x2 (ix3 i j 0)] n := by
  match n with
  | ⟨0, _⟩ => exact piece3 [⟨s3 J 1, x0⟩, ⟨s3 J 1, x1⟩, ⟨s3 J 1, x2⟩] h i j 0 (by simp) _ rfl rfl
  | ⟨1, _⟩ => exact piece3 [⟨s3 J 1, x0⟩, ⟨s3 J 1, x1⟩, ⟨s3 J 1, x2⟩] h i j 1 (by simp) _ rfl rfl
  | ⟨2, _⟩ => exact piece3 [⟨s3 J 1, x0⟩, ⟨s3 J 1, x1⟩, ⟨s3 J 1, x2⟩] h i j 2 (by simp) _ rfl rfl

theorem cat34 (x0 x1 x2 x3 : (s3 J 1).Idx → α) (h : Shape.Concatenates [s3 J 1, s3 J 1, s3 J 1, s3 J 1] (s3 J 4) 2) (i : Fin 4096) (j : Fin J) (n : Fin 4) :
    concatenate (s3 J 4) 2 [⟨s3 J 1, x0⟩, ⟨s3 J 1, x1⟩, ⟨s3 J 1, x2⟩, ⟨s3 J 1, x3⟩] h (ix3 i j n)
      = ![x0 (ix3 i j 0), x1 (ix3 i j 0), x2 (ix3 i j 0), x3 (ix3 i j 0)] n := by
  match n with
  | ⟨0, _⟩ => exact piece3 [⟨s3 J 1, x0⟩, ⟨s3 J 1, x1⟩, ⟨s3 J 1, x2⟩, ⟨s3 J 1, x3⟩] h i j 0 (by simp) _ rfl rfl
  | ⟨1, _⟩ => exact piece3 [⟨s3 J 1, x0⟩, ⟨s3 J 1, x1⟩, ⟨s3 J 1, x2⟩, ⟨s3 J 1, x3⟩] h i j 1 (by simp) _ rfl rfl
  | ⟨2, _⟩ => exact piece3 [⟨s3 J 1, x0⟩, ⟨s3 J 1, x1⟩, ⟨s3 J 1, x2⟩, ⟨s3 J 1, x3⟩] h i j 2 (by simp) _ rfl rfl
  | ⟨3, _⟩ => exact piece3 [⟨s3 J 1, x0⟩, ⟨s3 J 1, x1⟩, ⟨s3 J 1, x2⟩, ⟨s3 J 1, x3⟩] h i j 3 (by simp) _ rfl rfl

theorem cat43 (x0 x1 x2 : (s4 J 1 3).Idx → α) (h : Shape.Concatenates [s4 J 1 3, s4 J 1 3, s4 J 1 3] (s4 J 3 3) 2) (i : Fin 4096) (j : Fin J)
    (n l : Fin 3) : concatenate (s4 J 3 3) 2 [⟨s4 J 1 3, x0⟩, ⟨s4 J 1 3, x1⟩, ⟨s4 J 1 3, x2⟩] h (ix4 i j n l)
      = ![x0 (ix4 i j 0 l), x1 (ix4 i j 0 l), x2 (ix4 i j 0 l)] n := by
  match n with
  | ⟨0, _⟩ => exact piece4 [⟨s4 J 1 3, x0⟩, ⟨s4 J 1 3, x1⟩, ⟨s4 J 1 3, x2⟩] h i j 0 l (by simp) _ rfl rfl
  | ⟨1, _⟩ => exact piece4 [⟨s4 J 1 3, x0⟩, ⟨s4 J 1 3, x1⟩, ⟨s4 J 1 3, x2⟩] h i j 1 l (by simp) _ rfl rfl
  | ⟨2, _⟩ => exact piece4 [⟨s4 J 1 3, x0⟩, ⟨s4 J 1 3, x1⟩, ⟨s4 J 1 3, x2⟩] h i j 2 l (by simp) _ rfl rfl

theorem cat44 (x0 x1 x2 x3 : (s4 J 1 4).Idx → α) (h : Shape.Concatenates [s4 J 1 4, s4 J 1 4, s4 J 1 4, s4 J 1 4] (s4 J 4 4) 2) (i : Fin 4096)
    (j : Fin J) (n l : Fin 4) : concatenate (s4 J 4 4) 2 [⟨s4 J 1 4, x0⟩, ⟨s4 J 1 4, x1⟩, ⟨s4 J 1 4, x2⟩, ⟨s4 J 1 4, x3⟩] h (ix4 i j n l)
      = ![x0 (ix4 i j 0 l), x1 (ix4 i j 0 l), x2 (ix4 i j 0 l), x3 (ix4 i j 0 l)] n := by
  match n with
  | ⟨0, _⟩ => exact piece4 [⟨s4 J 1 4, x0⟩, ⟨s4 J 1 4, x1⟩, ⟨s4 J 1 4, x2⟩, ⟨s4 J 1 4, x3⟩] h i j 0 l (by simp) _ rfl rfl
  | ⟨1, _⟩ => exact piece4 [⟨s4 J 1 4, x0⟩, ⟨s4 J 1 4, x1⟩, ⟨s4 J 1 4, x2⟩, ⟨s4 J 1 4, x3⟩] h i j 1 l (by simp) _ rfl rfl
  | ⟨2, _⟩ => exact piece4 [⟨s4 J 1 4, x0⟩, ⟨s4 J 1 4, x1⟩, ⟨s4 J 1 4, x2⟩, ⟨s4 J 1 4, x3⟩] h i j 2 l (by simp) _ rfl rfl
  | ⟨3, _⟩ => exact piece4 [⟨s4 J 1 4, x0⟩, ⟨s4 J 1 4, x1⟩, ⟨s4 J 1 4, x2⟩, ⟨s4 J 1 4, x3⟩] h i j 3 l (by simp) _ rfl rfl

end Cert.Conv

end
-- ==== Proof.Row.lean ====
/- The conversion of one six-number rotation to three axis-angle numbers, over the extended reals: two unit vectors
   and their cross product as the rows of a rotation matrix, the four quaternion candidates, the candidate with the
   greatest component, and the axis-angle of that quaternion. -/
module

public import Idealize.ShloMosaic.Lib.ValueIdx
public import Idealize.ShloMosaic.PureOps.Ideal.Laws

@[expose] public section

noncomputable section

namespace Cert.Row

open Idealize.ShloMosaic

/-- One number. -/
abbrev R := Ideal .f32

def one : R := Ideal.ofBits .f32 0x3F800000#32
def two : R := Ideal.ofBits .f32 0x40000000#32
def zero : R := Ideal.ofBits .f32 0x00000000#32
def half : R := Ideal.ofBits .f32 0x3F000000#32
def floor : R := Ideal.ofBits .f32 0x3DCCCCCD#32
def tiny : R := Ideal.ofBits .f32 0x358637BD#32
def fortyEight : R := Ideal.ofBits .f32 0x42400000#32

/-- The inner product of three-vectors. -/
def dot (a b : Fin 3 → R) : R := a 0 * b 0 + a 1 * b 1 + a 2 * b 2

def len (a : Fin 3 → R) : R := Ideal.sqrt (dot a a)

def unit (a : Fin 3 → R) (k : Fin 3) : R := Ideal.div (a k) (len a)

/-- What is left of `b` without its part along the unit vector `u`. -/
def rest (u b : Fin 3 → R) (k : Fin 3) : R := b k - dot u b * u k

def cross (a b : Fin 3 → R) : Fin 3 → R :=
  ![a 1 * b 2 - a 2 * b 1, a 2 * b 0 - a 0 * b 2, a 0 * b 1 - a 1 * b 0]

/-- The matrix with the given two rows and their cross product. -/
def mat (a b : Fin 3 → R) : Fin 3 → Fin 3 → R := ![a, b, cross a b]

/-- The sizes of the four quaternion components, twice over. -/
def sizes (m : Fin 3 → Fin 3 → R) : Fin 4 → R :=
  ![Ideal.sqrt (max (one + m 0 0 + m 1 1 + m 2 2) zero), Ideal.sqrt (max (one + m 0 0 - m 1 1 - m 2 2) zero),
    Ideal.sqrt (max (one - m 0 0 + m 1 1 - m 2 2) zero), Ideal.sqrt (max (one - m 0 0 - m 1 1 + m 2 2) zero)]

/-- The four candidates before division. -/
def cands (m : Fin 3 → Fin 3 → R) (q : Fin 4 → R) : Fin 4 → Fin 4 → R :=
  ![![q 0 * q 0, m 2 1 - m 1 2, m 0 2 - m 2 0, m 1 0 - m 0 1],
    ![m 2 1 - m 1 2, q 1 * q 1, m 1 0 + m 0 1, m 0 2 + m 2 0],
    ![m 0 2 - m 2 0, m 1 0 + m 0 1, q 2 * q 2, m 1 2 + m 2 1],
    ![m 1 0 - m 0 1, m 2 0 + m 0 2, m 2 1 + m 1 2, q 3 * q 3]]

/-- The four candidates. -/
def quats (m : Fin 3 → Fin 3 → R) (q : Fin 4 → R) (n k : Fin 4) : R :=
  Ideal.div (cands m q n k) (two * max (q n) floor)

/-- `n` is the first place where `q` is greatest. -/
def Best (q : Fin 4 → R) (n : Fin 4) : Prop := ∀ k, q k < q n ∨ (q k = q n ∧ n ≤ k)

/-- Running through the places, the value at the greatest so far. -/
def pick (q r : Fin 4 → R) : R :=
  Scalar.select (Ideal.cmp .ogt (q 3) (max (q 2) (max (q 1) (q 0)))) (r 3)
    (Scalar.select (Ideal.cmp .ogt (q 2) (max (q 1) (q 0))) (r 2)
      (Scalar.select (Ideal.cmp .ogt (q 1) (q 0)) (r 1) (r 0)))

theorem select_ogt {α : Type} (a b : R) (x y : α) : Scalar.select (Ideal.cmp .ogt a b) x y = if b < a then x else y := by
  by_cases h : b < a <;> simp [Scalar.select, Ideal.cmp, h]

theorem four : ∀ n : Fin 4, n = 0 ∨ n = 1 ∨ n = 2 ∨ n = 3 := by decide

theorem pick_eq {q : Fin 4 → R} {n : Fin 4} (h : Best q n) (r : Fin 4 → R) : pick q r = r n := by
  have h0 := h 0; have h1 := h 1; have h2 := h 2; have h3 := h 3
  unfold pick
  simp only [select_ogt, max_lt_iff]
  rcases four n with rfl | rfl | rfl | rfl <;> simp at h0 h1 h2 h3 <;> split_ifs <;> first | rfl | (exfalso; grind)

/-- The axis-angle of the quaternion `w`. -/
def angles (w : Fin 4 → R) : R := two * Ideal.atan2 (len ![w 1, w 2, w 3]) (w 0)

def scale (w : Fin 4 → R) : R :=
  let a := angles w
  let small := Ideal.cmp .olt (max a (-a)) tiny
  Scalar.select small (half - Ideal.div (a * a) fortyEight)
    (Ideal.div (Ideal.sin (Ideal.atan2 (len ![w 1, w 2, w 3]) (w 0))) (Scalar.select small one a))

def axis (w : Fin 4 → R) (k : Fin 3) : R := Ideal.div (w k.succ) (scale w)

/-- The conversion of the two three-vectors `a` and `b`. -/
def matrix (a b : Fin 3 → R) : Fin 3 → Fin 3 → R := mat (unit a) (unit (rest (unit a) b))

def quat (m : Fin 3 → Fin 3 → R) (k : Fin 4) : R := pick (sizes m) fun n => quats m (sizes m) n k

def row (a b : Fin 3 → R) (k : Fin 3) : R := axis (quat (matrix a b)) k

end Cert.Row

end
-- ==== Proof.Argmax.lean ====
/- The host's argmax over four numbers finds the first place where they are greatest. -/
module

public import proofs.«01_k».proof.Proof.Row
public import proofs.«01_k».proof.Proof.Conv
public import Idealize.ShloMosaic.Lib.Pointwise.Reduce

@[expose] public section

noncomputable section

namespace Cert.Argmax

open Idealize.ShloMosaic Cert.Row Cert.Conv

/-- A place as a word. -/
abbrev word (n : Fin 4) : BitVec 32 := BitVec.ofNat 32 n.val

theorem word_inj : ∀ n k : Fin 4, word n = word k → n = k := by decide
theorem word_slt : ∀ n k : Fin 4, IntOp.cmpi .slt (word n) (word k) = BitVec.ofBool (decide (n < k)) := by decide

/-- One step of the argmax keeps the greater number, of equals the first. -/
theorem step (v x : R) (n k : Fin 4) : Cert.ReferenceIdeal.reducer_argmax_f32_i32 (F := Ideal) (v, word n) (x, word k) =
    if x < v ∨ (v = x ∧ n < k) then (v, word n) else (x, word k) := by
  unfold Cert.ReferenceIdeal.reducer_argmax_f32_i32
  simp only [word_slt]
  by_cases h1 : x < v
  · have h2 : v ≠ x := ne_of_gt h1
    simp [Ideal.cmpf_def, Ideal.cmp, Scalar.select, IntOp.ori, IntOp.andi, h1, h2]
  · by_cases h2 : v = x
    · subst h2
      by_cases h3 : n < k <;> simp [Ideal.cmpf_def, Ideal.cmp, Scalar.select, IntOp.ori, IntOp.andi, h3]
    · simp [Ideal.cmpf_def, Ideal.cmp, Scalar.select, IntOp.ori, IntOp.andi, h1, h2]

/-- The fold over a list of numbers with their places ends at the first greatest of them. -/
theorem fold_best (q : Fin 4 → R) : ∀ (L : List (R × BitVec 32)) (v : R) (n : Fin 4), (∀ p ∈ L, ∃ k : Fin 4, p = (q k, word k)) → v ≤ q n →
    ∃ v' n', L.foldl (Cert.ReferenceIdeal.reducer_argmax_f32_i32 (F := Ideal)) (v, word n) = (v', word n') ∧ v' ≤ q n' ∧
      (v < v' ∨ (v = v' ∧ n' ≤ n)) ∧ ∀ k, (q k, word k) ∈ L → (q k < v' ∨ (q k = v' ∧ n' ≤ k))
  | [], v, n, _, hv => ⟨v, n, rfl, hv, Or.inr ⟨rfl, le_refl n⟩, fun _ h => absurd h List.not_mem_nil⟩
  | p :: L, v, n, hL, hv => by
    obtain ⟨k, rfl⟩ := hL p List.mem_cons_self
    have hL' := fun p hp => hL p (List.mem_cons_of_mem _ hp)
    rw [List.foldl_cons, step]
    by_cases hc : q k < v ∨ (v = q k ∧ n < k)
    · rw [if_pos hc]
      obtain ⟨v', n', he, hle, hge, hall⟩ := fold_best q L v n hL' hv
      refine ⟨v', n', he, hle, hge, fun k' hk' => ?_⟩
      rcases List.mem_cons.mp hk' with h | h
      · obtain rfl := word_inj _ _ (congrArg Prod.snd h)
        rcases hc with hc | ⟨hc, hn⟩ <;> rcases hge with hg | ⟨hg, hm⟩
        · exact Or.inl (hc.trans hg)
        · exact Or.inl (hg ▸ hc)
        · exact Or.inl (hc ▸ hg)
        · exact Or.inr ⟨hc.symm.trans hg, hm.trans hn.le⟩
      · exact hall k' h
    · rw [if_neg hc]
      obtain ⟨v', n', he, hle, hge, hall⟩ := fold_best q L (q k) k hL' (le_refl _)
      refine ⟨v', n', he, hle, ?_, fun k' hk' => ?_⟩
      · push Not at hc
        rcases lt_or_eq_of_le hc.1 with h | h
        · rcases hge with hg | ⟨hg, hm⟩
          · exact Or.inl (h.trans hg)
          · exact Or.inl (hg ▸ h)
        · rcases hge with hg | ⟨hg, hm⟩
          · exact Or.inl (h ▸ hg)
          · exact Or.inr ⟨h.trans hg, hm.trans (hc.2 h)⟩
      · rcases List.mem_cons.mp hk' with h | h
        · obtain rfl := word_inj _ _ (congrArg Prod.snd h)
          exact hge
        · exact hall k' h

theorem bits_bot : Ideal.ofBits .f32 0xFF800000#32 = ⊥ := by
  simp [Ideal.ofBits, Ideal.ieee]

/-- The argmax's index is the first place of the greatest of the four numbers. -/
theorem index {J : Nat} (x : FVec Ideal (s3 J 4) .f32) (h : (s3 J 4).ReducesTo [2] (s2 J)) (hu : 0 < s0.numel) (i : Fin 4096) (j : Fin J) :
    ∃ n : Fin 4, Best (fun k => x (ix3 i j k)) n ∧
      (Host.argReduce (Cert.ReferenceIdeal.reducer_argmax_f32_i32 (F := Ideal)) x (iotaInDim (s3 J 4) 32 2) (constant s0 .f32 0xFF800000#32)
        (constantI s0 32 0#32) h hu (ix2 i j)).2 = word n := by
  rw [Ideal.argReduce_eq_reduce2, Host.reduce2_eq_foldl_fiber]
  have hb : ∀ i' : (s3 J 4).Idx, h.drop i' = ix2 i j ↔ ∃ k : Fin 4, ix3 i j k = i' := fun i' => h.fiber_r3_a2 (ix2 i j) i'
  obtain ⟨v, n, he, hle, -, hall⟩ := fold_best (fun k => x (ix3 i j k)) (Host.argReduceFiber x (iotaInDim (s3 J 4) 32 2) h (ix2 i j))
    (⊥ : EReal) 0 (fun p hp => by
      obtain ⟨m, hm, rfl⟩ := List.mem_map.mp hp
      obtain ⟨k, hk⟩ := (hb _).mp (by simpa using (List.mem_filter.mp hm).2)
      exact ⟨k, by rw [← hk]; rfl⟩) bot_le
  have hall' : ∀ k, x (ix3 i j k) < v ∨ (x (ix3 i j k) = v ∧ n ≤ k) := fun k => hall k (by
    refine List.mem_map.mpr ⟨(s3 J 4).rowMajor (ix3 i j k), List.mem_filter.mpr ⟨List.mem_finRange _, ?_⟩, ?_⟩
    · simpa using (hb (ix3 i j k)).mpr ⟨k, rfl⟩
    · simp only [Equiv.symm_apply_apply]; rfl)
  have hv : v = x (ix3 i j n) := by
    rcases hall' n with h' | h'
    · exact absurd h' (not_lt.mpr hle)
    · exact h'.1.symm
  refine ⟨n, fun k => by beta_reduce; rw [← hv]; exact hall' k, ?_⟩
  have : (constant (F := Ideal) s0 .f32 0xFF800000#32) (Shape.Idx.first hu) = (⊥ : EReal) := bits_bot
  rw [this]
  exact congrArg Prod.snd he

end Cert.Argmax

end
-- ==== Proof.ConvVal.lean ====
/- The value of the conversion at one row and joint: each stage read element by element, and the whole the
   conversion of the six numbers there. -/
module

public import proofs.«01_k».proof.Proof.Shapes
public import proofs.«01_k».proof.Proof.Row
public import proofs.«01_k».proof.Proof.Argmax

@[expose] public section

set_option maxRecDepth 4096

noncomputable section

namespace Cert.Conv

open Idealize.ShloMosaic Idealize.ShloMosaic.StableHlo Cert.Lines Cert.Row

variable {τ : Topo} {sig : RefSig} {J : Nat} {W : Valuation τ sig (Elt Ideal)}

section Eqns
variable {Ta Tb Tc Td Ty : BufTy}

theorem nullary_eqn (y : TRef sig Ty) (v : Ty.Contents (Elt Ideal)) : (Line.nullary (τ := τ) y v).eqn W = (val W y = v) := rfl
theorem unary_eqn (a : TRef sig Ta) (y : TRef sig Ty) (f) : (Line.unary (τ := τ) a y f).eqn W = (val W y = f (val W a)) := rfl
theorem binary_eqn (a : TRef sig Ta) (b : TRef sig Tb) (y : TRef sig Ty) (f) :
    (Line.binary (τ := τ) a b y f).eqn W = (val W y = f (val W a) (val W b)) := rfl
theorem ternary_eqn (a : TRef sig Ta) (b : TRef sig Tb) (c : TRef sig Tc) (y : TRef sig Ty) (f) :
    (Line.ternary (τ := τ) a b c y f).eqn W = (val W y = f (val W a) (val W b) (val W c)) := rfl
theorem quaternary_eqn (a : TRef sig Ta) (b : TRef sig Tb) (c : TRef sig Tc) (d : TRef sig Td) (y : TRef sig Ty) (f) :
    (Line.quaternary (τ := τ) a b c d y f).eqn W = (val W y = f (val W a) (val W b) (val W c) (val W d)) := rfl
theorem cat3_eqn (a b c : TRef sig Ta) (y : TRef sig Ty) (f) :
    (Line.cat3 (τ := τ) a b c y f).eqn W = (val W y = f (val W a) (val W b) (val W c)) := rfl
theorem cat4_eqn (a b c d : TRef sig Ta) (y : TRef sig Ty) (f) :
    (Line.cat4 (τ := τ) a b c d y f).eqn W = (val W y = f (val W a) (val W b) (val W c) (val W d)) := rfl
theorem reshape_eqn {s t : Shape} {e : EltTy} (a : TRef sig ⟨s, e⟩) (y : TRef sig ⟨t, e⟩) (hn : s.ShapeCasts t) :
    (Line.reshape (τ := τ) (Val := Elt Ideal) a y hn).eqn W = (val W y = shapeCast t (val W a) hn) := rfl

end Eqns

/-- A column of one, read. -/
theorem comp3 {a : Nat} {x : (s3 J a).Idx → R} {o : Nat} {h : (s3 J a).Slices ![0, 0, o] (s3 J 1)} {h' : (s3 J 1).ShapeCasts (s2 J)}
    {y : (s3 J 1).Idx → R} {z : (s2 J).Idx → R} (k : Fin a) (hk : k.val = o)
    (e : y = extractStridedSlice (s3 J 1) ![0, 0, o] x h) (e' : z = shapeCast (s2 J) y h') (i : Fin 4096) (j : Fin J) :
    z (ix2 i j) = x (ix3 i j k) := by
  rw [e', e, cast32, slice3 o x h i j 0 k hk]

/-- An entry of a matrix, read. -/
theorem comp4 {a b : Nat} {x : (s4 J a b).Idx → R} {o p : Nat} {h : (s4 J a b).Slices ![0, 0, o, p] (s4 J 1 1)}
    {h' : (s4 J 1 1).ShapeCasts (s2 J)} {y : (s4 J 1 1).Idx → R} {z : (s2 J).Idx → R} (k : Fin a) (l : Fin b) (hk : k.val = o) (hl : l.val = p)
    (e : y = extractStridedSlice (s4 J 1 1) ![0, 0, o, p] x h) (e' : z = shapeCast (s2 J) y h') (i : Fin 4096) (j : Fin J) :
    z (ix2 i j) = x (ix4 i j k l) := by
  rw [e', e, cast42, slice4 o p x h i j 0 0 k l hk hl]

/-- What `x` holds along the last axis. -/
abbrev vec {a : Nat} (W : Valuation τ sig (Elt Ideal)) (x : TRef sig ⟨s3 J a, .f32⟩) (i : Fin 4096) (j : Fin J) : Fin a → R :=
  fun k => val W x (ix3 i j k)

theorem norm_val {H : Facts J} {x : TRef sig ⟨s3 J 3, .f32⟩} {φ : NormBufs sig J} (h : AllEqns W (normLines H x φ)) (i : Fin 4096) (j : Fin J) :
    val W φ.v3 (ix3 i j 0) = len (vec W x i j) := by
  simp only [AllEqns, normLines, nullary_eqn, unary_eqn, binary_eqn] at h
  obtain ⟨e0, ec, e1, e2, e3, -⟩ := h
  rw [e3, Host.sqrt_apply, e2, bcast23, e1, ec, sum3, e0]; rfl

variable {H : Facts J} {φ : Bufs sig J} {arg : TRef sig ⟨s3 J 6, .f32⟩}

/-- The first three numbers, and the other three. -/
abbrev lo (x : Fin 6 → R) (k : Fin 3) : R := x (k.castLE (by decide))
abbrev hi (x : Fin 6 → R) (k : Fin 3) : R := x (k.natAdd 3)

theorem first_val (h : AllEqns W (firstLines H arg φ)) (i : Fin 4096) (j : Fin J) :
    vec W φ.v1 i j = hi (vec W arg i j) ∧ vec W φ.v4 i j = unit (lo (vec W arg i j)) := by
  obtain ⟨h, hc⟩ := allEqns_append h
  obtain ⟨ha, hb⟩ := allEqns_append h
  simp only [AllEqns, unary_eqn, binary_eqn] at ha hc
  obtain ⟨e0, e1, -⟩ := ha
  obtain ⟨e3, e4, -⟩ := hc
  have f : vec W φ.v0 i j = lo (vec W arg i j) := funext fun k => by
    show val W φ.v0 (ix3 i j k) = _
    rw [e0]; exact slice3 0 _ _ i j k _ (by simp)
  refine ⟨funext fun k => ?_, funext fun k => ?_⟩
  · show val W φ.v1 (ix3 i j k) = _
    rw [e1]; exact slice3 3 _ _ i j k (k.natAdd 3) rfl
  · show val W φ.v4 (ix3 i j k) = _
    rw [e4, Host.divf_apply, e3, bcast33, norm_val hb, f]
    exact congrArg (Ideal.div · _) (congrFun f k)

theorem second_val (h : AllEqns W (secondLines H φ)) (i : Fin 4096) (j : Fin J) :
    vec W φ.v13 i j = unit (rest (vec W φ.v4 i j) (vec W φ.v1 i j)) := by
  obtain ⟨h, hc⟩ := allEqns_append h
  obtain ⟨ha, hb⟩ := allEqns_append h
  simp only [AllEqns, nullary_eqn, unary_eqn, binary_eqn] at ha hc
  obtain ⟨e5, ec, e6, e7, e8, e9, e10, -⟩ := ha
  obtain ⟨e12, e13, -⟩ := hc
  have f : vec W φ.v10 i j = rest (vec W φ.v4 i j) (vec W φ.v1 i j) := funext fun k => by
    show val W φ.v10 (ix3 i j k) = _
    rw [e10, subf_apply, e9, mulf_apply, e8, bcast33, e7, bcast23, e6, ec, sum3, e5]; rfl
  funext k
  show val W φ.v13 (ix3 i j k) = _
  rw [e13, Host.divf_apply, e12, bcast33, norm_val hb, f]
  exact congrArg (Ideal.div · _) (congrFun f k)

theorem third_val (h : AllEqns W (thirdLines H φ)) (i : Fin 4096) (j : Fin J) :
    vec W φ.v38 i j = cross (vec W φ.v4 i j) (vec W φ.v13 i j) := by
  simp only [AllEqns, thirdLines, nullary_eqn, unary_eqn, binary_eqn, reshape_eqn, cat3_eqn] at h
  obtain ⟨e14, e15, e16, e17, e18, e19, e20, e21, e22, e23, e24, e25, e26, e27, e28, e29, e30, e31, e32, e33, e34, e35, e36, e37, e38, -⟩ := h
  have c15 := comp3 0 rfl e14 e15 i j
  have c17 := comp3 1 rfl e16 e17 i j
  have c19 := comp3 2 rfl e18 e19 i j
  have c21 := comp3 0 rfl e20 e21 i j
  have c23 := comp3 1 rfl e22 e23 i j
  have c25 := comp3 2 rfl e24 e25 i j
  funext k
  show val W φ.v38 (ix3 i j k) = _
  rw [e38, cat33, e35, e36, e37, bcast23, bcast23, bcast23]
  simp only [ e34, e33, e32, e31, e30, e29, e28, e27, e26, subf_apply, mulf_apply, c15, c17, c19, c21, c23, c25]
  rfl

/-- The entries of the matrix, as they are read. -/
def Entries (W : Valuation τ sig (Elt Ideal)) (φ : Bufs sig J) (i : Fin 4096) (j : Fin J) (m : Fin 3 → Fin 3 → R) : Prop :=
  val W φ.v44 (ix2 i j) = m 0 0 ∧ val W φ.v46 (ix2 i j) = m 1 1 ∧ val W φ.v48 (ix2 i j) = m 2 2 ∧
  val W φ.v50 (ix2 i j) = m 2 1 ∧ val W φ.v52 (ix2 i j) = m 1 2 ∧ val W φ.v54 (ix2 i j) = m 0 2 ∧
  val W φ.v56 (ix2 i j) = m 2 0 ∧ val W φ.v58 (ix2 i j) = m 1 0 ∧ val W φ.v60 (ix2 i j) = m 0 1

theorem matrix_val (h : AllEqns W (matrixLines H φ)) (i : Fin 4096) (j : Fin J) :
    Entries W φ i j ![vec W φ.v4 i j, vec W φ.v13 i j, vec W φ.v38 i j] := by
  simp only [AllEqns, matrixLines, nullary_eqn, unary_eqn, binary_eqn, reshape_eqn, cat3_eqn] at h
  obtain ⟨e39, e40, e41, e42, e43, e44, e45, e46, e47, e48, e49, e50, e51, e52, e53, e54, e55, e56, e57, e58, e59, e60, -⟩ := h
  have m : ∀ k l : Fin 3, val W φ.v42 (ix4 i j k l) = ![vec W φ.v4 i j, vec W φ.v13 i j, vec W φ.v38 i j] k l := fun k l => by
    rw [e42, cat43, e39, e40, e41, bcast34m, bcast34m, bcast34m]
    match k with
    | ⟨0, _⟩ => rfl
    | ⟨1, _⟩ => rfl
    | ⟨2, _⟩ => rfl
  exact ⟨(comp4 0 0 rfl rfl e43 e44 i j).trans (m _ _), (comp4 1 1 rfl rfl e45 e46 i j).trans (m _ _),
    (comp4 2 2 rfl rfl e47 e48 i j).trans (m _ _), (comp4 2 1 rfl rfl e49 e50 i j).trans (m _ _),
    (comp4 1 2 rfl rfl e51 e52 i j).trans (m _ _), (comp4 0 2 rfl rfl e53 e54 i j).trans (m _ _),
    (comp4 2 0 rfl rfl e55 e56 i j).trans (m _ _), (comp4 1 0 rfl rfl e57 e58 i j).trans (m _ _),
    (comp4 0 1 rfl rfl e59 e60 i j).trans (m _ _)⟩

theorem norms_val {m : Fin 3 → Fin 3 → R} (h : AllEqns W (normsLines H φ)) (i : Fin 4096) (j : Fin J) (hm : Entries W φ i j m) :
    vec W φ.v84 i j = sizes m := by
  simp only [AllEqns, normsLines, nullary_eqn, unary_eqn, binary_eqn, cat4_eqn] at h
  obtain ⟨c0, e61, e62, e63, e64, c1, e65, e66, e67, e68, c2, e69, e70, e71, e72, c3, e73, e74, e75, e76, e77, e78, e79, e80, e81, c4, e82, e83, e84, -⟩ := h
  obtain ⟨m00, m11, m22, -⟩ := hm
  funext k
  show val W φ.v84 (ix3 i j k) = _
  rw [e84, Host.sqrt_apply, e83, maximumf_apply, e82, e81, c4, bcast0, cat34, e80, e79, e78, e77, bcast23, bcast23, bcast23, bcast23]
  have b : broadcastInDim (s2 J) ![] H.bcast_S0J (constant (F := Ideal) s0 .f32 0x3F800000#32) (ix2 i j) = one := bcast0 _ _ _
  simp only [ e76, e75, e74, e73, e72, e71, e70, e69, e68, e67, e66, e65, e64, e63, e62, e61,
    c0, c1, c2, c3, addf_apply, subf_apply, b, m00, m11, m22]
  match k with
  | ⟨0, _⟩ => rfl
  | ⟨1, _⟩ => rfl
  | ⟨2, _⟩ => rfl
  | ⟨3, _⟩ => rfl

theorem row0_val {m : Fin 3 → Fin 3 → R} (h : AllEqns W (row0Lines H φ)) (i : Fin 4096) (j : Fin J) (hm : Entries W φ i j m) (k : Fin 4) :
    val W φ.v95 (ix3 i j k) = cands m (vec W φ.v84 i j) 0 k := by
  simp only [AllEqns, row0Lines, nullary_eqn, unary_eqn, binary_eqn, reshape_eqn, cat4_eqn] at h
  obtain ⟨e85, e86, e87, e88, e89, e90, e91, e92, e93, e94, e95, -⟩ := h
  obtain ⟨m00, m11, m22, m21, m12, m02, m20, m10, m01⟩ := hm
  have c := comp3 0 rfl e85 e86 i j
  rw [e95, cat34, e94, e93, e92, e91, bcast23, bcast23, bcast23, bcast23]
  simp only [e90, e89, e88, e87, addf_apply, subf_apply, mulf_apply, m21, m12, m02, m20, m10, m01, c]
  match k with
  | ⟨0, _⟩ => rfl
  | ⟨1, _⟩ => rfl
  | ⟨2, _⟩ => rfl
  | ⟨3, _⟩ => rfl

theorem row1_val {m : Fin 3 → Fin 3 → R} (h : AllEqns W (row1Lines H φ)) (i : Fin 4096) (j : Fin J) (hm : Entries W φ i j m) (k : Fin 4) :
    val W φ.v106 (ix3 i j k) = cands m (vec W φ.v84 i j) 1 k := by
  simp only [AllEqns, row1Lines, nullary_eqn, unary_eqn, binary_eqn, reshape_eqn, cat4_eqn] at h
  obtain ⟨e96, e97, e98, e99, e100, e101, e102, e103, e104, e105, e106, -⟩ := h
  obtain ⟨m00, m11, m22, m21, m12, m02, m20, m10, m01⟩ := hm
  have c := comp3 1 rfl e97 e98 i j
  rw [e106, cat34, e105, e104, e103, e102, bcast23, bcast23, bcast23, bcast23]
  simp only [e101, e100, e99, e96, addf_apply, subf_apply, mulf_apply, m21, m12, m02, m20, m10, m01, c]
  match k with
  | ⟨0, _⟩ => rfl
  | ⟨1, _⟩ => rfl
  | ⟨2, _⟩ => rfl
  | ⟨3, _⟩ => rfl

theorem row2_val {m : Fin 3 → Fin 3 → R} (h : AllEqns W (row2Lines H φ)) (i : Fin 4096) (j : Fin J) (hm : Entries W φ i j m) (k : Fin 4) :
    val W φ.v117 (ix3 i j k) = cands m (vec W φ.v84 i j) 2 k := by
  simp only [AllEqns, row2Lines, nullary_eqn, unary_eqn, binary_eqn, reshape_eqn, cat4_eqn] at h
  obtain ⟨e107, e108, e109, e110, e111, e112, e113, e114, e115, e116, e117, -⟩ := h
  obtain ⟨m00, m11, m22, m21, m12, m02, m20, m10, m01⟩ := hm
  have c := comp3 2 rfl e109 e110 i j
  rw [e117, cat34, e116, e115, e114, e113, bcast23, bcast23, bcast23, bcast23]
  simp only [e112, e111, e108, e107, addf_apply, subf_apply, mulf_apply, m21, m12, m02, m20, m10, m01, c]
  match k with
  | ⟨0, _⟩ => rfl
  | ⟨1, _⟩ => rfl
  | ⟨2, _⟩ => rfl
  | ⟨3, _⟩ => rfl

theorem row3_val {m : Fin 3 → Fin 3 → R} (h : AllEqns W (row3Lines H φ)) (i : Fin 4096) (j : Fin J) (hm : Entries W φ i j m) (k : Fin 4) :
    val W φ.v128 (ix3 i j k) = cands m (vec W φ.v84 i j) 3 k := by
  simp only [AllEqns, row3Lines, nullary_eqn, unary_eqn, binary_eqn, reshape_eqn, cat4_eqn] at h
  obtain ⟨e118, e119, e120, e121, e122, e123, e124, e125, e126, e127, e128, -⟩ := h
  obtain ⟨m00, m11, m22, m21, m12, m02, m20, m10, m01⟩ := hm
  have c := comp3 3 rfl e121 e122 i j
  rw [e128, cat34, e127, e126, e125, e124, bcast23, bcast23, bcast23, bcast23]
  simp only [e123, e120, e119, e118, addf_apply, subf_apply, mulf_apply, m21, m12, m02, m20, m10, m01, c]
  match k with
  | ⟨0, _⟩ => rfl
  | ⟨1, _⟩ => rfl
  | ⟨2, _⟩ => rfl
  | ⟨3, _⟩ => rfl

theorem quats_val {m : Fin 3 → Fin 3 → R} (h : AllEqns W (quatsLines H φ)) (i : Fin 4096) (j : Fin J)
    (h0 : ∀ k, val W φ.v95 (ix3 i j k) = cands m (vec W φ.v84 i j) 0 k) (h1 : ∀ k, val W φ.v106 (ix3 i j k) = cands m (vec W φ.v84 i j) 1 k)
    (h2 : ∀ k, val W φ.v117 (ix3 i j k) = cands m (vec W φ.v84 i j) 2 k) (h3 : ∀ k, val W φ.v128 (ix3 i j k) = cands m (vec W φ.v84 i j) 3 k)
    (n k : Fin 4) : val W φ.v140 (ix4 i j n k) = quats m (vec W φ.v84 i j) n k := by
  simp only [AllEqns, quatsLines, nullary_eqn, unary_eqn, binary_eqn, cat4_eqn] at h
  obtain ⟨e129, e130, e131, e132, e133, e134, c5, e135, e136, c6, e137, e138, e139, e140, -⟩ := h
  rw [e140, Host.divf_apply, e139, bcast44, e138, mulf_apply, e137, bcast0, c6, e136, maximumf_apply, e135, bcast0, c5, e134, bcast34l,
    e133, cat44, e129, e130, e131, e132, bcast34m, bcast34m, bcast34m, bcast34m, h0, h1, h2, h3]
  match n with
  | ⟨0, _⟩ => rfl
  | ⟨1, _⟩ => rfl
  | ⟨2, _⟩ => rfl
  | ⟨3, _⟩ => rfl

theorem index_val (h : AllEqns W (indexLines H φ)) (i : Fin 4096) (j : Fin J) :
    ∃ n : Fin 4, Best (vec W φ.v84 i j) n ∧ val W φ.v142 (ix4 i j 0 0) = Argmax.word n := by
  obtain ⟨ha, hb⟩ := allEqns_append h
  simp only [AllEqns, argmaxLines, nullary_eqn, unary_eqn, quaternary_eqn] at ha hb
  obtain ⟨e0, ec, ec', -, e1, -⟩ := ha
  obtain ⟨e142, -⟩ := hb
  obtain ⟨n, hn, e⟩ := Argmax.index (val W φ.v84) H.reducesTo_Jx4_J_d2 H.h_S0 i j
  refine ⟨n, hn, ?_⟩
  rw [e142, bcast24, e1, e0, ec, ec']; exact e

theorem last_val (h : AllEqns W (lastLines H φ)) (i : Fin 4096) (j : Fin J) (k : Fin 3) :
    val W φ.v166 (ix3 i j k) = axis (fun k => val W φ.sel (ix4 i j 0 k)) k := by
  simp only [lastLines] at h
  obtain ⟨h, hg⟩ := allEqns_append h
  obtain ⟨h, hw'⟩ := allEqns_append h
  obtain ⟨h, hf⟩ := allEqns_append h
  obtain ⟨h, hw⟩ := allEqns_append h
  obtain ⟨h, he⟩ := allEqns_append h
  obtain ⟨hd, hn⟩ := allEqns_append h
  simp only [AllEqns, whereLines, nullary_eqn, unary_eqn, binary_eqn, ternary_eqn, reshape_eqn] at hd he hf hg hw hw'
  obtain ⟨e144, e145, -⟩ := hd
  obtain ⟨e147, e148, c7, e149, e150, e151, c8, e152, e153, c9, e154, -⟩ := he
  obtain ⟨e155, -⟩ := hw
  obtain ⟨e156, c10, e157, e158, c11, e159, e160, e161, e162, -⟩ := hf
  obtain ⟨e163, -⟩ := hw'
  obtain ⟨e164, e165, e166, -⟩ := hg
  have q : ∀ k, val W φ.v144 (ix3 i j k) = val W φ.sel (ix4 i j 0 k) := fun k => by rw [e144, cast43r]
  have v : ∀ k : Fin 3, extractStridedSlice (s3 J 3) ![0, 0, 1] (val W φ.v144) H.slices_Jx4_Jx3_0_0_1 (ix3 i j k) = val W φ.sel (ix4 i j 0 k.succ) :=
    fun k => (slice3 1 _ _ i j k k.succ (by simp [Nat.add_comm])).trans (q _)
  have n : val W φ.call4.v3 (ix3 i j 0) = len ![val W φ.sel (ix4 i j 0 1), val W φ.sel (ix4 i j 0 2), val W φ.sel (ix4 i j 0 3)] := by
    rw [norm_val hn]
    refine congrArg len (funext fun k => ?_)
    show val W φ.v145 (ix3 i j k) = _
    rw [e145, v]
    match k with
    | ⟨0, _⟩ => rfl
    | ⟨1, _⟩ => rfl
    | ⟨2, _⟩ => rfl
  have w : val W φ.v147 (ix3 i j 0) = val W φ.sel (ix4 i j 0 0) := by
    rw [e147]; exact (slice3 0 _ _ i j 0 0 rfl).trans (q _)
  have c : ∀ b : BitVec 32, broadcastInDim (s3 J 1) ![] H.bcast_S0Jx1 (constant (F := Ideal) s0 .f32 b) (ix3 i j 0) = Ideal.ofBits .f32 b := fun b => bcast0 _ _ _
  have t : val W φ.v148 (ix3 i j 0) = Ideal.atan2 (len ![val W φ.sel (ix4 i j 0 1), val W φ.sel (ix4 i j 0 2), val W φ.sel (ix4 i j 0 3)]) (val W φ.sel (ix4 i j 0 0)) := by
    rw [e148, Host.atan2_apply, n, w]; rfl
  have a : val W φ.v150 (ix3 i j 0) = angles fun k => val W φ.sel (ix4 i j 0 k) := by
    rw [e150, mulf_apply, t, e149, c7, c]; rfl
  have b : val W φ.v153 (ix3 i j 0) = Ideal.cmp .olt (max (val W φ.v150 (ix3 i j 0)) (-(val W φ.v150 (ix3 i j 0)))) tiny := by
    rw [e153, e152, e151, c8]
    exact congrArg (Ideal.cmp .olt _) (c _)
  rw [e166, Host.divf_apply, e164, v, e165, bcast33, e163, ValueIdx.select_apply, e162, Host.divf_apply, e161, Host.sin_apply, e160,
    subf_apply, e159, c11, c, e158, Host.divf_apply, e157, c10, c, e156, mulf_apply, e155, ValueIdx.select_apply, e154, c9, c, b, t, a]
  rfl

end Cert.Conv

end
-- ==== Proof.Cell.lean ====
/- What the kernel's body leaves in a block, number by number: the conversion of the six numbers above it. -/
module

public import proofs.«01_k».proof.Proof.Gen.KernelIdeal.Frame
public import proofs.«01_k».proof.Proof.ConvVal

@[expose] public section

noncomputable section

namespace Cert.KernRun

open Idealize.ShloMosaic Cert.KernelIdeal Cert.KernelIdeal.Gen
open Cert.Conv (lo hi)
open Cert.Row

theorem hz : (![0, 0, 0] : Fin 3 → Nat) = fun _ => 0 := funext fun a => by fin_cases a <;> rfl

/-- The six numbers of a block at one place. -/
def six (x : Vec Ideal S6x40x512 .f32) (p : S40x512.Idx) : Fin 6 → R := fun l => x (ix3 l (p 0) (p 1))

/-- One row of numbers out of six. -/
theorem slab (l : Fin 6) (x : FVec Ideal S6x40x512 .f32) (h : S6x40x512.Slices ![l.val, 0, 0] S1x40x512) (p : S40x512.Idx) :
    shapeCast S40x512 (extractStridedSlice S1x40x512 ![l.val, 0, 0] x h) shapeCasts_S1x40x512_S40x512 p = six x p l := by
  refine (shapeCast_apply _ _ _ (ix3 0 (p 0) (p 1)) ?_).trans (extractStridedSlice_apply _ x h _ _ fun a => match a with
    | ⟨0, _⟩ => rfl
    | ⟨1, _⟩ => (Nat.zero_add _).symm
    | ⟨2, _⟩ => (Nat.zero_add _).symm)
  rw [Shape.rowMajor_val_three, Shape.rowMajor_val_two]
  show ((0 : Nat) * 40 + (p 0).val) * 512 + (p 1).val = (p 0).val * 512 + (p 1).val
  omega

variable (x : Vec Ideal S6x40x512 .f32) (p : S40x512.Idx)

theorem same : k0_pay2 x = x := by unfold k0_pay2; exact shapeCast_self _ _
theorem at3 : k0_pay3 x p = six x p 0 := by unfold k0_pay3; rw [same]; exact slab 0 x _ p
theorem at4 : k0_pay4 x p = six x p 1 := by unfold k0_pay4; rw [same]; exact slab 1 x _ p
theorem at5 : k0_pay5 x p = six x p 2 := by unfold k0_pay5; rw [same]; exact slab 2 x _ p
theorem at6 : k0_pay6 x p = six x p 3 := by unfold k0_pay6; rw [same]; exact slab 3 x _ p
theorem at7 : k0_pay7 x p = six x p 4 := by unfold k0_pay7; rw [same]; exact slab 4 x _ p
theorem at8 : k0_pay8 x p = six x p 5 := by unfold k0_pay8; rw [same]; exact slab 5 x _ p

/-- The rotation matrix at one place. -/
def M : Fin 3 → Fin 3 → R := matrix (lo (six x p)) (hi (six x p))

theorem at9 : k0_pay9 x p = len (lo (six x p)) := by
  show Ideal.sqrt (k0_pay3 x p * k0_pay3 x p + k0_pay4 x p * k0_pay4 x p + k0_pay5 x p * k0_pay5 x p) = _
  rw [at3, at4, at5]; rfl
theorem at10 : k0_pay10 x p = M x p 0 0 := by
  show Ideal.div (k0_pay3 x p) (k0_pay9 x p) = _
  rw [at3, at9]; rfl
theorem at11 : k0_pay11 x p = M x p 0 1 := by
  show Ideal.div (k0_pay4 x p) (k0_pay9 x p) = _
  rw [at4, at9]; rfl
theorem at12 : k0_pay12 x p = M x p 0 2 := by
  show Ideal.div (k0_pay5 x p) (k0_pay9 x p) = _
  rw [at5, at9]; rfl
theorem at13 : k0_pay13 x p = dot (M x p 0) (hi (six x p)) := by
  show k0_pay10 x p * k0_pay6 x p + k0_pay11 x p * k0_pay7 x p + k0_pay12 x p * k0_pay8 x p = _
  rw [at10, at11, at12, at6, at7, at8]; rfl
theorem at14 : k0_pay14 x p = rest (M x p 0) (hi (six x p)) 0 := by
  show k0_pay6 x p - k0_pay13 x p * k0_pay10 x p = _
  rw [at6, at13, at10]; rfl
theorem at15 : k0_pay15 x p = rest (M x p 0) (hi (six x p)) 1 := by
  show k0_pay7 x p - k0_pay13 x p * k0_pay11 x p = _
  rw [at7, at13, at11]; rfl
theorem at16 : k0_pay16 x p = rest (M x p 0) (hi (six x p)) 2 := by
  show k0_pay8 x p - k0_pay13 x p * k0_pay12 x p = _
  rw [at8, at13, at12]; rfl
theorem at17 : k0_pay17 x p = len (rest (M x p 0) (hi (six x p))) := by
  show Ideal.sqrt (k0_pay14 x p * k0_pay14 x p + k0_pay15 x p * k0_pay15 x p + k0_pay16 x p * k0_pay16 x p) = _
  rw [at14, at15, at16]; rfl
theorem at18 : k0_pay18 x p = M x p 1 0 := by
  show Ideal.div (k0_pay14 x p) (k0_pay17 x p) = _
  rw [at14, at17]; rfl
theorem at19 : k0_pay19 x p = M x p 1 1 := by
  show Ideal.div (k0_pay15 x p) (k0_pay17 x p) = _
  rw [at15, at17]; rfl
theorem at20 : k0_pay20 x p = M x p 1 2 := by
  show Ideal.div (k0_pay16 x p) (k0_pay17 x p) = _
  rw [at16, at17]; rfl
theorem at21 : k0_pay21 x p = M x p 2 0 := by
  show k0_pay11 x p * k0_pay20 x p - k0_pay12 x p * k0_pay19 x p = _
  rw [at11, at20, at12, at19]; rfl
theorem at22 : k0_pay22 x p = M x p 2 1 := by
  show k0_pay12 x p * k0_pay18 x p - k0_pay10 x p * k0_pay20 x p = _
  rw [at12, at18, at10, at20]; rfl
theorem at23 : k0_pay23 x p = M x p 2 2 := by
  show k0_pay10 x p * k0_pay19 x p - k0_pay11 x p * k0_pay18 x p = _
  rw [at10, at19, at11, at18]; rfl
theorem at24 : k0_pay24 x p = one + M x p 0 0 + M x p 1 1 := by
  show one + k0_pay10 x p + k0_pay19 x p = _
  rw [at10, at19]

/-! From here on the matrix alone is read. -/

/-- A vector of the block at one place, from the matrix there. -/
theorem whole : View.ld x r0_0 = x := View.ld_unit_zero hz _ _

theorem at61 : k0_pay61 x p = sizes (M x p) 0 := by
  unfold k0_pay61 k0_pay59 k0_pay60; rw [whole]
  show Ideal.sqrt (max (k0_pay24 x p + k0_pay23 x p) zero) = _
  rw [at24, at23]; rfl
theorem at62 : k0_pay62 x p = sizes (M x p) 1 := by
  unfold k0_pay62 k0_pay51 k0_pay55 k0_pay59; rw [whole]
  show Ideal.sqrt (max (one + k0_pay10 x p - k0_pay19 x p - k0_pay23 x p) zero) = _
  rw [at10, at19, at23]; rfl
theorem at63 : k0_pay63 x p = sizes (M x p) 2 := by
  unfold k0_pay63 k0_pay51 k0_pay55 k0_pay59; rw [whole]
  show Ideal.sqrt (max (one - k0_pay10 x p + k0_pay19 x p - k0_pay23 x p) zero) = _
  rw [at10, at19, at23]; rfl
theorem at64 : k0_pay64 x p = sizes (M x p) 3 := by
  unfold k0_pay64 k0_pay51 k0_pay55 k0_pay59; rw [whole]
  show Ideal.sqrt (max (one - k0_pay10 x p - k0_pay19 x p + k0_pay23 x p) zero) = _
  rw [at10, at19, at23]; rfl

/-- Twice the bounded size, what a candidate is divided by. -/
def by2 (n : Fin 4) : R := two * max (sizes (M x p) n) floor

theorem at65 : k0_pay65 x p = by2 x p 1 := by
  show two * max (k0_pay62 x p) floor = _
  rw [at62]; rfl
theorem at66 : k0_pay66 x p = by2 x p 2 := by
  show two * max (k0_pay63 x p) floor = _
  rw [at63]; rfl
theorem at67 : k0_pay67 x p = by2 x p 3 := by
  show two * max (k0_pay64 x p) floor = _
  rw [at64]; rfl
theorem at68 : k0_pay68 x p = quats (M x p) (sizes (M x p)) 0 0 := by
  show Ideal.div (k0_pay61 x p * k0_pay61 x p) (two * max (k0_pay61 x p) floor) = _
  rw [at61]; rfl
theorem at69 : k0_pay69 x p = quats (M x p) (sizes (M x p)) 0 1 := by
  show Ideal.div (k0_pay58 x p - k0_pay56 x p) (two * max (k0_pay61 x p) floor) = _
  unfold k0_pay58 k0_pay56; rw [at61, whole, at22, at20]; rfl
theorem at70 : k0_pay70 x p = quats (M x p) (sizes (M x p)) 0 2 := by
  show Ideal.div (k0_pay53 x p - k0_pay57 x p) (two * max (k0_pay61 x p) floor) = _
  unfold k0_pay53 k0_pay57; rw [at61, whole, at12, at21]; rfl
theorem at71 : k0_pay71 x p = quats (M x p) (sizes (M x p)) 0 3 := by
  show Ideal.div (k0_pay54 x p - k0_pay52 x p) (two * max (k0_pay61 x p) floor) = _
  unfold k0_pay54 k0_pay52; rw [at61, whole, at18, at11]; rfl
theorem at72 : k0_pay72 x p = quats (M x p) (sizes (M x p)) 1 0 := by
  show Ideal.div (k0_pay58 x p - k0_pay56 x p) (k0_pay65 x p) = _
  unfold k0_pay58 k0_pay56; rw [at65, whole, at22, at20]; rfl

/-- The running choice among four vectors, at one place. -/
theorem choose (r0 r1 r2 r3 : FVec Ideal S40x512 .f32) :
    select (k0_pay42 (k0_pay61 x) (k0_pay62 x) (k0_pay63 x) (k0_pay64 x)) r3
      (select (k0_pay41 (k0_pay61 x) (k0_pay62 x) (k0_pay63 x)) r2 (select (k0_pay39 (k0_pay61 x) (k0_pay62 x)) r1 r0)) p =
      pick (sizes (M x p)) ![r0 p, r1 p, r2 p, r3 p] := by
  show Scalar.select (Ideal.cmp .ogt (k0_pay64 x p) (max (k0_pay63 x p) (max (k0_pay62 x p) (k0_pay61 x p)))) (r3 p)
    (Scalar.select (Ideal.cmp .ogt (k0_pay63 x p) (max (k0_pay62 x p) (k0_pay61 x p))) (r2 p)
      (Scalar.select (Ideal.cmp .ogt (k0_pay62 x p) (k0_pay61 x p)) (r1 p) (r0 p))) = _
  rw [at61, at62, at63, at64]; rfl

/-- The quaternion's vector part, as the body leaves it. -/
def w1 : FVec Ideal S40x512 .f32 := k0_pay43 (k0_pay52 x) (k0_pay53 x) (k0_pay54 x) (k0_pay57 x) (k0_pay61 x) (k0_pay62 x) (k0_pay63 x) (k0_pay64 x) (k0_pay65 x) (k0_pay66 x) (k0_pay67 x) (k0_pay69 x)
def w2 : FVec Ideal S40x512 .f32 := k0_pay44 (k0_pay52 x) (k0_pay54 x) (k0_pay56 x) (k0_pay58 x) (k0_pay61 x) (k0_pay62 x) (k0_pay63 x) (k0_pay64 x) (k0_pay65 x) (k0_pay66 x) (k0_pay67 x) (k0_pay70 x)
def w3 : FVec Ideal S40x512 .f32 := k0_pay45 (k0_pay53 x) (k0_pay56 x) (k0_pay57 x) (k0_pay58 x) (k0_pay61 x) (k0_pay62 x) (k0_pay63 x) (k0_pay64 x) (k0_pay65 x) (k0_pay66 x) (k0_pay67 x) (k0_pay71 x)
/-- Half the rotation's angle, as the body leaves it. -/
def turn : FVec Ideal S40x512 .f32 :=
  k0_pay46 (k0_pay52 x) (k0_pay53 x) (k0_pay54 x) (k0_pay56 x) (k0_pay57 x) (k0_pay58 x) (k0_pay61 x) (k0_pay62 x) (k0_pay63 x) (k0_pay64 x) (k0_pay65 x) (k0_pay66 x) (k0_pay67 x) (k0_pay68 x) (k0_pay69 x) (k0_pay70 x) (k0_pay71 x) (k0_pay72 x)

/-- A choice among one component of the four candidates is that component of the quaternion. -/
theorem quat_of (m : Fin 3 → Fin 3 → R) (k : Fin 4) {a b c d : R} (ha : a = quats m (sizes m) 0 k) (hb : b = quats m (sizes m) 1 k)
    (hc : c = quats m (sizes m) 2 k) (hd : d = quats m (sizes m) 3 k) : pick (sizes m) ![a, b, c, d] = quat m k := by
  subst ha hb hc hd
  refine congrArg (pick _) (funext fun n => ?_)
  fin_cases n <;> rfl

theorem at_w1 : w1 x p = quat (M x p) 1 := by
  refine (choose x p _ _ _ _).trans (quat_of _ 1 (at69 x p) ?_ ?_ ?_)
  · show Ideal.div (k0_pay62 x p * k0_pay62 x p) (k0_pay65 x p) = _
    rw [at62, at65]; rfl
  · show Ideal.div (k0_pay54 x p + k0_pay52 x p) (k0_pay66 x p) = _
    unfold k0_pay54 k0_pay52; rw [whole, at18, at11, at66]; rfl
  · show Ideal.div (k0_pay57 x p + k0_pay53 x p) (k0_pay67 x p) = _
    unfold k0_pay57 k0_pay53; rw [whole, at21, at12, at67]; rfl

theorem at_w2 : w2 x p = quat (M x p) 2 := by
  refine (choose x p _ _ _ _).trans (quat_of _ 2 (at70 x p) ?_ ?_ ?_)
  · show Ideal.div (k0_pay54 x p + k0_pay52 x p) (k0_pay65 x p) = _
    unfold k0_pay54 k0_pay52; rw [whole, at18, at11, at65]; rfl
  · show Ideal.div (k0_pay63 x p * k0_pay63 x p) (k0_pay66 x p) = _
    rw [at63, at66]; rfl
  · show Ideal.div (k0_pay58 x p + k0_pay56 x p) (k0_pay67 x p) = _
    unfold k0_pay58 k0_pay56; rw [whole, at22, at20, at67]; rfl

theorem at_w3 : w3 x p = quat (M x p) 3 := by
  refine (choose x p _ _ _ _).trans (quat_of _ 3 (at71 x p) ?_ ?_ ?_)
  · show Ideal.div (k0_pay53 x p + k0_pay57 x p) (k0_pay65 x p) = _
    unfold k0_pay53 k0_pay57; rw [whole, at12, at21, at65]; rfl
  · show Ideal.div (k0_pay56 x p + k0_pay58 x p) (k0_pay66 x p) = _
    unfold k0_pay56 k0_pay58; rw [whole, at20, at22, at66]; rfl
  · show Ideal.div (k0_pay64 x p * k0_pay64 x p) (k0_pay67 x p) = _
    rw [at64, at67]; rfl

/-- The body's first component, at one place. -/
theorem at_w0 : pick (sizes (M x p)) ![k0_pay68 x p, k0_pay72 x p, Ideal.div (k0_pay53 x p - k0_pay57 x p) (k0_pay66 x p),
    Ideal.div (k0_pay54 x p - k0_pay52 x p) (k0_pay67 x p)] = quat (M x p) 0 := by
  refine quat_of _ 0 (at68 x p) (at72 x p) ?_ ?_
  · unfold k0_pay53 k0_pay57; rw [whole, at12, at21, at66]; rfl
  · unfold k0_pay54 k0_pay52; rw [whole, at18, at11, at67]; rfl

theorem at_turn : turn x p = Ideal.atan2 (len ![quat (M x p) 1, quat (M x p) 2, quat (M x p) 3]) (quat (M x p) 0) := by
  refine (congrArg (Ideal.atan2 (Ideal.sqrt (w1 x p * w1 x p + w2 x p * w2 x p + w3 x p * w3 x p)))
    ((choose x p _ _ _ _).trans (at_w0 x p))).trans ?_
  rw [at_w1, at_w2, at_w3]; rfl

/-- The scale the vector part is divided by, as the body leaves it. -/
def divisor : FVec Ideal S40x512 .f32 :=
  let a := mulf (broadcast S40x512 two) (turn x)
  let small := cmpf .olt (absf a) (broadcast S40x512 tiny)
  select small (subf (broadcast S40x512 half) (divf (mulf a a) (broadcast S40x512 fortyEight)))
    (divf (sin (turn x)) (select small (broadcast S40x512 one) a))

theorem at_divisor : divisor x p = scale (quat (M x p)) := by
  show Scalar.select (Ideal.cmp .olt (max (two * turn x p) (-(two * turn x p))) tiny)
      (half - Ideal.div (two * turn x p * (two * turn x p)) fortyEight)
      (Ideal.div (Ideal.sin (turn x p)) (Scalar.select (Ideal.cmp .olt (max (two * turn x p) (-(two * turn x p))) tiny) one (two * turn x p))) = _
  rw [at_turn]; rfl

/-- Three planes one behind another. -/
theorem planes (u0 u1 u2 : FVec Ideal S40x512 .f32) (hc : S40x512.ShapeCasts S1x40x512) (h : Shape.Concatenates [S1x40x512, S1x40x512, S1x40x512] S3x40x512 0)
    (k : Fin 3) (r : Fin 40) (s : Fin 512) :
    concatenate S3x40x512 0 [⟨S1x40x512, shapeCast S1x40x512 u0 hc⟩, ⟨S1x40x512, shapeCast S1x40x512 u1 hc⟩, ⟨S1x40x512, shapeCast S1x40x512 u2 hc⟩] h
      (ix3 k r s) = ![u0 (ix2 r s), u1 (ix2 r s), u2 (ix2 r s)] k := by
  have cast (u : FVec Ideal S40x512 .f32) : shapeCast S1x40x512 u hc (ix3 0 r s) = u (ix2 r s) := by
    refine shapeCast_apply _ _ _ (ix2 r s) ?_
    rw [Shape.rowMajor_val_three, Shape.rowMajor_val_two]
    show r.val * 512 + s.val = ((0 : Nat) * 40 + r.val) * 512 + s.val
    omega
  have one (xs : List ((s : Shape) × (s.Idx → R))) (h : Shape.Concatenates (xs.map (·.1)) S3x40x512 0) (n : Fin 3)
      (hn : n.val < xs.length) (y : S1x40x512.Idx → R) (hy : xs[n.val] = ⟨S1x40x512, y⟩)
      (hpre : (((xs.take n.val).map (·.1)).map fun s => if h : s.rank = S3x40x512.rank then s.size ((0 : Fin S3x40x512.rank).cast h.symm) else 0).sum = n.val) :
      concatenate S3x40x512 0 xs h (ix3 n r s) = y (ix3 0 r s) :=
    concatenate_apply_piece (0 : Fin S3x40x512.rank) xs h (ix3 n r s) n.val hn S1x40x512 y hy rfl n.val hpre (ix3 0 r s) (fun c hc => match c, hc with
      | ⟨0, _⟩, hc => (hc rfl).elim
      | ⟨1, _⟩, _ => rfl
      | ⟨2, _⟩, _ => rfl) rfl
  let xs : List ((s : Shape) × (s.Idx → R)) :=
    [⟨S1x40x512, shapeCast S1x40x512 u0 hc⟩, ⟨S1x40x512, shapeCast S1x40x512 u1 hc⟩, ⟨S1x40x512, shapeCast S1x40x512 u2 hc⟩]
  match k with
  | ⟨0, _⟩ => exact (one xs h 0 (by simp [xs]) _ rfl rfl).trans (cast u0)
  | ⟨1, _⟩ => exact (one xs h 1 (by simp [xs]) _ rfl rfl).trans (cast u1)
  | ⟨2, _⟩ => exact (one xs h 2 (by simp [xs]) _ rfl rfl).trans (cast u2)

/-- What the body leaves at one place: the conversion of the six numbers there. -/
theorem out_at (k : Fin 3) (r : Fin 40) (s : Fin 512) :
    out0_1 (F := Ideal) x (ix3 k r s) = row (lo (six x (ix2 r s))) (hi (six x (ix2 r s))) k := by
  unfold out0_1
  rw [View.canon_unit_zero hz]
  refine (planes (divf (w1 x) (divisor x)) (divf (w2 x) (divisor x)) (divf (w3 x) (divisor x)) shapeCasts_S40x512_S1x40x512
    concatenates_S1x40x512_S1x40x512_S1x40x512_S3x40x512_d0 k r s).trans ?_
  show ![Ideal.div (w1 x (ix2 r s)) (divisor x (ix2 r s)), Ideal.div (w2 x (ix2 r s)) (divisor x (ix2 r s)),
    Ideal.div (w3 x (ix2 r s)) (divisor x (ix2 r s))] k = axis (quat (M x (ix2 r s))) k
  rw [at_w1, at_w2, at_w3, at_divisor]
  fin_cases k <;> rfl

end Cert.KernRun

end
-- ==== Proof.Arr.lean ====
/- The launch's result array: every block, and so every column, is the conversion of the six numbers over it. -/
module

public import proofs.«01_k».proof.Proof.Cell

@[expose] public section

noncomputable section

namespace Cert.KernRun

open Idealize.ShloMosaic Idealize.SL.Sem Cert.KernelIdeal Cert.KernelIdeal.Gen
open Cert.Conv (lo hi)
open Cert.Row
open TcCoe

/-- The conversion of every column of six numbers. -/
def columns (a : FVec Ideal S6x440x512 .f32) : FVec Ideal S3x440x512 .f32 := fun q =>
  row (lo fun l => a (ix3 l (q 1) (q 2))) (hi fun l => a (ix3 l (q 1) (q 2))) (q 0)

variable (m : (ℓ : Loc nD τ sig) → Buf (Elt Ideal) ℓ)

/-- Where the blocks of a point lie. -/
theorem places : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

/-- The array's row of a block's row. -/
theorem at_lt (t : Fin cfg0.N) (r : Fin 40) : t.val * 40 + r.val < 440 := by
  have ht : t.val < 11 := lt_of_lt_of_eq t.isLt N_0
  omega

def at' (t : Fin cfg0.N) (r : Fin 40) : Fin 440 := ⟨t.val * 40 + r.val, at_lt t r⟩

theorem emb_in (t : Fin cfg0.N) (l : Fin 6) (r : Fin 40) (s : Fin 512) :
    ((cfg0.win 0).blk t).view.emb (ix3 l r s) = ix3 l (at' t r) s := by
  obtain ⟨e0, e1, e2, -, -, -⟩ := places t
  funext a; apply Fin.ext
  match a with
  | ⟨0, _⟩ => show win0_0.index t (0 : Fin 3) * 6 + 1 * l.val = l.val; omega
  | ⟨1, _⟩ => show win0_0.index t (1 : Fin 3) * 40 + 1 * r.val = t.val * 40 + r.val; omega
  | ⟨2, _⟩ => show win0_0.index t (2 : Fin 3) * 512 + 1 * s.val = s.val; omega

theorem emb_out (t : Fin cfg0.N) (k : Fin 3) (r : Fin 40) (s : Fin 512) :
    ((cfg0.win 1).blk t).view.emb (ix3 k r s) = ix3 k (at' t r) s := by
  obtain ⟨-, -, -, e0, e1, e2⟩ := places t
  funext a; apply Fin.ext
  match a with
  | ⟨0, _⟩ => show win0_1.index t (0 : Fin 3) * 3 + 1 * k.val = k.val; omega
  | ⟨1, _⟩ => show win0_1.index t (1 : Fin 3) * 40 + 1 * r.val = t.val * 40 + r.val; omega
  | ⟨2, _⟩ => show win0_1.index t (2 : Fin 3) * 512 + 1 * s.val = s.val; omega

/-- The numbers of a point's block are the array's. -/
theorem six_at (c : Dev nD) (t : Fin cfg0.N) (r : Fin 40) (s : Fin 512) :
    six (iblk m c 0 t) (ix2 r s) = fun l => V m c main_v14 (ix3 l (at' t r) s) := by
  funext l
  show V m c main_v14 (((cfg0.win 0).blk t).view.emb (ix3 l r s)) = _
  rw [emb_in]

/-- What a point leaves in its block, at one place. -/
theorem left_at (c : Dev nD) (t : Fin cfg0.N) (k : Fin 3) (r : Fin 40) (s : Fin 512) :
    out0_1 (F := Ideal) (iblk m c 0 t) (ix3 k r s) = columns (V m c main_v14) (ix3 k (at' t r) s) := by
  refine (out_at _ k r s).trans ?_
  rw [six_at]
  rfl

/-- A block that agrees with an array place by place is the array's block. -/
theorem cut_eq (t : Fin cfg0.N) (X : Vec Ideal S3x40x512 .f32) (G : Vec Ideal S3x440x512 .f32)
    (h : ∀ k r s, X (ix3 k r s) = G (ix3 k (at' t r) s)) :
    (cfg0.win 1).cut (grid0.coords t) X = ((cfg0.win 1).blk t).view.read (Elt Ideal) G := by
  funext (j : S3x40x512.Idx)
  show X j = G (((cfg0.win 1).blk t).view.emb j)
  rw [eq_ix3 j]
  exact (h _ _ _).trans (congrArg G (emb_out t _ _ _).symm)

theorem flushed_eq (c : Dev nD) (t : Fin cfg0.N) :
    (dats m 0 c).flushed 1 t = ((cfg0.win 1).blk t).view.read (Elt Ideal) (columns (V m c main_v14)) := by
  show (cfg0.win 1).cut (grid0.coords t) ((dats m 0 c).after 1 t) = _
  rw [after0_1]
  exact cut_eq t _ _ (left_at m c t)

theorem covered (i : S3x440x512.Idx) : ∃ t : Fin cfg0.N, (cfg0.win 1).flush t = true ∧ i ∈ ((cfg0.win 1).blk t).view.set := by
  have hi : (i 1).val < 440 := (i 1).isLt
  have ht : (i 1).val / 40 < cfg0.N := lt_of_lt_of_eq (by omega) N_0.symm
  have hr : (i 1).val % 40 < 40 := Nat.mod_lt _ (by decide)
  have e : ((cfg0.win 1).blk ⟨(i 1).val / 40, ht⟩).view.emb (ix3 (i 0) ⟨(i 1).val % 40, hr⟩ (i 2)) = i := by
    refine (emb_out _ _ _ _).trans (Eq.trans ?_ (eq_ix3 i).symm)
    refine congrArg (fun r => ix3 (i 0) r (i 2)) (Fin.ext ?_)
    show (i 1).val / 40 * 40 + (i 1).val % 40 = (i 1).val
    omega
  refine ⟨⟨(i 1).val / 40, ht⟩, flush0_1 _, ?_⟩
  have h := ((cfg0.win 1).blk ⟨(i 1).val / 40, ht⟩).view.emb_mem_set (ix3 (i 0) ⟨(i 1).val % 40, hr⟩ (i 2))
  exact Eq.subst (motive := fun x => x ∈ ((cfg0.win 1).blk ⟨(i 1).val / 40, ht⟩).view.set) e h

/-- The launch's result array. -/
theorem arr_out (c : Dev nD) : (dats m 0 c).arrAt 1 cfg0.N = columns (V m c main_v14) :=
  (dats m 0 c).arrAt_eq_of_cover 1 (columns (V m c main_v14)) (fun t _ => flushed_eq m c t) covered

end Cert.KernRun

end
-- ==== Proof.Select.lean ====
/- The selection along the candidate axis: with the index naming a candidate, the selected row is that candidate's. -/
module

public import proofs.«01_k».proof.Proof.ConvVal
public import proofs.«01_k».proof.Proof.Along1

@[expose] public section

noncomputable section

namespace Cert.Conv

open Idealize.ShloMosaic Idealize.ShloMosaic.StableHlo Cert.Lines Cert.Row

variable {τ : Topo} {sig : RefSig} {J : Nat} {W : Valuation τ sig (Elt Ideal)}

/-- Conjunction over places that all hold. -/
theorem reduce_one {s t : Shape} {axes : List (Fin s.rank)} (x : s.Idx → BitVec 1) (h : s.ReducesTo axes t) (hu : 0 < s0.numel) (j : t.Idx)
    (hx : ∀ i, h.drop i = j → x i = 1#1) : Host.reduce IntOp.andi x (constantI s0 1 1#1) h hu j = 1#1 := by
  show List.foldl _ _ _ = _
  have key : ∀ L : List (Fin s.numel), (∀ n ∈ L, x (s.rowMajor.symm n) = 1#1) →
      L.foldl (fun r n => IntOp.andi r (x (s.rowMajor.symm n))) 1#1 = 1#1 := by
    intro L
    induction L with
    | nil => intro _; rfl
    | cons n L ih =>
      intro hL
      rw [List.foldl_cons, hL n List.mem_cons_self]
      exact ih fun n hn => hL n (List.mem_cons_of_mem _ hn)
  exact key _ fun n hn => hx _ (by simpa using (List.mem_filter.mp hn).2)

theorem word_nonneg (n : Fin 4) : IntOp.cmpi .slt (Argmax.word n) 0#32 = 0#1 := by
  revert n; decide
theorem word_inside (n : Fin 4) : IntOp.andi (IntOp.cmpi .sge (Argmax.word n) 0#32) (IntOp.cmpi .sle (Argmax.word n) 3#32) = 1#1 := by
  revert n; decide
theorem word_clamp (n : Fin 4) : min (Argmax.word n).toInt.toNat (4 - 1) = n.val := by
  revert n; decide

/-- The gather at one row and joint. -/
theorem gather_val (wf : GatherDims.WF (s4 J 4 4) (s4 J 1 1) (s4 J 1 4) [3] [2] [0, 1] [2] [0, 1] 3 ![1, 1, 1, 4])
    (x : (s4 J 4 4).Idx → R) (idx : IVec (s4 J 1 1) 32) (i : Fin 4096) (j : Fin J) (n k : Fin 4) (h : idx (ix4 i j 0 0) = Argmax.word n) :
    Host.gather (along wf) x idx (ix4 i j 0 k) = x (ix4 i j n k) := by
  unfold Host.gather
  congr 1
  funext a
  refine Fin.ext ?_
  show (along wf).start (ix4 i j 0 k) idx a + (along wf).batchCoord (ix4 i j 0 k) a + (along wf).offCoord (ix4 i j 0 k) a = _
  match a with
  | ⟨0, _⟩ =>
    rw [GatherDims.start_batching _ _ _ _ (by simp [along]),
      GatherDims.offCoord_eq_zero _ _ _ (fun h => ((GatherDims.mem_sKept _ _).mp h).2 (by simp [along]))]
    simp only [Nat.zero_add, Nat.add_zero]
    unfold GatherDims.batchCoord
    rw [dif_pos (by simp [along])]
    rfl
  | ⟨1, _⟩ =>
    rw [GatherDims.start_batching _ _ _ _ (by simp [along]),
      GatherDims.offCoord_eq_zero _ _ _ (fun h => ((GatherDims.mem_sKept _ _).mp h).2 (by simp [along]))]
    simp only [Nat.zero_add, Nat.add_zero]
    unfold GatherDims.batchCoord
    rw [dif_pos (by simp [along])]
    rfl
  | ⟨2, _⟩ =>
    rw [GatherDims.batchCoord_eq_zero _ _ _ (by simp [along]),
      GatherDims.offCoord_eq_zero _ _ _ (fun h => ((GatherDims.mem_sKept _ _).mp h).1 (by simp [along]))]
    simp only [Nat.add_zero]
    unfold GatherDims.start
    rw [dif_pos (by simp [along])]
    have hsi : ∀ q, (along wf).siIdx (ix4 i j 0 k) q = ix4 i j 0 0 := fun q => by
      funext b; refine Fin.ext ?_
      match b with
      | ⟨0, _⟩ => rfl
      | ⟨1, _⟩ => rfl
      | ⟨2, _⟩ => rfl
      | ⟨3, _⟩ => exact Nat.lt_one_iff.mp (((along wf).siIdx (ix4 i j 0 k) q) 3).isLt
    rw [hsi, h]
    exact word_clamp n
  | ⟨3, h3⟩ =>
    have hs : (along wf).start (ix4 i j 0 k) idx ⟨3, h3⟩ = 0 := by
      unfold GatherDims.start; rw [dif_neg (by simp [along])]
    rw [hs, GatherDims.batchCoord_eq_zero _ _ _ (by simp [along])]
    simp only [Nat.zero_add]
    unfold GatherDims.offCoord
    rw [dif_pos ((GatherDims.mem_sKept _ _).mpr ⟨by simp [along], by simp [along]⟩)]
    rfl

theorem along_val {H : AlongFacts J} {x : TRef sig ⟨s4 J 4 4, .f32⟩} {y : TRef sig ⟨s4 J 1 1, .i32⟩} {φ : AlongBufs sig J}
    (h : AllEqns W (alongLines H x y φ)) (i : Fin 4096) (j : Fin J) (n k : Fin 4) (hn : val W y (ix4 i j 0 0) = Argmax.word n) :
    val W φ.v15 (ix4 i j 0 k) = val W x (ix4 i j n k) := by
  simp only [AllEqns, alongLines, nullary_eqn, unary_eqn, binary_eqn, ternary_eqn] at h
  obtain ⟨c, e0, e1, c0, e2, e3, e4, c1, c2, e5, e6, e7, e8, e9, e10, c3, e11, e12, e13, cst, e14, e15, -⟩ := h
  have f4 : val W φ.v4 (ix4 i j 0 0) = Argmax.word n := by
    rw [e4, ValueIdx.select_apply, e1, cmpi_apply, hn, e0, bcast0, c]
    show Scalar.select (IntOp.cmpi .slt (Argmax.word n) 0#32) _ _ = _
    rw [word_nonneg]; rfl
  have f8 : val W φ.v8 (ix4 i j 0 0) = 3#32 := by rw [e8, e7, c1]; rfl
  have f5 : val W φ.v5 (ix4 i j 0 0) = 0#32 := by rw [e5, bcast0, c2]; rfl
  have f10 : val W φ.v10 (ix4 i j 0 0) = 1#1 := by
    rw [e10, andi_apply, e6, e9, cmpi_apply, cmpi_apply, f4, f8, f5]; exact word_inside n
  have f11 : val W φ.v11 (ix3 i j 0) = 1#1 := by
    rw [e11, c3]
    refine reduce_one _ _ _ _ fun q hq => ?_
    obtain ⟨l, rfl⟩ := (H.reducesTo_Jx1x1_Jx1_d3.fiber_r4_a3 (ix3 i j 0) q).mp hq
    obtain rfl : l = 0 := Subsingleton.elim _ _
    exact f10
  have f13 : val W φ.v13 (ix4 i j 0 k) = 1#1 := by
    rw [e13]
    exact (broadcastInDim_apply _ _ _ _ (ix3 i j 0) fun a => match a with
      | ⟨0, _⟩ => keep i
      | ⟨1, _⟩ => keep j
      | ⟨2, _⟩ => rfl).trans f11
  rw [e15, ValueIdx.select_apply, f13, e12, gather_val H.wf _ _ i j n k f4]
  rfl

/-- The gather at one row, of one joint. -/
theorem gather1_val (wf : GatherDims.WF (s4 1 4 4) (s3 1 1) (s4 1 1 4) [1, 3] [2] [0] [2] [0] 2 ![1, 1, 1, 4])
    (x : (s4 1 4 4).Idx → R) (idx : IVec (s3 1 1) 32) (i : Fin 4096) (j : Fin 1) (n k : Fin 4) (h : idx (ix3 i 0 0) = Argmax.word n) :
    Host.gather (along1 wf) x idx (ix4 i j 0 k) = x (ix4 i j n k) := by
  unfold Host.gather
  congr 1
  funext a
  refine Fin.ext ?_
  show (along1 wf).start (ix4 i j 0 k) idx a + (along1 wf).batchCoord (ix4 i j 0 k) a + (along1 wf).offCoord (ix4 i j 0 k) a = _
  match a with
  | ⟨0, _⟩ =>
    rw [GatherDims.start_batching _ _ _ _ (by simp [along1]),
      GatherDims.offCoord_eq_zero _ _ _ (fun h => ((GatherDims.mem_sKept _ _).mp h).2 (by simp [along1]))]
    simp only [Nat.zero_add, Nat.add_zero]
    unfold GatherDims.batchCoord
    rw [dif_pos (by simp [along1])]
    rfl
  | ⟨1, h1⟩ =>
    have hs : (along1 wf).start (ix4 i j 0 k) idx ⟨1, h1⟩ = 0 := by
      unfold GatherDims.start; rw [dif_neg (by simp [along1])]
    rw [hs, GatherDims.batchCoord_eq_zero _ _ _ (by simp [along1])]
    simp only [Nat.zero_add]
    unfold GatherDims.offCoord
    rw [dif_pos ((GatherDims.mem_sKept _ _).mpr ⟨by simp [along1], by simp [along1]⟩)]
    rfl
  | ⟨2, _⟩ =>
    rw [GatherDims.batchCoord_eq_zero _ _ _ (by simp [along1]),
      GatherDims.offCoord_eq_zero _ _ _ (fun h => ((GatherDims.mem_sKept _ _).mp h).1 (by simp [along1]))]
    simp only [Nat.add_zero]
    unfold GatherDims.start
    rw [dif_pos (by simp [along1])]
    have hsi : ∀ q, (along1 wf).siIdx (ix4 i j 0 k) q = ix3 i 0 0 := fun q => by
      funext b; refine Fin.ext ?_
      match b with
      | ⟨0, _⟩ => rfl
      | ⟨1, _⟩ => rfl
      | ⟨2, _⟩ => exact Nat.lt_one_iff.mp (((along1 wf).siIdx (ix4 i j 0 k) q) 2).isLt
    rw [hsi, h]
    exact word_clamp n
  | ⟨3, h3⟩ =>
    have hs : (along1 wf).start (ix4 i j 0 k) idx ⟨3, h3⟩ = 0 := by
      unfold GatherDims.start; rw [dif_neg (by simp [along1])]
    rw [hs, GatherDims.batchCoord_eq_zero _ _ _ (by simp [along1])]
    simp only [Nat.zero_add]
    unfold GatherDims.offCoord
    rw [dif_pos ((GatherDims.mem_sKept _ _).mpr ⟨by simp [along1], by simp [along1]⟩)]
    rfl

theorem along1_val {H : Along1Facts} {x : TRef sig ⟨s4 1 4 4, .f32⟩} {y : TRef sig ⟨s4 1 1 1, .i32⟩} {φ : Along1Bufs sig}
    (h : AllEqns W (along1Lines H x y φ)) (i : Fin 4096) (j : Fin 1) (n k : Fin 4) (hn : val W y (ix4 i j 0 0) = Argmax.word n) :
    val W φ.v16 (ix4 i j 0 k) = val W x (ix4 i j n k) := by
  obtain rfl : j = 0 := Subsingleton.elim _ _
  simp only [AllEqns, along1Lines, nullary_eqn, unary_eqn, binary_eqn, ternary_eqn, reshape_eqn] at h
  obtain ⟨c, e0, e1, c0, e2, e3, e4, e5, c1, c2, e6, e7, e8, e9, e10, e11, c3, e12, e13, e14, cst, e15, e16, -⟩ := h
  have f4 : val W φ.v4 (ix4 i 0 0 0) = Argmax.word n := by
    rw [e4, ValueIdx.select_apply, e1, cmpi_apply, hn, e0, bcast0, c]
    show Scalar.select (IntOp.cmpi .slt (Argmax.word n) 0#32) _ _ = _
    rw [word_nonneg]; rfl
  have f5 : val W φ.v5 (ix3 i 0 0) = Argmax.word n := by rw [e5, cast43r, f4]
  have f9 : val W φ.v9 (ix3 i 0 0) = 3#32 := by rw [e9, e8, c1]; rfl
  have f6 : val W φ.v6 (ix3 i 0 0) = 0#32 := by rw [e6, bcast0, c2]; rfl
  have f11 : val W φ.v11 (ix3 i 0 0) = 1#1 := by
    rw [e11, andi_apply, e7, e10, cmpi_apply, cmpi_apply, f5, f9, f6]; exact word_inside n
  have f12 : val W φ.v12 (ix2 i 0) = 1#1 := by
    rw [e12, c3]
    refine reduce_one _ _ _ _ fun q hq => ?_
    obtain ⟨l, rfl⟩ := (H.reducesTo_Jx1_J_d2.fiber_r3_a2 (ix2 i 0) q).mp hq
    obtain rfl : l = 0 := Subsingleton.elim _ _
    exact f11
  have f14 : val W φ.v14 (ix4 i 0 0 k) = 1#1 := by
    rw [e14]
    exact (broadcastInDim_apply _ _ _ _ (ix2 i 0) fun a => match a with
      | ⟨0, _⟩ => keep i
      | ⟨1, _⟩ => rfl).trans f12
  rw [e16, ValueIdx.select_apply, f14, e13, gather1_val H.wf _ _ i 0 n k f5]
  rfl

/-- The conversion up to the selection: every candidate, and an index of the best. -/
theorem pre_val {H : Facts J} {x : TRef sig ⟨s3 J 6, .f32⟩} {φ : Bufs sig J} (h : AllEqns W (preLines H x φ)) (i : Fin 4096) (j : Fin J) :
    ∃ m, m = matrix (lo (vec W x i j)) (hi (vec W x i j)) ∧ (∀ n k, val W φ.v140 (ix4 i j n k) = quats m (sizes m) n k) ∧
      ∃ n, Best (sizes m) n ∧ val W φ.v142 (ix4 i j 0 0) = Argmax.word n := by
  unfold preLines at h
  obtain ⟨h, hi⟩ := allEqns_append h
  obtain ⟨h, hq⟩ := allEqns_append h
  obtain ⟨h, h3⟩ := allEqns_append h
  obtain ⟨h, h2⟩ := allEqns_append h
  obtain ⟨h, h1⟩ := allEqns_append h
  obtain ⟨h, h0⟩ := allEqns_append h
  obtain ⟨h, hn⟩ := allEqns_append h
  obtain ⟨h, hm⟩ := allEqns_append h
  obtain ⟨h, ht⟩ := allEqns_append h
  obtain ⟨ha, hb⟩ := allEqns_append h
  have m := matrix_val hm i j
  obtain ⟨f1, f4⟩ := first_val ha i j
  have f13 := second_val hb i j
  have f38 := third_val ht i j
  rw [f38, f13, f1, f4] at m
  have s := norms_val hn i j m
  have q := quats_val hq i j (row0_val h0 i j m) (row1_val h1 i j m) (row2_val h2 i j m) (row3_val h3 i j m)
  obtain ⟨n, hb, hw⟩ := index_val hi i j
  rw [s] at hb
  refine ⟨_, rfl, fun n k => ?_, n, hb, hw⟩
  rw [q n k, s]; rfl

/-- The whole conversion, given what the selection does. -/
theorem conv_val {H : Facts J} {x : TRef sig ⟨s3 J 6, .f32⟩} {φ : Bufs sig J} (hp : AllEqns W (preLines H x φ)) (hl : AllEqns W (lastLines H φ))
    (i : Fin 4096) (j : Fin J)
    (hs : ∀ n k : Fin 4, val W φ.v142 (ix4 i j 0 0) = Argmax.word n → val W φ.sel (ix4 i j 0 k) = val W φ.v140 (ix4 i j n k)) (k : Fin 3) :
    val W φ.v166 (ix3 i j k) = row (lo (vec W x i j)) (hi (vec W x i j)) k := by
  obtain ⟨m, rfl, q, n, hb, hw⟩ := pre_val hp i j
  rw [last_val hl]
  refine congrArg (axis · k) (funext fun l => ?_)
  rw [hs n l hw, q]
  exact (pick_eq hb fun n => quats _ _ n l).symm

end Cert.Conv

end
-- ==== Proof.RefVal.lean ====
/- The reference's results, element by element. -/
module

public import proofs.«01_k».proof.Proof.RefEnd
public import proofs.«01_k».proof.Proof.Select

@[expose] public section

noncomputable section

namespace Cert.RefRun

open Idealize.ShloMosaic Idealize.ShloMosaic.StableHlo Cert.Lines Cert.ReferenceIdeal
open Cert.ReferenceIdeal.Gen (facts₀ facts)
open Cert.ReferenceIdeal.Facts₀
open Cert.Conv (s2 s3 lo hi vec)
open Cert.Row (R row)

/-- The rows of each table shape. -/
def rows6 (x : FVec Ideal S100000x6 .f32) (i : IVec S4096 32) : FVec Ideal S4096x6 .f32 :=
  Take.take gather_S100000x6_S4096x1_S4096x6_1_0_n_n_0_1_16 ![0] bcast_S4096_S4096x6_0 bcast_S_S4096x6 x i
def rows21 (x : FVec Ideal S100000x21x6 .f32) (i : IVec S4096 32) : FVec Ideal S4096x21x6 .f32 :=
  Take.take gather_S100000x21x6_S4096x1_S4096x21x6_12_0_n_n_0_1_1216 ![0] bcast_S4096_S4096x21x6_0 bcast_S_S4096x21x6 x i
def rows15 (x : FVec Ideal S100000x15x6 .f32) (i : IVec S4096 32) : FVec Ideal S4096x15x6 .f32 :=
  Take.take gather_S100000x15x6_S4096x1_S4096x15x6_12_0_n_n_0_1_1156 ![0] bcast_S4096_S4096x15x6_0 bcast_S_S4096x15x6 x i
def rows50 (x : FVec Ideal S100000x50 .f32) (i : IVec S4096 32) : FVec Ideal S4096x50 .f32 :=
  Take.take gather_S100000x50_S4096x1_S4096x50_1_0_n_n_0_1_150 ![0] bcast_S4096_S4096x50_0 bcast_S_S4096x50 x i
def rows3 (x : FVec Ideal S100000x3 .f32) (i : IVec S4096 32) : FVec Ideal S4096x3 .f32 :=
  Take.take gather_S100000x3_S4096x1_S4096x3_1_0_n_n_0_1_13 ![0] bcast_S4096_S4096x3_0 bcast_S_S4096x3 x i

/-- The conversion of six numbers. -/
def conv (x : Fin 6 → R) : Fin 3 → R := row (lo x) (hi x)

/-- The conversion of every row, without joints and with. -/
def flat (t : FVec Ideal S4096x6 .f32) : FVec Ideal S4096x3 .f32 := fun q => conv (fun l => t (ix2 (q 0) l)) (q 1)
def joints {J : Nat} (t : FVec Ideal (s3 J 6) .f32) : FVec Ideal (s3 J 3) .f32 := fun q => conv (fun l => t (ix3 (q 0) (q 1) l)) (q 2)

variable {W : Valuation τ sig (Elt Ideal)}

theorem conv1_val (x : TRef sig ⟨S4096x1x6, .f32⟩) (φ : fn_axis_angles.Bufs) (h : AllEqns W (conv1 x φ)) (i : Fin 4096) (j : Fin 1) (k : Fin 3) :
    val W φ.v166 (ix3 i j k) = conv (vec W x i j) k := by
  obtain ⟨hp, h⟩ := allEqns_append h
  obtain ⟨hs, hl⟩ := allEqns_append h
  exact Conv.conv_val hp hl i j (fun n l hn => Conv.along1_val hs i j n l hn) k

theorem conv21_val (x : TRef sig ⟨S4096x21x6, .f32⟩) (φ : fn_axis_angles_2.Bufs) (h : AllEqns W (conv21 x φ)) :
    val W φ.v166 = joints (val W x) := by
  obtain ⟨hp, h⟩ := allEqns_append h
  obtain ⟨hs, hl⟩ := allEqns_append h
  funext q
  rw [eq_ix3 q]
  exact Conv.conv_val hp hl _ _ (fun n l hn => Conv.along_val hs _ _ n l hn) _

theorem conv15_val (x : TRef sig ⟨S4096x15x6, .f32⟩) (φ : fn_axis_angles_8.Bufs) (h : AllEqns W (conv15 x φ)) :
    val W φ.v166 = joints (val W x) := by
  obtain ⟨hp, h⟩ := allEqns_append h
  obtain ⟨hs, hl⟩ := allEqns_append h
  funext q
  rw [eq_ix3 q]
  exact Conv.conv_val hp hl _ _ (fun n l hn => Conv.along_val hs _ _ n l hn) _

/-- A table without joints: the axis of one joint added before the conversion and removed after it. -/
theorem one_val {a : TRef sig ⟨S4096x6, .f32⟩} {b : TRef sig ⟨S4096x1x6, .f32⟩} {d : TRef sig ⟨S4096x3, .f32⟩} {φ : fn_axis_angles.Bufs}
    (hb : val W b = broadcastInDim S4096x1x6 ![0, 2] bcast_S4096x6_S4096x1x6_0_2 (val W a)) (h : AllEqns W (conv1 b φ))
    (hd : val W d = shapeCast S4096x3 (val W φ.v166) shapeCasts_S4096x1x3_S4096x3) : val W d = flat (val W a) := by
  funext q
  rw [eq_ix2 q, hd]
  refine (shapeCast_apply _ _ _ (ix3 (q 0) 0 (q 1)) ?_).trans ((conv1_val b φ h _ _ _).trans ?_)
  · rw [Shape.rowMajor_val_three, Shape.rowMajor_val_two]
    show ((q 0).val * 1 + 0) * 3 + (q 1).val = (q 0).val * 3 + (q 1).val
    omega
  · show conv _ _ = conv _ _
    refine congrArg (conv · _) (funext fun l => ?_)
    show val W b (ix3 (q 0) 0 l) = _
    rw [hb]
    exact broadcastInDim_apply _ _ _ _ (ix2 (q 0) l) fun a => match a with
      | ⟨0, _⟩ => rfl
      | ⟨1, _⟩ => rfl

/-- The nine results, over the arguments. -/
structure Results (W : Valuation τ sig (Elt Ideal)) : Prop where
  root : val W (.of main_v3 : TRef sig ⟨S4096x3, .f32⟩) = flat (rows6 (val W (.of main_arg0)) (val W (.of main_arg10)))
  body : val W (.of main_v5 : TRef sig ⟨S4096x21x3, .f32⟩) = joints (rows21 (val W (.of main_arg1)) (val W (.of main_arg10)))
  jaw : val W (.of main_v9 : TRef sig ⟨S4096x3, .f32⟩) = flat (rows6 (val W (.of main_arg2)) (val W (.of main_arg10)))
  leye : val W (.of main_v13 : TRef sig ⟨S4096x3, .f32⟩) = flat (rows6 (val W (.of main_arg3)) (val W (.of main_arg10)))
  reye : val W (.of main_v17 : TRef sig ⟨S4096x3, .f32⟩) = flat (rows6 (val W (.of main_arg4)) (val W (.of main_arg10)))
  lhand : val W (.of main_v19 : TRef sig ⟨S4096x15x3, .f32⟩) = joints (rows15 (val W (.of main_arg5)) (val W (.of main_arg10)))
  rhand : val W (.of main_v21 : TRef sig ⟨S4096x15x3, .f32⟩) = joints (rows15 (val W (.of main_arg6)) (val W (.of main_arg10)))
  expr : val W (.of main_v22 : TRef sig ⟨S4096x50, .f32⟩) = rows50 (val W (.of main_arg7)) (val W (.of main_arg10))
  trans : val W (.of main_v23 : TRef sig ⟨S4096x3, .f32⟩) = rows3 (val W (.of main_arg8)) (val W (.of main_arg10))

set_option maxRecDepth 65536 in
theorem results (h : AllEqns W mainLines) : Results W := by
  unfold mainLines at h
  obtain ⟨t0, h⟩ := allEqns_append h
  obtain ⟨⟨b0, -⟩, h⟩ := allEqns_append h
  obtain ⟨c0, h⟩ := allEqns_append h
  obtain ⟨⟨r0, -⟩, h⟩ := allEqns_append h
  obtain ⟨t1, h⟩ := allEqns_append h
  obtain ⟨c1, h⟩ := allEqns_append h
  obtain ⟨t2, h⟩ := allEqns_append h
  obtain ⟨⟨b2, -⟩, h⟩ := allEqns_append h
  obtain ⟨c2, h⟩ := allEqns_append h
  obtain ⟨⟨r2, -⟩, h⟩ := allEqns_append h
  obtain ⟨t3, h⟩ := allEqns_append h
  obtain ⟨⟨b3, -⟩, h⟩ := allEqns_append h
  obtain ⟨c3, h⟩ := allEqns_append h
  obtain ⟨⟨r3, -⟩, h⟩ := allEqns_append h
  obtain ⟨t4, h⟩ := allEqns_append h
  obtain ⟨⟨b4, -⟩, h⟩ := allEqns_append h
  obtain ⟨c4, h⟩ := allEqns_append h
  obtain ⟨⟨r4, -⟩, h⟩ := allEqns_append h
  obtain ⟨t5, h⟩ := allEqns_append h
  obtain ⟨c5, h⟩ := allEqns_append h
  obtain ⟨t6, h⟩ := allEqns_append h
  obtain ⟨c6, h⟩ := allEqns_append h
  obtain ⟨t7, t8⟩ := allEqns_append h
  exact {
    root := (one_val b0 c0 r0).trans (congrArg flat (Take.spec _ _ _ _ _ _ _ W t0))
    body := (conv21_val _ _ c1).trans (congrArg joints (Take.spec _ _ _ _ _ _ _ W t1))
    jaw := (one_val b2 c2 r2).trans (congrArg flat (Take.spec _ _ _ _ _ _ _ W t2))
    leye := (one_val b3 c3 r3).trans (congrArg flat (Take.spec _ _ _ _ _ _ _ W t3))
    reye := (one_val b4 c4 r4).trans (congrArg flat (Take.spec _ _ _ _ _ _ _ W t4))
    lhand := (conv15_val _ _ c5).trans (congrArg joints (Take.spec _ _ _ _ _ _ _ W t5))
    rhand := (conv15_val _ _ c6).trans (congrArg joints (Take.spec _ _ _ _ _ _ _ W t6))
    expr := Take.spec _ _ _ _ _ _ _ W t7
    trans := Take.spec _ _ _ _ _ _ _ W t8 }

end Cert.RefRun

end
-- ==== Proof.Unpack.lean ====
/- Rows stacked, cut in rows of 512, converted column by column and unstacked: every piece of the result is the conversion
   of the rows of the table it came from. -/
module

public import proofs.«01_k».proof.Proof.Arr
public import proofs.«01_k».proof.Proof.RefVal

@[expose] public section

noncomputable section

namespace Cert.KernRun

open Idealize.ShloMosaic Cert.KernelIdeal Cert.KernelIdeal.Gen
open Cert.Conv (s3)
open Cert.Row (R)
open Cert.RefRun (conv flat joints)

/-- The stacked rows as the launch reads them. -/
def packed (S : FVec Ideal S225280x6 .f32) : FVec Ideal S6x440x512 .f32 :=
  shapeCast S6x440x512 (transpose S6x225280 [1, 0] S transposes_S225280x6_S6x225280_1_0) shapeCasts_S6x225280_S6x440x512

/-- The launch's result as the host unstacks it. -/
def unpacked (a : FVec Ideal S3x440x512 .f32) : FVec Ideal S225280x3 .f32 :=
  transpose S225280x3 [1, 0] (shapeCast S3x225280 a shapeCasts_S3x440x512_S3x225280) transposes_S3x225280_S225280x3_1_0

theorem packed_at (S : FVec Ideal S225280x6 .f32) (l : Fin 6) (r : Fin 440) (s : Fin 512) (n : Fin 225280) (hn : n.val = r.val * 512 + s.val) :
    packed S (ix3 l r s) = S (ix2 n l) := by
  refine (shapeCast_apply _ _ _ (ix2 l n) ?_).trans (transpose_apply _ _ _ _ (ix2 n l) fun a => match a with
    | ⟨0, _⟩ => rfl
    | ⟨1, _⟩ => rfl)
  rw [Shape.rowMajor_val_three, Shape.rowMajor_val_two]
  show l.val * 225280 + n.val = (l.val * 440 + r.val) * 512 + s.val
  omega

theorem unpacked_at (a : FVec Ideal S3x440x512 .f32) (n : Fin 225280) (k : Fin 3) (r : Fin 440) (s : Fin 512) (hn : n.val = r.val * 512 + s.val) :
    unpacked a (ix2 n k) = a (ix3 k r s) := by
  refine (transpose_apply _ _ _ _ (ix2 k n) fun a => match a with
    | ⟨0, _⟩ => rfl
    | ⟨1, _⟩ => rfl).trans (shapeCast_apply _ _ _ (ix3 k r s) ?_)
  rw [Shape.rowMajor_val_three, Shape.rowMajor_val_two]
  show (k.val * 440 + r.val) * 512 + s.val = k.val * 225280 + n.val
  omega

/-- Every row of the unstacked result is the conversion of the stacked row. -/
theorem rows_conv (S : FVec Ideal S225280x6 .f32) (n : Fin 225280) (k : Fin 3) :
    unpacked (columns (packed S)) (ix2 n k) = conv (fun l => S (ix2 n l)) k := by
  have hr : n.val / 512 < 440 := by omega
  have hs : n.val % 512 < 512 := Nat.mod_lt _ (by decide)
  have hn : n.val = n.val / 512 * 512 + n.val % 512 := by omega
  refine (unpacked_at _ n k ⟨n.val / 512, hr⟩ ⟨n.val % 512, hs⟩ hn).trans ?_
  show conv (fun l => packed S (ix3 l ⟨n.val / 512, hr⟩ ⟨n.val % 512, hs⟩)) k = _
  exact congrArg (conv · k) (funext fun l => packed_at S l _ _ n hn)

variable {S : FVec Ideal S225280x6 .f32} {A : FVec Ideal S225280x3 .f32}

/-- `S` holds the rows of `t` from row `o` on. -/
def Holds {N : Nat} (S : FVec Ideal S225280x6 .f32) (o : Nat) (t : FVec Ideal ⟨2, ![N, 6]⟩ .f32) : Prop :=
  ∀ (i : Fin N) (l : Fin 6) (h : o + i.val < 225280), S (ix2 ⟨o + i.val, h⟩ l) = t (ix2 i l)

/-- One piece of converted rows. -/
theorem piece_at {N : Nat} (hA : ∀ n k, A (ix2 n k) = conv (fun l => S (ix2 n l)) k) {o : Nat} {t : FVec Ideal ⟨2, ![N, 6]⟩ .f32}
    (ht : Holds S o t) (hb : o + N ≤ 225280) (hs : S225280x3.Slices ![o, 0] (⟨2, ![N, 3]⟩ : Shape)) (i : Fin N) (k : Fin 3) :
    extractStridedSlice ⟨2, ![N, 3]⟩ ![o, 0] A hs (ix2 i k) = conv (fun l => t (ix2 i l)) k := by
  have h : o + i.val < 225280 := by omega
  refine (extractStridedSlice_apply _ A hs _ (ix2 ⟨o + i.val, h⟩ k) fun a => match a with
    | ⟨0, _⟩ => rfl
    | ⟨1, _⟩ => (Nat.zero_add _).symm).trans ((hA _ k).trans ?_)
  exact congrArg (conv · k) (funext fun l => ht i l h)

/-- The piece of a table without joints. -/
theorem flat_piece (hA : ∀ n k, A (ix2 n k) = conv (fun l => S (ix2 n l)) k) {o : Nat} {t : FVec Ideal S4096x6 .f32}
    (ht : Holds (N := 4096) S o t) (hb : o + 4096 ≤ 225280) (hs : S225280x3.Slices ![o, 0] S4096x3) :
    extractStridedSlice S4096x3 ![o, 0] A hs = flat t := by
  funext q
  rw [eq_ix2 q]
  exact piece_at hA ht hb hs _ _

/-- The piece of a table of `J` joints. -/
theorem joints_piece {J N : Nat} (hN : N = 4096 * J) (hA : ∀ n k, A (ix2 n k) = conv (fun l => S (ix2 n l)) k) {o : Nat}
    {t : FVec Ideal (s3 J 6) .f32} {hc : (s3 J 6).ShapeCasts (⟨2, ![N, 6]⟩ : Shape)} (ht : Holds S o (shapeCast ⟨2, ![N, 6]⟩ t hc))
    (hb : o + N ≤ 225280) (hs : S225280x3.Slices ![o, 0] (⟨2, ![N, 3]⟩ : Shape)) (hd : (⟨2, ![N, 3]⟩ : Shape).ShapeCasts (s3 J 3)) :
    shapeCast (s3 J 3) (extractStridedSlice ⟨2, ![N, 3]⟩ ![o, 0] A hs) hd = joints t := by
  funext q
  obtain ⟨i, j, k, rfl⟩ : ∃ i j k, q = ix3 i j k := ⟨q 0, q 1, q 2, eq_ix3 q⟩
  have hn : i.val * J + j.val < N := by
    have h1 : i.val * J + j.val < (i.val + 1) * J := by rw [Nat.succ_mul]; exact Nat.add_lt_add_left j.isLt _
    exact hN ▸ lt_of_lt_of_le h1 (Nat.mul_le_mul_right J i.isLt)
  refine (shapeCast_apply _ hd _ (ix2 ⟨i.val * J + j.val, hn⟩ k) ?_).trans ((piece_at hA ht hb hs _ k).trans ?_)
  · rw [Shape.rowMajor_val_three, Shape.rowMajor_val_two]; rfl
  · refine congrArg (conv · k) (funext fun l => shapeCast_apply _ hc _ (ix3 i j l) ?_)
    rw [Shape.rowMajor_val_three, Shape.rowMajor_val_two]; rfl

/-- One table of a row of tables stacked, `ss` their shapes. -/
theorem holds_of (xs : List ((s : Shape) × (s.Idx → R))) (h : Shape.Concatenates (xs.map (·.1)) S225280x6 0) (ss : List Shape)
    (hss : xs.map (·.1) = ss) (n : Nat) (hn : n < xs.length) {N : Nat} (t : FVec Ideal ⟨2, ![N, 6]⟩ .f32) (ht : xs[n] = ⟨⟨2, ![N, 6]⟩, t⟩) (o : Nat)
    (ho : ((ss.take n).map fun s => if h : s.rank = S225280x6.rank then s.size ((0 : Fin S225280x6.rank).cast h.symm) else 0).sum = o) :
    Holds (concatenate S225280x6 0 xs h) o t := fun i l hi =>
  concatenate_apply_piece (0 : Fin S225280x6.rank) xs h (ix2 ⟨o + i.val, hi⟩ l) n hn ⟨2, ![N, 6]⟩ t ht rfl o
    (by subst hss; rw [List.map_take]; exact ho) (ix2 i l)
    (fun c hc => match c, hc with
      | ⟨0, _⟩, hc => (hc rfl).elim
      | ⟨1, _⟩, _ => rfl) rfl

end Cert.KernRun

end
-- ==== Proof.KernLines.lean ====
/- The kernel program's host operations as lines: the nine takes and the layout before the launch, and the layout
   after it. -/
module

public import proofs.«01_k».proof.Proof.Gen.KernelIdeal.Frame
public import proofs.«01_k».proof.Proof.Take

@[expose] public section

noncomputable section

namespace Cert.KernRun

open Idealize.ShloMosaic Idealize.ShloMosaic.StableHlo Idealize.SL.Sem Cert.Lines Cert.KernelIdeal
open Cert.KernelIdeal.Gen (facts₀ facts)
open Cert.KernelIdeal.Facts₀
open TcCoe

variable {F : FTy → Type} [FloatOps F]

/-! One take of each table shape. -/

def take6 (x : TRef sig ⟨S100000x6, .f32⟩) (φ : fn_take.Bufs) : List (Line τ sig (Elt F)) :=
  Take.lines gather_S100000x6_S4096x1_S4096x6_1_0_n_n_0_1_16 ![0] bcast_S4096_S4096x6_0 bcast_S_S4096x6 x (.of main_arg10)
    ⟨φ.c, φ.v0, φ.v1, φ.c_0, φ.v2, φ.v3, φ.call0.v0, φ.v5, φ.c_1, φ.c_2, φ.v6, φ.v7, φ.v8, φ.v9, φ.v10, φ.v11, φ.c_3,
      φ.v12, φ.v13, φ.v14, φ.cst, φ.v15, φ.v16⟩

def take21x6 (x : TRef sig ⟨S100000x21x6, .f32⟩) (φ : fn_take_0.Bufs) : List (Line τ sig (Elt F)) :=
  Take.lines gather_S100000x21x6_S4096x1_S4096x21x6_12_0_n_n_0_1_1216 ![0] bcast_S4096_S4096x21x6_0 bcast_S_S4096x21x6 x (.of main_arg10)
    ⟨φ.c, φ.v0, φ.v1, φ.c_0, φ.v2, φ.v3, φ.call0.v0, φ.v5, φ.c_1, φ.c_2, φ.v6, φ.v7, φ.v8, φ.v9, φ.v10, φ.v11, φ.c_3,
      φ.v12, φ.v13, φ.v14, φ.cst, φ.v15, φ.v16⟩

def take15x6 (x : TRef sig ⟨S100000x15x6, .f32⟩) (φ : fn_take_1.Bufs) : List (Line τ sig (Elt F)) :=
  Take.lines gather_S100000x15x6_S4096x1_S4096x15x6_12_0_n_n_0_1_1156 ![0] bcast_S4096_S4096x15x6_0 bcast_S_S4096x15x6 x (.of main_arg10)
    ⟨φ.c, φ.v0, φ.v1, φ.c_0, φ.v2, φ.v3, φ.call0.v0, φ.v5, φ.c_1, φ.c_2, φ.v6, φ.v7, φ.v8, φ.v9, φ.v10, φ.v11, φ.c_3,
      φ.v12, φ.v13, φ.v14, φ.cst, φ.v15, φ.v16⟩

def take50 (x : TRef sig ⟨S100000x50, .f32⟩) (φ : fn_take_2.Bufs) : List (Line τ sig (Elt F)) :=
  Take.lines gather_S100000x50_S4096x1_S4096x50_1_0_n_n_0_1_150 ![0] bcast_S4096_S4096x50_0 bcast_S_S4096x50 x (.of main_arg10)
    ⟨φ.c, φ.v0, φ.v1, φ.c_0, φ.v2, φ.v3, φ.call0.v0, φ.v5, φ.c_1, φ.c_2, φ.v6, φ.v7, φ.v8, φ.v9, φ.v10, φ.v11, φ.c_3,
      φ.v12, φ.v13, φ.v14, φ.cst, φ.v15, φ.v16⟩

def take3 (x : TRef sig ⟨S100000x3, .f32⟩) (φ : fn_take_3.Bufs) : List (Line τ sig (Elt F)) :=
  Take.lines gather_S100000x3_S4096x1_S4096x3_1_0_n_n_0_1_13 ![0] bcast_S4096_S4096x3_0 bcast_S_S4096x3 x (.of main_arg10)
    ⟨φ.c, φ.v0, φ.v1, φ.c_0, φ.v2, φ.v3, φ.call0.v0, φ.v5, φ.c_1, φ.c_2, φ.v6, φ.v7, φ.v8, φ.v9, φ.v10, φ.v11, φ.c_3,
      φ.v12, φ.v13, φ.v14, φ.cst, φ.v15, φ.v16⟩

/-- The seven gathered tables one under another. -/
def stack (x0 : FVec F S4096x6 .f32) (x1 : FVec F S86016x6 .f32) (x2 x3 x4 : FVec F S4096x6 .f32) (x5 x6 : FVec F S61440x6 .f32) :
    FVec F S225280x6 .f32 :=
  concatenate S225280x6 0 [⟨S4096x6, x0⟩, ⟨S86016x6, x1⟩, ⟨S4096x6, x2⟩, ⟨S4096x6, x3⟩, ⟨S4096x6, x4⟩, ⟨S61440x6, x5⟩, ⟨S61440x6, x6⟩]
    concatenates_S4096x6_S86016x6_S4096x6_S4096x6_S4096x6_S61440x6_S61440x6_S225280x6_d0

/-- The stacked tables' buffers. -/
abbrev parts : Fin 7 → Ref sig .tc := ![main_v0, main_v9, main_v2, main_v3, main_v4, main_v10, main_v11]

theorem parts_on : ∀ k, (parts k).space ≠ .host := by decide
theorem parts_un : ∀ k, (parts k).isScoped = false := by decide

/-- The layout before the launch: the tables stacked, six rows of numbers, cut in rows of 512. -/
def packLines : List (Line τ sig (Elt F)) :=
  [.reshape (.of main_v1 : TRef sig ⟨S4096x21x6, .f32⟩) (.of main_v9 : TRef sig ⟨S86016x6, .f32⟩) shapeCasts_S4096x21x6_S86016x6,
   .reshape (.of main_v5 : TRef sig ⟨S4096x15x6, .f32⟩) (.of main_v10 : TRef sig ⟨S61440x6, .f32⟩) shapeCasts_S4096x15x6_S61440x6,
   .reshape (.of main_v6 : TRef sig ⟨S4096x15x6, .f32⟩) (.of main_v11 : TRef sig ⟨S61440x6, .f32⟩) shapeCasts_S4096x15x6_S61440x6,
   .nary (Ts := fun k => (parts k).ty) (fun k => ⟨parts k, rfl, parts_on k, parts_un k⟩) (.of main_v12 : TRef sig ⟨S225280x6, .f32⟩)
     (fun u => stack (u 0) (u 1) (u 2) (u 3) (u 4) (u 5) (u 6)),
   .unary (.of main_v12 : TRef sig ⟨S225280x6, .f32⟩) (.of main_v13 : TRef sig ⟨S6x225280, .f32⟩)
     (transpose S6x225280 [1, 0] · transposes_S225280x6_S6x225280_1_0),
   .reshape (.of main_v13 : TRef sig ⟨S6x225280, .f32⟩) (.of main_v14 : TRef sig ⟨S6x440x512, .f32⟩) shapeCasts_S6x225280_S6x440x512]

/-- The operations before the launch. -/
def beforeLines : List (Line τ sig (Elt F)) :=
  take6 (.of main_arg0) main_call0 ++ (take21x6 (.of main_arg1) main_call1 ++ (take6 (.of main_arg2) main_call2 ++ (
    take6 (.of main_arg3) main_call3 ++ (take6 (.of main_arg4) main_call4 ++ (take15x6 (.of main_arg5) main_call5 ++ (
      take15x6 (.of main_arg6) main_call6 ++ (take50 (.of main_arg7) main_call7 ++ (take3 (.of main_arg8) main_call8 ++ packLines))))))))

/-- One piece of the unstacked rows, `o` rows down. -/
def piece {n : Nat} (y : TRef sig ⟨⟨2, ![n, 3]⟩, .f32⟩) (o : Nat)
    (h : S225280x3.Slices ![o, 0] (⟨2, ![n, 3]⟩ : Shape)) : Line τ sig (Elt F) :=
  .unary (.of main_v17 : TRef sig ⟨S225280x3, .f32⟩) y (extractStridedSlice ⟨2, ![n, 3]⟩ ![o, 0] · h)

/-- The layout after the launch. -/
def afterLines : List (Line τ sig (Elt F)) :=
  [.reshape (.of main_v15 : TRef sig ⟨S3x440x512, .f32⟩) (.of main_v16 : TRef sig ⟨S3x225280, .f32⟩) shapeCasts_S3x440x512_S3x225280,
   .unary (.of main_v16 : TRef sig ⟨S3x225280, .f32⟩) (.of main_v17 : TRef sig ⟨S225280x3, .f32⟩)
     (transpose S225280x3 [1, 0] · transposes_S3x225280_S225280x3_1_0),
   piece (.of main_v18) 0 slices_S225280x3_S4096x3_0_0,
   piece (.of main_v19) 4096 slices_S225280x3_S86016x3_4096_0,
   .reshape (.of main_v19 : TRef sig ⟨S86016x3, .f32⟩) (.of main_v20 : TRef sig ⟨S4096x21x3, .f32⟩) shapeCasts_S86016x3_S4096x21x3,
   piece (.of main_v21) 90112 slices_S225280x3_S4096x3_90112_0,
   piece (.of main_v22) 94208 slices_S225280x3_S4096x3_94208_0,
   piece (.of main_v23) 98304 slices_S225280x3_S4096x3_98304_0,
   piece (.of main_v24) 102400 slices_S225280x3_S61440x3_102400_0,
   .reshape (.of main_v24 : TRef sig ⟨S61440x3, .f32⟩) (.of main_v25 : TRef sig ⟨S4096x15x3, .f32⟩) shapeCasts_S61440x3_S4096x15x3,
   piece (.of main_v26) 163840 slices_S225280x3_S61440x3_163840_0,
   .reshape (.of main_v26 : TRef sig ⟨S61440x3, .f32⟩) (.of main_v27 : TRef sig ⟨S4096x15x3, .f32⟩) shapeCasts_S61440x3_S4096x15x3]

open Cert.KernelIdeal.Gen

set_option maxRecDepth 65536 in
set_option maxHeartbeats 4000000 in
theorem before_eq : List.flatten [hostOps0 (F := F), hostOps0_1, hostOps0_2, hostOps0_3, hostOps0_4, hostOps0_5, hostOps0_6, hostOps0_7,
    hostOps0_8, hostOps0_9] = ops beforeLines := rfl

set_option maxRecDepth 65536 in
set_option maxHeartbeats 4000000 in
theorem ok_before : ok 11 (beforeLines (F := F)) = true := rfl

set_option maxRecDepth 65536 in
theorem after_eq : List.flatten [hostOps1 (F := F)] = ops afterLines := rfl

theorem ok_after : ok 225 (afterLines (F := F)) = true := rfl

variable (m : (ℓ : Loc nD τ sig) → Buf (Elt F) ℓ)

theorem V0_eqns (c : Dev nD) : AllEqns (V0 m c) beforeLines := by
  unfold V0
  rw [before_eq]
  exact allEqns_of (holds _ 11 _ ok_before)

theorem V0_arg (c : Dev nD) (r : Ref sig .tc) (h : pos r < 11) : V0 m c (Proc.devRef .tc r) = m ((c : Thread nD τ).loc r) := by
  unfold V0
  rw [before_eq]
  exact keeps _ 11 _ ok_before r h

/-- The contents when the program ends. -/
def last (c : Dev nD) : Valuation τ sig (Elt F) :=
  after (ops afterLines) (Pipeline.withArrays spec0 c (V0 m c) fun w => (dats m 0 c).arrAt w cfg0.N)

theorem last_eq (c : Dev nD) (b : Ref sig .tc) :
    Pipeline.afterTail₀ cfgs (dats m) 0 (V0 m) [hostOps1] c b = last m c (Proc.devRef .tc b) := by
  unfold Pipeline.afterTail₀ last
  rw [after_eq]

theorem last_eqns (c : Dev nD) : AllEqns (last m c) afterLines := allEqns_of (holds _ 225 _ ok_after)

/-- A buffer before the launch's result ends as the launch found it. -/
theorem last_early (c : Dev nD) (r : Ref sig .tc) (h : pos r < 223) : last m c (Proc.devRef .tc r) = V0 m c (Proc.devRef .tc r) := by
  refine (keeps _ 225 _ ok_after r (by omega)).trans (Pipeline.withArrays_of_ne _ c (V0 m c) _ r fun w e => ?_)
  have : ∀ w, 223 ≤ pos (Pipeline.arrRef spec0 w) := by decide
  exact absurd (e ▸ this w) (by omega)

theorem last_out (c : Dev nD) : last m c (Proc.devRef .tc main_v15) = (dats m 0 c).arrAt 1 cfg0.N :=
  (keeps _ 225 _ ok_after main_v15 (by decide)).trans (Pipeline.withArrays_arr spec0 (by decide) c (V0 m c) _ 1)

end Cert.KernRun

end
-- ==== Proof.KernVal.lean ====
/- The kernel program's nine results over its arguments. -/
module

public import proofs.«01_k».proof.Proof.Unpack
public import proofs.«01_k».proof.Proof.KernLines

@[expose] public section

noncomputable section

namespace Cert.KernRun

open Idealize.ShloMosaic Idealize.ShloMosaic.StableHlo Cert.Lines Cert.KernelIdeal Cert.KernelIdeal.Gen
open Cert.Conv (s3)
open Cert.RefRun (flat joints rows6 rows21 rows15 rows50 rows3)
open TcCoe

/-- What the host's operations before the launch make true: the nine takes, and the launch's operand. -/
structure Before (W : Valuation τ sig (Elt Ideal)) : Prop where
  root : val W (.of main_v0 : TRef sig ⟨S4096x6, .f32⟩) = rows6 (val W (.of main_arg0)) (val W (.of main_arg10))
  body : val W (.of main_v1 : TRef sig ⟨S4096x21x6, .f32⟩) = rows21 (val W (.of main_arg1)) (val W (.of main_arg10))
  jaw : val W (.of main_v2 : TRef sig ⟨S4096x6, .f32⟩) = rows6 (val W (.of main_arg2)) (val W (.of main_arg10))
  leye : val W (.of main_v3 : TRef sig ⟨S4096x6, .f32⟩) = rows6 (val W (.of main_arg3)) (val W (.of main_arg10))
  reye : val W (.of main_v4 : TRef sig ⟨S4096x6, .f32⟩) = rows6 (val W (.of main_arg4)) (val W (.of main_arg10))
  lhand : val W (.of main_v5 : TRef sig ⟨S4096x15x6, .f32⟩) = rows15 (val W (.of main_arg5)) (val W (.of main_arg10))
  rhand : val W (.of main_v6 : TRef sig ⟨S4096x15x6, .f32⟩) = rows15 (val W (.of main_arg6)) (val W (.of main_arg10))
  expr : val W (.of main_v7 : TRef sig ⟨S4096x50, .f32⟩) = rows50 (val W (.of main_arg7)) (val W (.of main_arg10))
  trans : val W (.of main_v8 : TRef sig ⟨S4096x3, .f32⟩) = rows3 (val W (.of main_arg8)) (val W (.of main_arg10))
  operand : val W (.of main_v14 : TRef sig ⟨S6x440x512, .f32⟩) = packed (stack (val W (.of main_v0))
    (shapeCast S86016x6 (val W (.of main_v1 : TRef sig ⟨S4096x21x6, .f32⟩)) shapeCasts_S4096x21x6_S86016x6)
    (val W (.of main_v2)) (val W (.of main_v3)) (val W (.of main_v4))
    (shapeCast S61440x6 (val W (.of main_v5 : TRef sig ⟨S4096x15x6, .f32⟩)) shapeCasts_S4096x15x6_S61440x6)
    (shapeCast S61440x6 (val W (.of main_v6 : TRef sig ⟨S4096x15x6, .f32⟩)) shapeCasts_S4096x15x6_S61440x6))

set_option maxRecDepth 65536 in
theorem before {W : Valuation τ sig (Elt Ideal)} (h : AllEqns W beforeLines) : Before W := by
  unfold beforeLines at h
  obtain ⟨t0, h⟩ := allEqns_append h
  obtain ⟨t1, h⟩ := allEqns_append h
  obtain ⟨t2, h⟩ := allEqns_append h
  obtain ⟨t3, h⟩ := allEqns_append h
  obtain ⟨t4, h⟩ := allEqns_append h
  obtain ⟨t5, h⟩ := allEqns_append h
  obtain ⟨t6, h⟩ := allEqns_append h
  obtain ⟨t7, h⟩ := allEqns_append h
  obtain ⟨t8, h⟩ := allEqns_append h
  obtain ⟨p9, p10, p11, p12, p13, p14, -⟩ := h
  have q12 : val W (.of main_v12 : TRef sig ⟨S225280x6, .f32⟩) = stack (F := Ideal) (val W (.of main_v0)) (val W (.of main_v9)) (val W (.of main_v2))
    (val W (.of main_v3)) (val W (.of main_v4)) (val W (.of main_v10)) (val W (.of main_v11)) := p12
  exact {
    root := Take.spec _ _ _ _ _ _ _ W t0
    body := Take.spec _ _ _ _ _ _ _ W t1
    jaw := Take.spec _ _ _ _ _ _ _ W t2
    leye := Take.spec _ _ _ _ _ _ _ W t3
    reye := Take.spec _ _ _ _ _ _ _ W t4
    lhand := Take.spec _ _ _ _ _ _ _ W t5
    rhand := Take.spec _ _ _ _ _ _ _ W t6
    expr := Take.spec _ _ _ _ _ _ _ W t7
    trans := Take.spec _ _ _ _ _ _ _ W t8
    operand := by
      refine p14.trans ?_
      rw [p13, q12, p9, p10, p11]
      rfl }

section
variable (x0 : FVec Ideal S4096x6 .f32) (x1 : FVec Ideal S86016x6 .f32) (x2 x3 x4 : FVec Ideal S4096x6 .f32) (x5 x6 : FVec Ideal S61440x6 .f32)

/-- Where the stacked tables lie. -/
structure Stacked (S : FVec Ideal S225280x6 .f32) : Prop where
  p0 : Holds (N := 4096) S 0 x0
  p1 : Holds (N := 86016) S 4096 x1
  p2 : Holds (N := 4096) S 90112 x2
  p3 : Holds (N := 4096) S 94208 x3
  p4 : Holds (N := 4096) S 98304 x4
  p5 : Holds (N := 61440) S 102400 x5
  p6 : Holds (N := 61440) S 163840 x6

/-- Their shapes, in order. -/
abbrev shapes : List Shape := [S4096x6, S86016x6, S4096x6, S4096x6, S4096x6, S61440x6, S61440x6]

theorem stacked : Stacked x0 x1 x2 x3 x4 x5 x6 (stack x0 x1 x2 x3 x4 x5 x6) where
  p0 := holds_of _ _ shapes rfl 0 (by exact (show 0 < shapes.length by decide)) x0 rfl _ (by decide +kernel)
  p1 := holds_of _ _ shapes rfl 1 (by exact (show 1 < shapes.length by decide)) x1 rfl _ (by decide +kernel)
  p2 := holds_of _ _ shapes rfl 2 (by exact (show 2 < shapes.length by decide)) x2 rfl _ (by decide +kernel)
  p3 := holds_of _ _ shapes rfl 3 (by exact (show 3 < shapes.length by decide)) x3 rfl _ (by decide +kernel)
  p4 := holds_of _ _ shapes rfl 4 (by exact (show 4 < shapes.length by decide)) x4 rfl _ (by decide +kernel)
  p5 := holds_of _ _ shapes rfl 5 (by exact (show 5 < shapes.length by decide)) x5 rfl _ (by decide +kernel)
  p6 := holds_of _ _ shapes rfl 6 (by exact (show 6 < shapes.length by decide)) x6 rfl _ (by decide +kernel)

end

/-- The results that come out of the launch, over the seven tables that go in. -/
structure Unstacked (W : Valuation τ sig (Elt Ideal)) (x0 : FVec Ideal S4096x6 .f32) (x1 : FVec Ideal S4096x21x6 .f32)
    (x2 x3 x4 : FVec Ideal S4096x6 .f32) (x5 x6 : FVec Ideal S4096x15x6 .f32) : Prop where
  root : val W (.of main_v18 : TRef sig ⟨S4096x3, .f32⟩) = flat x0
  body : val W (.of main_v20 : TRef sig ⟨S4096x21x3, .f32⟩) = joints x1
  jaw : val W (.of main_v21 : TRef sig ⟨S4096x3, .f32⟩) = flat x2
  leye : val W (.of main_v22 : TRef sig ⟨S4096x3, .f32⟩) = flat x3
  reye : val W (.of main_v23 : TRef sig ⟨S4096x3, .f32⟩) = flat x4
  lhand : val W (.of main_v25 : TRef sig ⟨S4096x15x3, .f32⟩) = joints x5
  rhand : val W (.of main_v27 : TRef sig ⟨S4096x15x3, .f32⟩) = joints x6

theorem unstacked {W : Valuation τ sig (Elt Ideal)} (h : AllEqns W afterLines) {x0 : FVec Ideal S4096x6 .f32} {x1 : FVec Ideal S4096x21x6 .f32}
    {x2 x3 x4 : FVec Ideal S4096x6 .f32} {x5 x6 : FVec Ideal S4096x15x6 .f32}
    (ho : val W (.of main_v15 : TRef sig ⟨S3x440x512, .f32⟩) = columns (packed (stack x0 (shapeCast S86016x6 x1 shapeCasts_S4096x21x6_S86016x6)
      x2 x3 x4 (shapeCast S61440x6 x5 shapeCasts_S4096x15x6_S61440x6) (shapeCast S61440x6 x6 shapeCasts_S4096x15x6_S61440x6)))) :
    Unstacked W x0 x1 x2 x3 x4 x5 x6 := by
  obtain ⟨a16, a17, a18, a19, a20, a21, a22, a23, a24, a25, a26, a27, -⟩ := h
  have s := stacked x0 (shapeCast S86016x6 x1 shapeCasts_S4096x21x6_S86016x6)
      x2 x3 x4 (shapeCast S61440x6 x5 shapeCasts_S4096x15x6_S61440x6) (shapeCast S61440x6 x6 shapeCasts_S4096x15x6_S61440x6)
  generalize stack x0 (shapeCast S86016x6 x1 shapeCasts_S4096x21x6_S86016x6)
      x2 x3 x4 (shapeCast S61440x6 x5 shapeCasts_S4096x15x6_S61440x6) (shapeCast S61440x6 x6 shapeCasts_S4096x15x6_S61440x6) = S at s ho
  have e17 : val W (.of main_v17 : TRef sig ⟨S225280x3, .f32⟩) = unpacked (columns (packed S)) := by
    refine a17.trans ?_
    rw [a16, ho]
    rfl
  have hA : ∀ n k, val W (.of main_v17 : TRef sig ⟨S225280x3, .f32⟩) (ix2 n k) = Cert.RefRun.conv (fun l => S (ix2 n l)) k := by
    rw [e17]
    exact rows_conv S
  exact {
    root := a18.trans (flat_piece hA s.p0 (by decide) _)
    body := a20.trans ((congrArg (fun v => shapeCast S4096x21x3 v shapeCasts_S86016x3_S4096x21x3) a19).trans
      (joints_piece (J := 21) rfl hA s.p1 (by decide) _ _))
    jaw := a21.trans (flat_piece hA s.p2 (by decide) _)
    leye := a22.trans (flat_piece hA s.p3 (by decide) _)
    reye := a23.trans (flat_piece hA s.p4 (by decide) _)
    lhand := a25.trans ((congrArg (fun v => shapeCast S4096x15x3 v shapeCasts_S61440x3_S4096x15x3) a24).trans
      (joints_piece (J := 15) rfl hA s.p5 (by decide) _ _))
    rhand := a27.trans ((congrArg (fun v => shapeCast S4096x15x3 v shapeCasts_S61440x3_S4096x15x3) a26).trans
      (joints_piece (J := 15) rfl hA s.p6 (by decide) _ _)) }

variable (m : (ℓ : Loc nD τ sig) → Buf (Elt Ideal) ℓ) (c : Dev nD)

/-- An argument's contents at its type. -/
abbrev arg {T : BufTy} (x : TRef sig T) : T.Contents (Elt Ideal) := x.ofBuf (m ((c.tc : Thread nD τ).loc x.ref))

/-- The nine results, over the arguments. -/
structure Results : Prop where
  root : val (last m c) (.of main_v18 : TRef sig ⟨S4096x3, .f32⟩) = flat (rows6 (arg m c (.of main_arg0)) (arg m c (.of main_arg10)))
  body : val (last m c) (.of main_v20 : TRef sig ⟨S4096x21x3, .f32⟩) = joints (rows21 (arg m c (.of main_arg1)) (arg m c (.of main_arg10)))
  jaw : val (last m c) (.of main_v21 : TRef sig ⟨S4096x3, .f32⟩) = flat (rows6 (arg m c (.of main_arg2)) (arg m c (.of main_arg10)))
  leye : val (last m c) (.of main_v22 : TRef sig ⟨S4096x3, .f32⟩) = flat (rows6 (arg m c (.of main_arg3)) (arg m c (.of main_arg10)))
  reye : val (last m c) (.of main_v23 : TRef sig ⟨S4096x3, .f32⟩) = flat (rows6 (arg m c (.of main_arg4)) (arg m c (.of main_arg10)))
  lhand : val (last m c) (.of main_v25 : TRef sig ⟨S4096x15x3, .f32⟩) = joints (rows15 (arg m c (.of main_arg5)) (arg m c (.of main_arg10)))
  rhand : val (last m c) (.of main_v27 : TRef sig ⟨S4096x15x3, .f32⟩) = joints (rows15 (arg m c (.of main_arg6)) (arg m c (.of main_arg10)))
  expr : val (last m c) (.of main_v7 : TRef sig ⟨S4096x50, .f32⟩) = rows50 (arg m c (.of main_arg7)) (arg m c (.of main_arg10))
  trans : val (last m c) (.of main_v8 : TRef sig ⟨S4096x3, .f32⟩) = rows3 (arg m c (.of main_arg8)) (arg m c (.of main_arg10))

theorem val_arg {T : BufTy} (x : TRef sig T) (h : pos x.ref < 11) : val (V0 m c) x = arg m c x :=
  congrArg x.ofBuf (V0_arg m c x.ref h)

theorem results : Results m c := by
  have b := before (V0_eqns m c)
  have e : val (last m c) (.of main_v15 : TRef sig ⟨S3x440x512, .f32⟩) = columns (val (V0 m c) (.of main_v14)) :=
    (last_out m c).trans (arr_out m c)
  have u := unstacked (last_eqns m c) (e.trans (congrArg columns b.operand))
  have k (r : Ref sig .tc) (h : pos r < 223) := last_early m c r h
  have a10 := val_arg m c (.of main_arg10 : TRef sig ⟨S4096, .i32⟩) (by decide)
  exact {
    root := u.root.trans (congrArg flat (b.root.trans (congrArg₂ rows6 (val_arg m c _ (by decide)) a10)))
    body := u.body.trans (congrArg joints (b.body.trans (congrArg₂ rows21 (val_arg m c _ (by decide)) a10)))
    jaw := u.jaw.trans (congrArg flat (b.jaw.trans (congrArg₂ rows6 (val_arg m c _ (by decide)) a10)))
    leye := u.leye.trans (congrArg flat (b.leye.trans (congrArg₂ rows6 (val_arg m c _ (by decide)) a10)))
    reye := u.reye.trans (congrArg flat (b.reye.trans (congrArg₂ rows6 (val_arg m c _ (by decide)) a10)))
    lhand := u.lhand.trans (congrArg joints (b.lhand.trans (congrArg₂ rows15 (val_arg m c _ (by decide)) a10)))
    rhand := u.rhand.trans (congrArg joints (b.rhand.trans (congrArg₂ rows15 (val_arg m c _ (by decide)) a10)))
    expr := (last_early m c main_v7 (by decide)).trans (b.expr.trans (congrArg₂ rows50 (val_arg m c _ (by decide)) a10))
    trans := (last_early m c main_v8 (by decide)).trans (b.trans.trans (congrArg₂ rows3 (val_arg m c _ (by decide)) a10)) }

end Cert.KernRun

end
-- ==== Proof.Values.lean ====
/- The kernel program and the reference leave the same nine results. -/
module

public import proofs.«01_k».proof.Defs
public import proofs.«01_k».proof.Proof.KernVal
public import Idealize.ShloMosaic.Lib.Claim

@[expose] public section

noncomputable section

namespace Cert.Values

open Idealize.ShloMosaic Idealize.ShloMosaic.StableHlo Idealize.SL.Sem Cert.Lines
open Cert.RefRun (flat joints rows6 rows21 rows15 rows50 rows3)
open TcCoe

section Kernel
open Cert.KernelIdeal Cert.KernelIdeal.Gen Cert.KernRun
variable (m : (ℓ : Loc nD τ sig) → Buf (Elt Ideal) ℓ) (ρ : Dev nD → PrngReg)

/-- The results at their buffers. -/
def root (c : Dev nD) : Buf (Elt Ideal) ((c.tc : Thread nD τ).loc main_v18) := flat (rows6 (arg m c (.of main_arg0)) (arg m c (.of main_arg10)))
def body (c : Dev nD) : Buf (Elt Ideal) ((c.tc : Thread nD τ).loc main_v20) := joints (rows21 (arg m c (.of main_arg1)) (arg m c (.of main_arg10)))
def jaw (c : Dev nD) : Buf (Elt Ideal) ((c.tc : Thread nD τ).loc main_v21) := flat (rows6 (arg m c (.of main_arg2)) (arg m c (.of main_arg10)))
def leye (c : Dev nD) : Buf (Elt Ideal) ((c.tc : Thread nD τ).loc main_v22) := flat (rows6 (arg m c (.of main_arg3)) (arg m c (.of main_arg10)))
def reye (c : Dev nD) : Buf (Elt Ideal) ((c.tc : Thread nD τ).loc main_v23) := flat (rows6 (arg m c (.of main_arg4)) (arg m c (.of main_arg10)))
def lhand (c : Dev nD) : Buf (Elt Ideal) ((c.tc : Thread nD τ).loc main_v25) := joints (rows15 (arg m c (.of main_arg5)) (arg m c (.of main_arg10)))
def rhand (c : Dev nD) : Buf (Elt Ideal) ((c.tc : Thread nD τ).loc main_v27) := joints (rows15 (arg m c (.of main_arg6)) (arg m c (.of main_arg10)))
def expr (c : Dev nD) : Buf (Elt Ideal) ((c.tc : Thread nD τ).loc main_v7) := rows50 (arg m c (.of main_arg7)) (arg m c (.of main_arg10))
def trans (c : Dev nD) : Buf (Elt Ideal) ((c.tc : Thread nD τ).loc main_v8) := rows3 (arg m c (.of main_arg8)) (arg m c (.of main_arg10))

/-- Every buffer that is no array of the launch ends as the last lines leave it. -/
theorem kernel_run : θ_run (defs (F := Ideal)) (onTc (τ := τ) (main (F := Ideal))) ⟨m, fun _ => 0, ρ⟩ fun r => ∀ (c : Dev nD),
    ∀ b ∈ Pipeline.restRefs sig spec0, r.2.mem ((c.tc : Thread nD τ).loc b) = last m c (Proc.devRef .tc b) :=
  (θ_run defs _ _).mono (fun _ h c b hb => ((h c).2 b hb).trans (last_eq m c b)) (run_main m ρ)

end Kernel

set_option maxRecDepth 65536 in
set_option maxHeartbeats 8000000 in
/-- The two programs' results are equal. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨root m, body m, jaw m, leye m, reye m, lhand m, rhand m, expr m, trans m, ?_, ?_⟩
  · refine (θ_run _ _ _).mono ?_ (θ_run_and (kernel_run m g) (Cert.KernelIdeal.Gen.unchanged m g))
    rintro r ⟨h, hk⟩ c
    have s := Cert.KernRun.results m c
    have q (b : Ref Cert.KernelIdeal.sig .tc) (h1 h2) := h c b (Pipeline.mem_restRefs_of b h1 h2)
    exact ⟨(q _ (by decide) (by decide)).trans s.root, (q _ (by decide) (by decide)).trans s.body, (q _ (by decide) (by decide)).trans s.jaw,
      (q _ (by decide) (by decide)).trans s.leye, (q _ (by decide) (by decide)).trans s.reye, (q _ (by decide) (by decide)).trans s.lhand,
      (q _ (by decide) (by decide)).trans s.rhand, (q _ (by decide) (by decide)).trans s.expr, (q _ (by decide) (by decide)).trans s.trans, hk c⟩
  · refine (θ_run _ _ _).mono ?_ (Cert.RefRun.run m' g')
    intro r h c
    have s := Cert.RefRun.results (Cert.RefRun.eqns m' c)
    have q (b : Ref Cert.ReferenceIdeal.sig .tc) (hb : pos b < 11) := Cert.RefRun.final_arg m' c b hb
    obtain ⟨e0, e1, e2, e3, e4, e5, e6, e7, e8, -, e10⟩ := hm c
    let W := Cert.RefRun.final m' c
    have f0 : val W (.of Cert.ReferenceIdeal.main_arg0 : TRef _ ⟨Cert.ReferenceIdeal.S100000x6, .f32⟩) = Cert.KernRun.arg m c (.of Cert.KernelIdeal.main_arg0) := (q Cert.ReferenceIdeal.main_arg0 (by decide)).trans e0
    have f1 : val W (.of Cert.ReferenceIdeal.main_arg1 : TRef _ ⟨Cert.ReferenceIdeal.S100000x21x6, .f32⟩) = Cert.KernRun.arg m c (.of Cert.KernelIdeal.main_arg1) := (q Cert.ReferenceIdeal.main_arg1 (by decide)).trans e1
    have f2 : val W (.of Cert.ReferenceIdeal.main_arg2 : TRef _ ⟨Cert.ReferenceIdeal.S100000x6, .f32⟩) = Cert.KernRun.arg m c (.of Cert.KernelIdeal.main_arg2) := (q Cert.ReferenceIdeal.main_arg2 (by decide)).trans e2
    have f3 : val W (.of Cert.ReferenceIdeal.main_arg3 : TRef _ ⟨Cert.ReferenceIdeal.S100000x6, .f32⟩) = Cert.KernRun.arg m c (.of Cert.KernelIdeal.main_arg3) := (q Cert.ReferenceIdeal.main_arg3 (by decide)).trans e3
    have f4 : val W (.of Cert.ReferenceIdeal.main_arg4 : TRef _ ⟨Cert.ReferenceIdeal.S100000x6, .f32⟩) = Cert.KernRun.arg m c (.of Cert.KernelIdeal.main_arg4) := (q Cert.ReferenceIdeal.main_arg4 (by decide)).trans e4
    have f5 : val W (.of Cert.ReferenceIdeal.main_arg5 : TRef _ ⟨Cert.ReferenceIdeal.S100000x15x6, .f32⟩) = Cert.KernRun.arg m c (.of Cert.KernelIdeal.main_arg5) := (q Cert.ReferenceIdeal.main_arg5 (by decide)).trans e5
    have f6 : val W (.of Cert.ReferenceIdeal.main_arg6 : TRef _ ⟨Cert.ReferenceIdeal.S100000x15x6, .f32⟩) = Cert.KernRun.arg m c (.of Cert.KernelIdeal.main_arg6) := (q Cert.ReferenceIdeal.main_arg6 (by decide)).trans e6
    have f7 : val W (.of Cert.ReferenceIdeal.main_arg7 : TRef _ ⟨Cert.ReferenceIdeal.S100000x50, .f32⟩) = Cert.KernRun.arg m c (.of Cert.KernelIdeal.main_arg7) := (q Cert.ReferenceIdeal.main_arg7 (by decide)).trans e7
    have f8 : val W (.of Cert.ReferenceIdeal.main_arg8 : TRef _ ⟨Cert.ReferenceIdeal.S100000x3, .f32⟩) = Cert.KernRun.arg m c (.of Cert.KernelIdeal.main_arg8) := (q Cert.ReferenceIdeal.main_arg8 (by decide)).trans e8
    have f10 : val W (.of Cert.ReferenceIdeal.main_arg10 : TRef _ ⟨Cert.ReferenceIdeal.S4096, .i32⟩) = Cert.KernRun.arg m c (.of Cert.KernelIdeal.main_arg10) := (q Cert.ReferenceIdeal.main_arg10 (by decide)).trans e10
    refine ⟨(h c _).trans (s.root.trans (congrArg flat (congrArg₂ rows6 f0 f10))), (h c _).trans (s.body.trans (congrArg joints (congrArg₂ rows21 f1 f10))),
      (h c _).trans (s.jaw.trans (congrArg flat (congrArg₂ rows6 f2 f10))), (h c _).trans (s.leye.trans (congrArg flat (congrArg₂ rows6 f3 f10))),
      (h c _).trans (s.reye.trans (congrArg flat (congrArg₂ rows6 f4 f10))), (h c _).trans (s.lhand.trans (congrArg joints (congrArg₂ rows15 f5 f10))),
      (h c _).trans (s.rhand.trans (congrArg joints (congrArg₂ rows15 f6 f10))), (h c _).trans (s.expr.trans (congrArg₂ rows50 f7 f10)),
      (h c _).trans (s.trans.trans (congrArg₂ rows3 f8 f10)), ?_, ?_, ?_, ?_, ?_, ?_, ?_, ?_, ?_, ?_, ?_⟩ <;>
      exact (h c _).trans (q _ (by decide))

end Cert.Values

end
-- ==== Proof.lean ====
/- The proof of the claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefEnd
public import proofs.«01_k».proof.Proof.Values
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, fun m ρ _ => Cert.RefRun.frame m ρ, trivial, Cert.Values.algebraic⟩

end Cert.Proof

end
